-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Moe [hPre_experts_in_range : Cert.Pre_experts_in_range.Facts] (m : (ℓ : Loc Cert.Moe.nD Cert.Moe.τ Cert.Moe.sig) → Buf (Elt Bits) ℓ) : Prop :=
  ∀ c : Dev Cert.Moe.nD,
    (Cert.Pre_experts_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_experts_in_range : Cert.Pre_experts_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_experts_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_experts_in_range [hPre_experts_in_range : Cert.Pre_experts_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_experts_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_Comb (m : (ℓ : Loc Cert.Comb.nD Cert.Comb.τ Cert.Comb.sig) → Buf (Elt Bits) ℓ) : Prop :=
  True

def Pre_CombIdeal (m : (ℓ : Loc Cert.CombIdeal.nD Cert.CombIdeal.τ Cert.CombIdeal.sig) → Buf (Elt Ideal) ℓ) : Prop :=
  True

def Pre_CombIdeal_rows_in_range [hPre_rows_in_range : Cert.Pre_rows_in_range.Facts] (m : (ℓ : Loc Cert.CombIdeal.nD Cert.CombIdeal.τ Cert.CombIdeal.sig) → Buf (Elt Ideal) ℓ) : Prop :=
  ∀ c : Dev Cert.CombIdeal.nD,
    (Cert.Pre_rows_in_range.fn (F := Ideal) (m ((c.tc : Thread Cert.CombIdeal.nD Cert.CombIdeal.τ).loc Cert.CombIdeal.main_arg0)) (m ((c.tc : Thread Cert.CombIdeal.nD Cert.CombIdeal.τ).loc Cert.CombIdeal.main_arg1)) (m ((c.tc : Thread Cert.CombIdeal.nD Cert.CombIdeal.τ).loc Cert.CombIdeal.main_arg2)) (m ((c.tc : Thread Cert.CombIdeal.nD Cert.CombIdeal.τ).loc Cert.CombIdeal.main_arg3)) (m ((c.tc : Thread Cert.CombIdeal.nD Cert.CombIdeal.τ).loc Cert.CombIdeal.main_arg4)) (m ((c.tc : Thread Cert.CombIdeal.nD Cert.CombIdeal.τ).loc Cert.CombIdeal.main_arg5))) = (fun _ => 1#1)

def Pre_CombRefIdeal (m : (ℓ : Loc Cert.CombRefIdeal.nD Cert.CombRefIdeal.τ Cert.CombRefIdeal.sig) → Buf (Elt Ideal) ℓ) : Prop :=
  True

def Pre_CombRefIdeal_rows_in_range [hPre_rows_in_range : Cert.Pre_rows_in_range.Facts] (m : (ℓ : Loc Cert.CombRefIdeal.nD Cert.CombRefIdeal.τ Cert.CombRefIdeal.sig) → Buf (Elt Ideal) ℓ) : Prop :=
  ∀ c : Dev Cert.CombRefIdeal.nD,
    (Cert.Pre_rows_in_range.fn (F := Ideal) (m ((c.tc : Thread Cert.CombRefIdeal.nD Cert.CombRefIdeal.τ).loc Cert.CombRefIdeal.main_arg0)) (m ((c.tc : Thread Cert.CombRefIdeal.nD Cert.CombRefIdeal.τ).loc Cert.CombRefIdeal.main_arg1)) (m ((c.tc : Thread Cert.CombRefIdeal.nD Cert.CombRefIdeal.τ).loc Cert.CombRefIdeal.main_arg2)) (m ((c.tc : Thread Cert.CombRefIdeal.nD Cert.CombRefIdeal.τ).loc Cert.CombRefIdeal.main_arg3)) (m ((c.tc : Thread Cert.CombRefIdeal.nD Cert.CombRefIdeal.τ).loc Cert.CombRefIdeal.main_arg4)) (m ((c.tc : Thread Cert.CombRefIdeal.nD Cert.CombRefIdeal.τ).loc Cert.CombRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Moe [hMoe : Cert.Moe.Facts] [hPre_experts_in_range : Cert.Pre_experts_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_experts_in_range [hMoeRefIdeal : Cert.MoeRefIdeal.Facts] [hPre_experts_in_range : Cert.Pre_experts_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_experts_in_range m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Comb [hComb : Cert.Comb.Facts] : Prop :=
  ∀ (m : (ℓ : Loc Cert.Comb.nD Cert.Comb.τ Cert.Comb.sig) → Buf (Elt Bits) ℓ) (g : Dev Cert.Comb.nD → PrngReg), Pre_Comb m →
    θ_run (Cert.Comb.defs (F := Bits)) (onTc (τ := Cert.Comb.τ) (Cert.Comb.main (F := Bits))) ⟨m, fun _ => 0, g⟩ (fun r => (∀ c : Dev Cert.Comb.nD,
      r.2.mem ((c.tc : Thread Cert.Comb.nD Cert.Comb.τ).loc Cert.Comb.main_arg0) = m ((c.tc : Thread Cert.Comb.nD Cert.Comb.τ).loc Cert.Comb.main_arg0)
      ∧ r.2.mem ((c.tc : Thread Cert.Comb.nD Cert.Comb.τ).loc Cert.Comb.main_arg1) = m ((c.tc : Thread Cert.Comb.nD Cert.Comb.τ).loc Cert.Comb.main_arg1)
      ∧ r.2.mem ((c.tc : Thread Cert.Comb.nD Cert.Comb.τ).loc Cert.Comb.main_arg2) = m ((c.tc : Thread Cert.Comb.nD Cert.Comb.τ).loc Cert.Comb.main_arg2)
      ∧ r.2.mem ((c.tc : Thread Cert.Comb.nD Cert.Comb.τ).loc Cert.Comb.main_arg3) = m ((c.tc : Thread Cert.Comb.nD Cert.Comb.τ).loc Cert.Comb.main_arg3)
      ∧ r.2.mem ((c.tc : Thread Cert.Comb.nD Cert.Comb.τ).loc Cert.Comb.main_arg4) = m ((c.tc : Thread Cert.Comb.nD Cert.Comb.τ).loc Cert.Comb.main_arg4)
      ∧ r.2.mem ((c.tc : Thread Cert.Comb.nD Cert.Comb.τ).loc Cert.Comb.main_arg5) = m ((c.tc : Thread Cert.Comb.nD Cert.Comb.τ).loc Cert.Comb.main_arg5))
      ∧ r.2.sem = fun _ => 0)

def quiescent_CombIdeal [hCombIdeal : Cert.CombIdeal.Facts] : Prop :=
  ∀ (m : (ℓ : Loc Cert.CombIdeal.nD Cert.CombIdeal.τ Cert.CombIdeal.sig) → Buf (Elt Ideal) ℓ) (g : Dev Cert.CombIdeal.nD → PrngReg), Pre_CombIdeal m →
    θ_run (Cert.CombIdeal.defs (F := Ideal)) (onTc (τ := Cert.CombIdeal.τ) (Cert.CombIdeal.main (F := Ideal))) ⟨m, fun _ => 0, g⟩ (fun r => (∀ c : Dev Cert.CombIdeal.nD,
      r.2.mem ((c.tc : Thread Cert.CombIdeal.nD Cert.CombIdeal.τ).loc Cert.CombIdeal.main_arg0) = m ((c.tc : Thread Cert.CombIdeal.nD Cert.CombIdeal.τ).loc Cert.CombIdeal.main_arg0)
      ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
      ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
      ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
      ∧ r.2.mem ((c.tc : Thread Cert.CombIdeal.nD Cert.CombIdeal.τ).loc Cert.CombIdeal.main_arg4) = m ((c.tc : Thread Cert.CombIdeal.nD Cert.CombIdeal.τ).loc Cert.CombIdeal.main_arg4)
      ∧ r.2.mem ((c.tc : Thread Cert.CombIdeal.nD Cert.CombIdeal.τ).loc Cert.CombIdeal.main_arg5) = m ((c.tc : Thread Cert.CombIdeal.nD Cert.CombIdeal.τ).loc Cert.CombIdeal.main_arg5))
      ∧ r.2.sem = fun _ => 0)

def quiescent_CombIdeal_pre_rows_in_range [hCombIdeal : Cert.CombIdeal.Facts] [hPre_rows_in_range : Cert.Pre_rows_in_range.Facts] : Prop :=
  ∀ (m : (ℓ : Loc Cert.CombIdeal.nD Cert.CombIdeal.τ Cert.CombIdeal.sig) → Buf (Elt Ideal) ℓ) (g : Dev Cert.CombIdeal.nD → PrngReg), Pre_CombIdeal_rows_in_range m →
    θ_run (Cert.CombIdeal.defs (F := Ideal)) (onTc (τ := Cert.CombIdeal.τ) (Cert.CombIdeal.main (F := Ideal))) ⟨m, fun _ => 0, g⟩ (fun r => (∀ c : Dev Cert.CombIdeal.nD,
      r.2.mem ((c.tc : Thread Cert.CombIdeal.nD Cert.CombIdeal.τ).loc Cert.CombIdeal.main_arg0) = m ((c.tc : Thread Cert.CombIdeal.nD Cert.CombIdeal.τ).loc Cert.CombIdeal.main_arg0)
      ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
      ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
      ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
      ∧ r.2.mem ((c.tc : Thread Cert.CombIdeal.nD Cert.CombIdeal.τ).loc Cert.CombIdeal.main_arg4) = m ((c.tc : Thread Cert.CombIdeal.nD Cert.CombIdeal.τ).loc Cert.CombIdeal.main_arg4)
      ∧ r.2.mem ((c.tc : Thread Cert.CombIdeal.nD Cert.CombIdeal.τ).loc Cert.CombIdeal.main_arg5) = m ((c.tc : Thread Cert.CombIdeal.nD Cert.CombIdeal.τ).loc Cert.CombIdeal.main_arg5))
      ∧ r.2.sem = fun _ => 0)

def quiescent_CombRefIdeal [hCombRefIdeal : Cert.CombRefIdeal.Facts] : Prop :=
  ∀ (m : (ℓ : Loc Cert.CombRefIdeal.nD Cert.CombRefIdeal.τ Cert.CombRefIdeal.sig) → Buf (Elt Ideal) ℓ) (g : Dev Cert.CombRefIdeal.nD → PrngReg), Pre_CombRefIdeal m →
    θ_run (Cert.CombRefIdeal.defs (F := Ideal)) (onTc (τ := Cert.CombRefIdeal.τ) (Cert.CombRefIdeal.main (F := Ideal))) ⟨m, fun _ => 0, g⟩ (fun r => (∀ c : Dev Cert.CombRefIdeal.nD,
      r.2.mem ((c.tc : Thread Cert.CombRefIdeal.nD Cert.CombRefIdeal.τ).loc Cert.CombRefIdeal.main_arg0) = m ((c.tc : Thread Cert.CombRefIdeal.nD Cert.CombRefIdeal.τ).loc Cert.CombRefIdeal.main_arg0)
      ∧ r.2.mem ((c.tc : Thread Cert.CombRefIdeal.nD Cert.CombRefIdeal.τ).loc Cert.CombRefIdeal.main_arg1) = m ((c.tc : Thread Cert.CombRefIdeal.nD Cert.CombRefIdeal.τ).loc Cert.CombRefIdeal.main_arg1)
      ∧ r.2.mem ((c.tc : Thread Cert.CombRefIdeal.nD Cert.CombRefIdeal.τ).loc Cert.CombRefIdeal.main_arg2) = m ((c.tc : Thread Cert.CombRefIdeal.nD Cert.CombRefIdeal.τ).loc Cert.CombRefIdeal.main_arg2)
      ∧ r.2.mem ((c.tc : Thread Cert.CombRefIdeal.nD Cert.CombRefIdeal.τ).loc Cert.CombRefIdeal.main_arg3) = m ((c.tc : Thread Cert.CombRefIdeal.nD Cert.CombRefIdeal.τ).loc Cert.CombRefIdeal.main_arg3)
      ∧ r.2.mem ((c.tc : Thread Cert.CombRefIdeal.nD Cert.CombRefIdeal.τ).loc Cert.CombRefIdeal.main_arg4) = m ((c.tc : Thread Cert.CombRefIdeal.nD Cert.CombRefIdeal.τ).loc Cert.CombRefIdeal.main_arg4)
      ∧ r.2.mem ((c.tc : Thread Cert.CombRefIdeal.nD Cert.CombRefIdeal.τ).loc Cert.CombRefIdeal.main_arg5) = m ((c.tc : Thread Cert.CombRefIdeal.nD Cert.CombRefIdeal.τ).loc Cert.CombRefIdeal.main_arg5))
      ∧ r.2.sem = fun _ => 0)

def quiescent_CombRefIdeal_pre_rows_in_range [hCombRefIdeal : Cert.CombRefIdeal.Facts] [hPre_rows_in_range : Cert.Pre_rows_in_range.Facts] : Prop :=
  ∀ (m : (ℓ : Loc Cert.CombRefIdeal.nD Cert.CombRefIdeal.τ Cert.CombRefIdeal.sig) → Buf (Elt Ideal) ℓ) (g : Dev Cert.CombRefIdeal.nD → PrngReg), Pre_CombRefIdeal_rows_in_range m →
    θ_run (Cert.CombRefIdeal.defs (F := Ideal)) (onTc (τ := Cert.CombRefIdeal.τ) (Cert.CombRefIdeal.main (F := Ideal))) ⟨m, fun _ => 0, g⟩ (fun r => (∀ c : Dev Cert.CombRefIdeal.nD,
      r.2.mem ((c.tc : Thread Cert.CombRefIdeal.nD Cert.CombRefIdeal.τ).loc Cert.CombRefIdeal.main_arg0) = m ((c.tc : Thread Cert.CombRefIdeal.nD Cert.CombRefIdeal.τ).loc Cert.CombRefIdeal.main_arg0)
      ∧ r.2.mem ((c.tc : Thread Cert.CombRefIdeal.nD Cert.CombRefIdeal.τ).loc Cert.CombRefIdeal.main_arg1) = m ((c.tc : Thread Cert.CombRefIdeal.nD Cert.CombRefIdeal.τ).loc Cert.CombRefIdeal.main_arg1)
      ∧ r.2.mem ((c.tc : Thread Cert.CombRefIdeal.nD Cert.CombRefIdeal.τ).loc Cert.CombRefIdeal.main_arg2) = m ((c.tc : Thread Cert.CombRefIdeal.nD Cert.CombRefIdeal.τ).loc Cert.CombRefIdeal.main_arg2)
      ∧ r.2.mem ((c.tc : Thread Cert.CombRefIdeal.nD Cert.CombRefIdeal.τ).loc Cert.CombRefIdeal.main_arg3) = m ((c.tc : Thread Cert.CombRefIdeal.nD Cert.CombRefIdeal.τ).loc Cert.CombRefIdeal.main_arg3)
      ∧ r.2.mem ((c.tc : Thread Cert.CombRefIdeal.nD Cert.CombRefIdeal.τ).loc Cert.CombRefIdeal.main_arg4) = m ((c.tc : Thread Cert.CombRefIdeal.nD Cert.CombRefIdeal.τ).loc Cert.CombRefIdeal.main_arg4)
      ∧ r.2.mem ((c.tc : Thread Cert.CombRefIdeal.nD Cert.CombRefIdeal.τ).loc Cert.CombRefIdeal.main_arg5) = m ((c.tc : Thread Cert.CombRefIdeal.nD Cert.CombRefIdeal.τ).loc Cert.CombRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v10_0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10_0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v46) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Moe_MoeIdeal : Prop :=
  True

def algebraic_MoeIdeal_MoeRefIdeal [hMoeIdeal : Cert.MoeIdeal.Facts] [hMoeRefIdeal : Cert.MoeRefIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v36) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Comb_CombIdeal : Prop :=
  True

def algebraic_CombIdeal_CombRefIdeal_pre_rows_in_range [hCombIdeal : Cert.CombIdeal.Facts] [hCombRefIdeal : Cert.CombRefIdeal.Facts] [hPre_rows_in_range : Cert.Pre_rows_in_range.Facts] : Prop :=
  ∀ (m : (ℓ : Loc Cert.CombIdeal.nD Cert.CombIdeal.τ Cert.CombIdeal.sig) → Buf (Elt Ideal) ℓ) (g : Dev Cert.CombIdeal.nD → PrngReg)
    (m' : (ℓ : Loc Cert.CombRefIdeal.nD Cert.CombRefIdeal.τ Cert.CombRefIdeal.sig) → Buf (Elt Ideal) ℓ) (g' : Dev Cert.CombRefIdeal.nD → PrngReg), Pre_CombIdeal_rows_in_range m →
    (∀ c : Dev Cert.CombIdeal.nD,
      m' ((c.tc : Thread Cert.CombRefIdeal.nD Cert.CombRefIdeal.τ).loc Cert.CombRefIdeal.main_arg0) = m ((c.tc : Thread Cert.CombIdeal.nD Cert.CombIdeal.τ).loc Cert.CombIdeal.main_arg0)
      ∧ m' ((c.tc : Thread Cert.CombRefIdeal.nD Cert.CombRefIdeal.τ).loc Cert.CombRefIdeal.main_arg1) = m ((c.tc : Thread Cert.CombIdeal.nD Cert.CombIdeal.τ).loc Cert.CombIdeal.main_arg1)
      ∧ m' ((c.tc : Thread Cert.CombRefIdeal.nD Cert.CombRefIdeal.τ).loc Cert.CombRefIdeal.main_arg2) = m ((c.tc : Thread Cert.CombIdeal.nD Cert.CombIdeal.τ).loc Cert.CombIdeal.main_arg2)
      ∧ m' ((c.tc : Thread Cert.CombRefIdeal.nD Cert.CombRefIdeal.τ).loc Cert.CombRefIdeal.main_arg3) = m ((c.tc : Thread Cert.CombIdeal.nD Cert.CombIdeal.τ).loc Cert.CombIdeal.main_arg3)
      ∧ m' ((c.tc : Thread Cert.CombRefIdeal.nD Cert.CombRefIdeal.τ).loc Cert.CombRefIdeal.main_arg4) = m ((c.tc : Thread Cert.CombIdeal.nD Cert.CombIdeal.τ).loc Cert.CombIdeal.main_arg4)
      ∧ m' ((c.tc : Thread Cert.CombRefIdeal.nD Cert.CombRefIdeal.τ).loc Cert.CombRefIdeal.main_arg5) = m ((c.tc : Thread Cert.CombIdeal.nD Cert.CombIdeal.τ).loc Cert.CombIdeal.main_arg5)) →
    ∃ (v0 : (c : Dev Cert.CombIdeal.nD) → Buf (Elt Ideal) ((c.tc : Thread Cert.CombIdeal.nD Cert.CombIdeal.τ).loc Cert.CombIdeal.main_v10)),
      θ_run (Cert.CombIdeal.defs (F := Ideal)) (onTc (τ := Cert.CombIdeal.τ) (Cert.CombIdeal.main (F := Ideal))) ⟨m, fun _ => 0, g⟩ (fun r => ∀ c : Dev Cert.CombIdeal.nD,
          r.2.mem ((c.tc : Thread Cert.CombIdeal.nD Cert.CombIdeal.τ).loc Cert.CombIdeal.main_v10) = v0 c
          ∧ r.2.mem ((c.tc : Thread Cert.CombIdeal.nD Cert.CombIdeal.τ).loc Cert.CombIdeal.main_arg0) = m ((c.tc : Thread Cert.CombIdeal.nD Cert.CombIdeal.τ).loc Cert.CombIdeal.main_arg0)
          ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
          ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
          ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
          ∧ r.2.mem ((c.tc : Thread Cert.CombIdeal.nD Cert.CombIdeal.τ).loc Cert.CombIdeal.main_arg4) = m ((c.tc : Thread Cert.CombIdeal.nD Cert.CombIdeal.τ).loc Cert.CombIdeal.main_arg4)
          ∧ r.2.mem ((c.tc : Thread Cert.CombIdeal.nD Cert.CombIdeal.τ).loc Cert.CombIdeal.main_arg5) = m ((c.tc : Thread Cert.CombIdeal.nD Cert.CombIdeal.τ).loc Cert.CombIdeal.main_arg5))
      ∧ θ_run (Cert.CombRefIdeal.defs (F := Ideal)) (onTc (τ := Cert.CombRefIdeal.τ) (Cert.CombRefIdeal.main (F := Ideal))) ⟨m', fun _ => 0, g'⟩ (fun r => ∀ c : Dev Cert.CombRefIdeal.nD,
          r.2.mem ((c.tc : Thread Cert.CombRefIdeal.nD Cert.CombRefIdeal.τ).loc Cert.CombRefIdeal.main_v53) = v0 c
          ∧ r.2.mem ((c.tc : Thread Cert.CombRefIdeal.nD Cert.CombRefIdeal.τ).loc Cert.CombRefIdeal.main_arg0) = m' ((c.tc : Thread Cert.CombRefIdeal.nD Cert.CombRefIdeal.τ).loc Cert.CombRefIdeal.main_arg0)
          ∧ r.2.mem ((c.tc : Thread Cert.CombRefIdeal.nD Cert.CombRefIdeal.τ).loc Cert.CombRefIdeal.main_arg1) = m' ((c.tc : Thread Cert.CombRefIdeal.nD Cert.CombRefIdeal.τ).loc Cert.CombRefIdeal.main_arg1)
          ∧ r.2.mem ((c.tc : Thread Cert.CombRefIdeal.nD Cert.CombRefIdeal.τ).loc Cert.CombRefIdeal.main_arg2) = m' ((c.tc : Thread Cert.CombRefIdeal.nD Cert.CombRefIdeal.τ).loc Cert.CombRefIdeal.main_arg2)
          ∧ r.2.mem ((c.tc : Thread Cert.CombRefIdeal.nD Cert.CombRefIdeal.τ).loc Cert.CombRefIdeal.main_arg3) = m' ((c.tc : Thread Cert.CombRefIdeal.nD Cert.CombRefIdeal.τ).loc Cert.CombRefIdeal.main_arg3)
          ∧ r.2.mem ((c.tc : Thread Cert.CombRefIdeal.nD Cert.CombRefIdeal.τ).loc Cert.CombRefIdeal.main_arg4) = m' ((c.tc : Thread Cert.CombRefIdeal.nD Cert.CombRefIdeal.τ).loc Cert.CombRefIdeal.main_arg4)
          ∧ r.2.mem ((c.tc : Thread Cert.CombRefIdeal.nD Cert.CombRefIdeal.τ).loc Cert.CombRefIdeal.main_arg5) = m' ((c.tc : Thread Cert.CombRefIdeal.nD Cert.CombRefIdeal.τ).loc Cert.CombRefIdeal.main_arg5))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hMoe : Cert.Moe.Facts) (hMoeIdeal : Cert.MoeIdeal.Facts) (hMoeRefIdeal : Cert.MoeRefIdeal.Facts) (hComb : Cert.Comb.Facts) (hCombIdeal : Cert.CombIdeal.Facts) (hCombRefIdeal : Cert.CombRefIdeal.Facts) (hPre_experts_in_range : Cert.Pre_experts_in_range.Facts) (hPre_rows_in_range : Cert.Pre_rows_in_range.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Moe (hMoe := hMoe) (hPre_experts_in_range := hPre_experts_in_range)
    ∧ quiescent_MoeIdeal (hMoeIdeal := hMoeIdeal) (hPre_experts_in_range := hPre_experts_in_range)
    ∧ quiescent_MoeRefIdeal (hMoeRefIdeal := hMoeRefIdeal)
    ∧ quiescent_MoeRefIdeal_pre_experts_in_range (hMoeRefIdeal := hMoeRefIdeal) (hPre_experts_in_range := hPre_experts_in_range)
    ∧ quiescent_Comb (hComb := hComb)
    ∧ quiescent_CombIdeal (hCombIdeal := hCombIdeal)
    ∧ quiescent_CombIdeal_pre_rows_in_range (hCombIdeal := hCombIdeal) (hPre_rows_in_range := hPre_rows_in_range)
    ∧ quiescent_CombRefIdeal (hCombRefIdeal := hCombRefIdeal)
    ∧ quiescent_CombRefIdeal_pre_rows_in_range (hCombRefIdeal := hCombRefIdeal) (hPre_rows_in_range := hPre_rows_in_range)
    ∧ preserves_Kernel_KernelIdeal
    ∧ algebraic_KernelIdeal_ReferenceIdeal (hKernelIdeal := hKernelIdeal) (hReferenceIdeal := hReferenceIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Moe_MoeIdeal
    ∧ algebraic_MoeIdeal_MoeRefIdeal (hMoeIdeal := hMoeIdeal) (hMoeRefIdeal := hMoeRefIdeal) (hPre_experts_in_range := hPre_experts_in_range)
    ∧ preserves_Comb_CombIdeal
    ∧ algebraic_CombIdeal_CombRefIdeal_pre_rows_in_range (hCombIdeal := hCombIdeal) (hCombRefIdeal := hCombRefIdeal) (hPre_rows_in_range := hPre_rows_in_range)
-- ==== Pre_experts_in_range.lean ====
abbrev S160 : Shape := ⟨1, ![160]⟩
abbrev S1 : Shape := ⟨1, ![1]⟩
abbrev S40960x2048 : Shape := ⟨2, ![40960, 2048]⟩
abbrev S32x2048x1024 : Shape := ⟨3, ![32, 2048, 1024]⟩
abbrev S32x1024x2048 : Shape := ⟨3, ![32, 1024, 2048]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel

variable [Facts]

def fn {F : FTy → Type} [FloatOps F] (main_arg0 : IVec S160 32) (main_arg1 : IVec S1 32) (main_arg2 : FVec F S40960x2048 .f32) (main_arg3 : FVec F S32x2048x1024 .bf16) (main_arg4 : FVec F S32x2048x1024 .bf16) (main_arg5 : FVec F S32x1024x2048 .bf16) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 1 := constantI S_ 1 1#1
  let main_v2 : IVec S_ 1 := (fun x v => Host.reduce IntOp.andi x v reducesTo_S160_S_d0 h_S_) main_v1 main_c_0
  let main_c_1 : IVec S_ 32 := constantI S_ 32 32#32
  let main_v3 : IVec S160 32 := broadcastInDim S160 ![] bcast_S_S160 main_c_1
  let main_v4 : IVec S160 1 := cmpi .slt main_arg0 main_v3
  let main_c_2 : IVec S_ 1 := constantI S_ 1 1#1
  let main_v5 : IVec S_ 1 := (fun x v => Host.reduce IntOp.andi x v reducesTo_S160_S_d0 h_S_) main_v4 main_c_2
  let main_v6 : IVec S_ 1 := andi main_v2 main_v5
  main_v6
-- ==== Pre_rows_in_range.lean ====
abbrev S16384x2048 : Shape := ⟨2, ![16384, 2048]⟩
abbrev S40960x2048 : Shape := ⟨2, ![40960, 2048]⟩
abbrev S16384x2 : Shape := ⟨2, ![16384, 2]⟩
abbrev S16384x128 : Shape := ⟨2, ![16384, 128]⟩
abbrev S1x2048 : Shape := ⟨2, ![1, 2048]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : FVec F S16384x2048 .f32) (main_arg1 : FVec F S40960x2048 .f32) (main_arg2 : IVec S16384x2 32) (main_arg3 : FVec F S16384x128 .f32) (main_arg4 : FVec F S1x2048 .f32) (main_arg5 : FVec F S1x2048 .f32) : IVec S_ 1 :=
  let main_c : IVec S_ 32 := constantI S_ 32 0#32
  let main_v0 : IVec S16384x2 32 := broadcastInDim S16384x2 ![] bcast_S_S16384x2 main_c
  let main_v1 : IVec S16384x2 1 := cmpi .sge main_arg2 main_v0
  let main_c_0 : IVec S_ 1 := constantI S_ 1 1#1
  let main_v2 : IVec S_ 1 := (fun x v => Host.reduce IntOp.andi x v reducesTo_S16384x2_S_d0_1 h_S_) main_v1 main_c_0
  let main_c_1 : IVec S_ 32 := constantI S_ 32 40960#32
  let main_v3 : IVec S16384x2 32 := broadcastInDim S16384x2 ![] bcast_S_S16384x2 main_c_1
  let main_v4 : IVec S16384x2 1 := cmpi .slt main_arg2 main_v3
  let main_c_2 : IVec S_ 1 := constantI S_ 1 1#1
  let main_v5 : IVec S_ 1 := (fun x v => Host.reduce IntOp.andi x v reducesTo_S16384x2_S_d0_1 h_S_) main_v4 main_c_2
  let main_v6 : IVec S_ 1 := andi main_v2 main_v5
  main_v6
-- ==== Kernel.lean ====
abbrev S16384x12288 : Shape := ⟨2, ![16384, 12288]⟩
abbrev S2x1024 : Shape := ⟨2, ![2, 1024]⟩
abbrev S1x1024 : Shape := ⟨2, ![1, 1024]⟩
abbrev S16384x1024 : Shape := ⟨2, ![16384, 1024]⟩
abbrev S512x1024 : Shape := ⟨2, ![512, 1024]⟩
abbrev S8x128x128 : Shape := ⟨3, ![8, 128, 128]⟩
abbrev S1024 : Shape := ⟨1, ![1024]⟩
abbrev S64x64 : Shape := ⟨2, ![64, 64]⟩
abbrev S1x128 : Shape := ⟨2, ![1, 128]⟩
abbrev S64x128 : Shape := ⟨2, ![64, 128]⟩
abbrev S1x128x128 : Shape := ⟨3, ![1, 128, 128]⟩
abbrev S128x128 : Shape := ⟨2, ![128, 128]⟩
abbrev S64 : Shape := ⟨1, ![64]⟩
abbrev S64x1 : Shape := ⟨2, ![64, 1]⟩

abbrev nBuf : Space → Nat
  | .hbm => 4
  | .vmem => 13
  | .smem => 0
  | _ => 0

abbrev bufTy : (tb : Table) → Fin (tcTables nBuf tb) → BufTy
  | .hbm, ⟨0, _⟩ => ⟨S16384x12288, .f32⟩
  | .hbm, ⟨1, _⟩ => ⟨S2x1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S2x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x128x128, .f32⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_5 : BitVec 32 := 0#32
  let c8_i32 : BitVec 32 := 8#32
  let v20 : BitVec 32 := Scalar.addi c0_i32_5 c8_i32
  let c1_i32 : BitVec 32 := 1#32
  ⟨c0_i32_5, v20, c1_i32⟩
def k0_mult1 (k0_t1 : Fin k0_t1_loop.trips) : BitVec 32 :=
  let c0_i32_5 : BitVec 32 := 0#32
  let c1_i32 : BitVec 32 := 1#32
  let arg10 : BitVec 32 := Scf.iv c0_i32_5 c1_i32 k0_t1
  let c64_i32 : BitVec 32 := 64#32
  let v21 : BitVec 32 := Scalar.muli arg10 c64_i32
  v21
def k0_off1 (k0_t1 : Fin k0_t1_loop.trips) : Fin 2 → Nat :=
  let c0_i32_5 : BitVec 32 := 0#32
  let c1_i32 : BitVec 32 := 1#32
  let arg10 : BitVec 32 := Scf.iv c0_i32_5 c1_i32 k0_t1
  let c64_i32 : BitVec 32 := 64#32
  let v21 : BitVec 32 := Scalar.muli arg10 c64_i32
  let v22 : BitVec 32 := v21
  let v26 : Index := Scalar.indexCast v22
  let c0_8 : Index := 0#32
  ![v26.toNat, 0]
def k0_off2 (k0_t1 : Fin k0_t1_loop.trips) : Fin 2 → Nat :=
  let c0_i32_5 : BitVec 32 := 0#32
  let c1_i32 : BitVec 32 := 1#32
  let arg10 : BitVec 32 := Scf.iv c0_i32_5 c1_i32 k0_t1
  let c64_i32 : BitVec 32 := 64#32
  let v21 : BitVec 32 := Scalar.muli arg10 c64_i32
  let v22 : BitVec 32 := v21
  let v123 : Index := Scalar.indexCast v22
  let c128 : Index := 128#32
  ![v123.toNat, 128]
def k0_off3 (k0_t1 : Fin k0_t1_loop.trips) : Fin 2 → Nat :=
  let c0_i32_5 : BitVec 32 := 0#32
  let c1_i32 : BitVec 32 := 1#32
  let arg10 : BitVec 32 := Scf.iv c0_i32_5 c1_i32 k0_t1
  let c64_i32 : BitVec 32 := 64#32
  let v21 : BitVec 32 := Scalar.muli arg10 c64_i32
  let v22 : BitVec 32 := v21
  let v220 : Index := Scalar.indexCast v22
  let c256 : Index := 256#32
  ![v220.toNat, 256]
def k0_off4 (k0_t1 : Fin k0_t1_loop.trips) : Fin 2 → Nat :=
  let c0_i32_5 : BitVec 32 := 0#32
  let c1_i32 : BitVec 32 := 1#32
  let arg10 : BitVec 32 := Scf.iv c0_i32_5 c1_i32 k0_t1
  let c64_i32 : BitVec 32 := 64#32
  let v21 : BitVec 32 := Scalar.muli arg10 c64_i32
  let v22 : BitVec 32 := v21
  let v317 : Index := Scalar.indexCast v22
  let c384 : Index := 384#32
  ![v317.toNat, 384]
def k0_off5 (k0_t1 : Fin k0_t1_loop.trips) : Fin 2 → Nat :=
  let c0_i32_5 : BitVec 32 := 0#32
  let c1_i32 : BitVec 32 := 1#32
  let arg10 : BitVec 32 := Scf.iv c0_i32_5 c1_i32 k0_t1
  let c64_i32 : BitVec 32 := 64#32
  let v21 : BitVec 32 := Scalar.muli arg10 c64_i32
  let v22 : BitVec 32 := v21
  let v414 : Index := Scalar.indexCast v22
  let c512 : Index := 512#32
  ![v414.toNat, 512]
def k0_off6 (k0_t1 : Fin k0_t1_loop.trips) : Fin 2 → Nat :=
  let c0_i32_5 : BitVec 32 := 0#32
  let c1_i32 : BitVec 32 := 1#32
  let arg10 : BitVec 32 := Scf.iv c0_i32_5 c1_i32 k0_t1
  let c64_i32 : BitVec 32 := 64#32
  let v21 : BitVec 32 := Scalar.muli arg10 c64_i32
  let v22 : BitVec 32 := v21
  let v511 : Index := Scalar.indexCast v22
  let c640 : Index := 640#32
  ![v511.toNat, 640]
def k0_off7 (k0_t1 : Fin k0_t1_loop.trips) : Fin 2 → Nat :=
  let c0_i32_5 : BitVec 32 := 0#32
  let c1_i32 : BitVec 32 := 1#32
  let arg10 : BitVec 32 := Scf.iv c0_i32_5 c1_i32 k0_t1
  let c64_i32 : BitVec 32 := 64#32
  let v21 : BitVec 32 := Scalar.muli arg10 c64_i32
  let v22 : BitVec 32 := v21
  let v608 : Index := Scalar.indexCast v22
  let c768 : Index := 768#32
  ![v608.toNat, 768]
def k0_off8 (k0_t1 : Fin k0_t1_loop.trips) : Fin 2 → Nat :=
  let c0_i32_5 : BitVec 32 := 0#32
  let c1_i32 : BitVec 32 := 1#32
  let arg10 : BitVec 32 := Scf.iv c0_i32_5 c1_i32 k0_t1
  let c64_i32 : BitVec 32 := 64#32
  let v21 : BitVec 32 := Scalar.muli arg10 c64_i32
  let v22 : BitVec 32 := v21
  let v705 : Index := Scalar.indexCast v22
  let c896 : Index := 896#32
  ![v705.toNat, 896]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c7_i32 : BitVec 32 := 7#32
  let c0_i32 : BitVec 32 := 0#32
  ![v1.toNat, c7_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16384x12288 : Shape := ⟨2, ![16384, 12288]⟩
abbrev S2x1024 : Shape := ⟨2, ![2, 1024]⟩
abbrev S1x1024 : Shape := ⟨2, ![1, 1024]⟩
abbrev S16384x1024 : Shape := ⟨2, ![16384, 1024]⟩
abbrev S2x8192x1024 : Shape := ⟨3, ![2, 8192, 1024]⟩
abbrev S_ : Shape := ⟨0, ![]⟩
abbrev S1024 : Shape := ⟨1, ![1024]⟩
abbrev S1x1x1024 : Shape := ⟨3, ![1, 1, 1024]⟩
abbrev S2x128x64x8x128 : Shape := ⟨5, ![2, 128, 64, 8, 128]⟩
abbrev S2x128x1x8x128 : Shape := ⟨5, ![2, 128, 1, 8, 128]⟩
abbrev S64x64 : Shape := ⟨2, ![64, 64]⟩
abbrev S2x128x8x64x64 : Shape := ⟨5, ![2, 128, 8, 64, 64]⟩
abbrev S2x128x8x128x64 : Shape := ⟨5, ![2, 128, 8, 128, 64]⟩
abbrev S2x128x8x128x128 : Shape := ⟨5, ![2, 128, 8, 128, 128]⟩
abbrev S2x128x8x128 : Shape := ⟨4, ![2, 128, 8, 128]⟩
abbrev S2x8x128x128 : Shape := ⟨4, ![2, 8, 128, 128]⟩
abbrev S128x2x8x128 : Shape := ⟨4, ![128, 2, 8, 128]⟩
abbrev S128x2x8x128x128 : Shape := ⟨5, ![128, 2, 8, 128, 128]⟩
abbrev S1x2x8x128 : Shape := ⟨4, ![1, 2, 8, 128]⟩
abbrev S2x8x128 : Shape := ⟨3, ![2, 8, 128]⟩
abbrev S1x2x8x128x128 : Shape := ⟨5, ![1, 2, 8, 128, 128]⟩
abbrev S2x8x128x1 : Shape := ⟨4, ![2, 8, 128, 1]⟩
abbrev S2x128x64x8 : Shape := ⟨4, ![2, 128, 64, 8]⟩
abbrev S2x128x64x8x1 : Shape := ⟨5, ![2, 128, 64, 8, 1]⟩

abbrev nBuf : Space → Nat
  | .hbm => 169
  | .vmem => 0
  | .smem => 0
  | _ => 0

abbrev hbmTy0_0 (i : Nat) : BufTy := match i % 128 with
  | 0 => ⟨S16384x12288, .f32⟩
  | 1 => ⟨S2x1024, .f32⟩
  | 2 => ⟨S1x1024, .f32⟩
  | 3 => ⟨S16384x1024, .f32⟩
  | 4 => ⟨S2x8192x1024, .f32⟩
  | 5 => ⟨S16384x1024, .f32⟩
  | 6 => ⟨S2x8192x1024, .f32⟩
  | 7 => ⟨S16384x1024, .f32⟩
  | 8 => ⟨S2x8192x1024, .f32⟩
  | 9 => ⟨S16384x1024, .f32⟩
  | 10 => ⟨S2x8192x1024, .f32⟩
  | 11 => ⟨S_, .f32⟩
  | 12 => ⟨S1024, .f32⟩
  | 13 => ⟨S_, .f32⟩
  | 14 => ⟨S1024, .f32⟩
  | 15 => ⟨S1024, .f32⟩
  | 16 => ⟨S1x1024, .f32⟩
  | 17 => ⟨S2x1024, .f32⟩
  | 18 => ⟨S2x1024, .f32⟩
  | 19 => ⟨S2x1024, .f32⟩
  | 20 => ⟨S_, .f32⟩
  | 21 => ⟨S1024, .f32⟩
  | 22 => ⟨S1x1024, .f32⟩
  | 23 => ⟨S2x1024, .f32⟩
  | 24 => ⟨S2x1024, .f32⟩
  | 25 => ⟨S_, .f32⟩
  | 26 => ⟨S_, .f32⟩
  | 27 => ⟨S2x1024, .f32⟩
  | 28 => ⟨S1x1024, .f32⟩
  | 29 => ⟨S1024, .f32⟩
  | 30 => ⟨S_, .f32⟩
  | 31 => ⟨S1024, .f32⟩
  | 32 => ⟨S1024, .f32⟩
  | 33 => ⟨S2x8192x1024, .f32⟩
  | 34 => ⟨S2x8192x1024, .f32⟩
  | 35 => ⟨S_, .f32⟩
  | 36 => ⟨S2x8192x1024, .f32⟩
  | 37 => ⟨S2x8192x1024, .f32⟩
  | 38 => ⟨S_, .f32⟩
  | 39 => ⟨S2x8192x1024, .f32⟩
  | 40 => ⟨S2x8192x1024, .f32⟩
  | 41 => ⟨S1x1x1024, .f32⟩
  | 42 => ⟨S2x8192x1024, .f32⟩
  | 43 => ⟨S2x8192x1024, .f32⟩
  | 44 => ⟨S1x1x1024, .f32⟩
  | 45 => ⟨S2x8192x1024, .f32⟩
  | 46 => ⟨S2x8192x1024, .f32⟩
  | 47 => ⟨S2x8192x1024, .f32⟩
  | 48 => ⟨S2x8192x1024, .f32⟩
  | 49 => ⟨S_, .f32⟩
  | 50 => ⟨S2x8192x1024, .f32⟩
  | 51 => ⟨S2x8192x1024, .f32⟩
  | 52 => ⟨S_, .f32⟩
  | 53 => ⟨S2x8192x1024, .f32⟩
  | 54 => ⟨S2x8192x1024, .f32⟩
  | 55 => ⟨S2x8192x1024, .f32⟩
  | 56 => ⟨S2x128x64x8x128, .f32⟩
  | 57 => ⟨S_, .f32⟩
  | 58 => ⟨S2x8192x1024, .f32⟩
  | 59 => ⟨S2x8192x1024, .f32⟩
  | 60 => ⟨S2x128x64x8x128, .f32⟩
  | 61 => ⟨S2x128x64x8x128, .f32⟩
  | 62 => ⟨S2x8192x1024, .f32⟩
  | 63 => ⟨S2x128x64x8x128, .f32⟩
  | 64 => ⟨S_, .f32⟩
  | 65 => ⟨S_, .f32⟩
  | 66 => ⟨S2x128x64x8x128, .f32⟩
  | 67 => ⟨S2x128x1x8x128, .f32⟩
  | 68 => ⟨S2x128x64x8x128, .f32⟩
  | 69 => ⟨S2x128x64x8x128, .f32⟩
  | 70 => ⟨S2x128x64x8x128, .f32⟩
  | 71 => ⟨S2x128x64x8x128, .f32⟩
  | 72 => ⟨S2x128x64x8x128, .f32⟩
  | 73 => ⟨S2x128x64x8x128, .f32⟩
  | 74 => ⟨S2x128x64x8x128, .f32⟩
  | 75 => ⟨S2x128x64x8x128, .f32⟩
  | 76 => ⟨S2x128x64x8x128, .f32⟩
  | 77 => ⟨S_, .i1⟩
  | 78 => ⟨S64x64, .i1⟩
  | 79 => ⟨S64x64, .i32⟩
  | 80 => ⟨S_, .i32⟩
  | 81 => ⟨S64x64, .i32⟩
  | 82 => ⟨S64x64, .i32⟩
  | 83 => ⟨S64x64, .i32⟩
  | 84 => ⟨S64x64, .i1⟩
  | 85 => ⟨S_, .i1⟩
  | 86 => ⟨S64x64, .i1⟩
  | 87 => ⟨S64x64, .i1⟩
  | 88 => ⟨S2x128x8x64x64, .f32⟩
  | 89 => ⟨S_, .f32⟩
  | 90 => ⟨S_, .f32⟩
  | 91 => ⟨S2x128x8x64x64, .i1⟩
  | 92 => ⟨S2x128x8x64x64, .f32⟩
  | 93 => ⟨S2x128x8x64x64, .f32⟩
  | 94 => ⟨S2x128x8x128x64, .f32⟩
  | 95 => ⟨S2x128x64x8x128, .f32⟩
  | 96 => ⟨S2x128x8x128x128, .f32⟩
  | 97 => ⟨S2x128x8x128, .f32⟩
  | 98 => ⟨S2x128x8x128, .f32⟩
  | 99 => ⟨S_, .f32⟩
  | 100 => ⟨S2x8x128x128, .f32⟩
  | 101 => ⟨S128x2x8x128, .f32⟩
  | 102 => ⟨S128x2x8x128x128, .f32⟩
  | 103 => ⟨S_, .f32⟩
  | 104 => ⟨S128x2x8x128x128, .f32⟩
  | 105 => ⟨S_, .i32⟩
  | 106 => ⟨S128x2x8x128, .f32⟩
  | 107 => ⟨S128x2x8x128x128, .f32⟩
  | 108 => ⟨S_, .i32⟩
  | 109 => ⟨S2x8x128x128, .f32⟩
  | 110 => ⟨S128x2x8x128x128, .f32⟩
  | 111 => ⟨S_, .i32⟩
  | 112 => ⟨S_, .i1⟩
  | 113 => ⟨S_, .i32⟩
  | 114 => ⟨S_, .i32⟩
  | 115 => ⟨S_, .i32⟩
  | 116 => ⟨S1x2x8x128, .f32⟩
  | 117 => ⟨S2x8x128, .f32⟩
  | 118 => ⟨S_, .i32⟩
  | 119 => ⟨S_, .i32⟩
  | 120 => ⟨S_, .i32⟩
  | 121 => ⟨S_, .i32⟩
  | 122 => ⟨S1x2x8x128x128, .f32⟩
  | 123 => ⟨S2x8x128x128, .f32⟩
  | 124 => ⟨S2x8x128x1, .f32⟩
  | 125 => ⟨S2x8x128x128, .f32⟩
  | 126 => ⟨S2x8x128x128, .f32⟩
  | 127 => ⟨S2x8x128x128, .f32⟩
  | _ => ⟨S16384x12288, .f32⟩

abbrev hbmTy0_1 (i : Nat) : BufTy := match i % 128 with
  | 0 => ⟨S1x2x8x128x128, .f32⟩
  | 1 => ⟨S_, .i32⟩
  | 2 => ⟨S_, .i32⟩
  | 3 => ⟨S_, .i32⟩
  | 4 => ⟨S_, .i32⟩
  | 5 => ⟨S128x2x8x128x128, .f32⟩
  | 6 => ⟨S_, .i32⟩
  | 7 => ⟨S_, .i32⟩
  | 8 => ⟨S2x128x8x128x128, .f32⟩
  | 9 => ⟨S2x128x8x128x64, .f32⟩
  | 10 => ⟨S2x128x64x8x128, .f32⟩
  | 11 => ⟨S2x128x64x8x128, .f32⟩
  | 12 => ⟨S2x128x64x8x128, .f32⟩
  | 13 => ⟨S_, .f32⟩
  | 14 => ⟨S2x128x64x8, .f32⟩
  | 15 => ⟨S2x128x64x8x1, .f32⟩
  | 16 => ⟨S_, .f32⟩
  | 17 => ⟨S2x128x64x8x1, .f32⟩
  | 18 => ⟨S2x128x64x8x1, .f32⟩
  | 19 => ⟨S_, .f32⟩
  | 20 => ⟨S2x128x64x8x1, .f32⟩
  | 21 => ⟨S2x128x64x8x1, .f32⟩
  | 22 => ⟨S2x128x64x8x1, .f32⟩
  | 23 => ⟨S2x128x64x8x128, .f32⟩
  | 24 => ⟨S2x128x64x8x128, .f32⟩
  | 25 => ⟨S2x8192x1024, .f32⟩
  | 26 => ⟨S1024, .f32⟩
  | 27 => ⟨S1x1x1024, .f32⟩
  | 28 => ⟨S2x8192x1024, .f32⟩
  | 29 => ⟨S2x8192x1024, .f32⟩
  | 30 => ⟨S2x8192x1024, .f32⟩
  | 31 => ⟨S2x8192x1024, .f32⟩
  | 32 => ⟨S_, .f32⟩
  | 33 => ⟨S2x8192x1024, .f32⟩
  | 34 => ⟨S2x8192x1024, .f32⟩
  | 35 => ⟨S_, .f32⟩
  | 36 => ⟨S2x8192x1024, .f32⟩
  | 37 => ⟨S2x8192x1024, .f32⟩
  | 38 => ⟨S2x8192x1024, .f32⟩
  | 39 => ⟨S2x8192x1024, .f32⟩
  | 40 => ⟨S16384x1024, .f32⟩
  | _ => ⟨S16384x12288, .f32⟩

abbrev hbmTy (i : Nat) : BufTy := match i / 128 with
  | 0 => hbmTy0_0 i
  | 1 => hbmTy0_1 i
  | _ => ⟨S16384x12288, .f32⟩

abbrev bufTy : (tb : Table) → Fin (tcTables nBuf tb) → BufTy
  | .hbm, ⟨i, _⟩ => hbmTy i
  | _, _ => ⟨S16384x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_call0_cst : Ref sig .tc := ⟨.hbm, 25, rfl⟩
abbrev main_call0_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call2_call0_cst : Ref sig .tc := ⟨.hbm, 64, rfl⟩
abbrev main_call2_call0_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c : Ref sig .tc := ⟨.hbm, 77, rfl⟩
abbrev main_v55 : Ref sig .tc := ⟨.hbm, 78, rfl⟩
abbrev main_call3_v0 : Ref sig .tc := ⟨.hbm, 79, rfl⟩
abbrev main_call3_c : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_0 : Ref sig .tc := ⟨.hbm, 85, rfl⟩
abbrev main_call3_v5 : Ref sig .tc := ⟨.hbm, 86, rfl⟩
abbrev main_v56 : Ref sig .tc := ⟨.hbm, 87, rfl⟩
abbrev main_v57 : Ref sig .tc := ⟨.hbm, 88, rfl⟩
abbrev main_cst_6 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_7 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_8 : Ref sig .tc := ⟨.hbm, 103, rfl⟩
abbrev main_v67 : Ref sig .tc := ⟨.hbm, 104, rfl⟩
abbrev main_c_9 : Ref sig .tc := ⟨.hbm, 105, rfl⟩
abbrev main_v68_0 : Ref sig .tc := ⟨.hbm, 106, rfl⟩
abbrev main_v68_1 : Ref sig .tc := ⟨.hbm, 107, rfl⟩
abbrev main_v68_2 : Ref sig .tc := ⟨.hbm, 108, rfl⟩
abbrev main_v68_3 : Ref sig .tc := ⟨.hbm, 109, rfl⟩
abbrev main_v68_4 : Ref sig .tc := ⟨.hbm, 110, rfl⟩
abbrev main_while0c_c_17 : Ref sig .tc := ⟨.hbm, 111, rfl⟩
abbrev main_while0c_v91 : Ref sig .tc := ⟨.hbm, 112, rfl⟩
abbrev main_while0b_call5_c : Ref sig .tc := ⟨.hbm, 113, rfl⟩
abbrev main_while0b_call5_c_0 : Ref sig .tc := ⟨.hbm, 114, rfl⟩
abbrev main_while0b_call5_c_1 : Ref sig .tc := ⟨.hbm, 115, rfl⟩
abbrev main_while0b_call5_v0 : Ref sig .tc := ⟨.hbm, 116, rfl⟩
abbrev main_while0b_v91 : Ref sig .tc := ⟨.hbm, 117, rfl⟩
abbrev main_while0b_call6_c : Ref sig .tc := ⟨.hbm, 118, rfl⟩
abbrev main_while0b_call6_c_0 : Ref sig .tc := ⟨.hbm, 119, rfl⟩
abbrev main_while0b_call6_c_1 : Ref sig .tc := ⟨.hbm, 120, rfl⟩
abbrev main_while0b_call6_c_2 : Ref sig .tc := ⟨.hbm, 121, rfl⟩
abbrev main_while0b_call6_v0 : Ref sig .tc := ⟨.hbm, 122, rfl⟩
abbrev main_while0b_v92 : Ref sig .tc := ⟨.hbm, 123, rfl⟩
abbrev main_while0b_v93 : Ref sig .tc := ⟨.hbm, 124, rfl⟩
abbrev main_while0b_v94 : Ref sig .tc := ⟨.hbm, 125, rfl⟩
abbrev main_while0b_v95 : Ref sig .tc := ⟨.hbm, 126, rfl⟩
abbrev main_while0b_v96 : Ref sig .tc := ⟨.hbm, 127, rfl⟩
abbrev main_while0b_call7_v0 : Ref sig .tc := ⟨.hbm, 128, rfl⟩
abbrev main_while0b_call7_c : Ref sig .tc := ⟨.hbm, 129, rfl⟩
abbrev main_while0b_call7_c_0 : Ref sig .tc := ⟨.hbm, 130, rfl⟩
abbrev main_while0b_call7_c_1 : Ref sig .tc := ⟨.hbm, 131, rfl⟩
abbrev main_while0b_call7_c_2 : Ref sig .tc := ⟨.hbm, 132, rfl⟩
abbrev main_while0b_v97 : Ref sig .tc := ⟨.hbm, 133, rfl⟩
abbrev main_while0b_c_17 : Ref sig .tc := ⟨.hbm, 134, rfl⟩
abbrev main_while0b_v98 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_cst_10 : Ref sig .tc := ⟨.hbm, 141, rfl⟩
abbrev main_v74 : Ref sig .tc := ⟨.hbm, 142, rfl⟩
abbrev main_v75 : Ref sig .tc := ⟨.hbm, 143, rfl⟩
abbrev main_cst_11 : Ref sig .tc := ⟨.hbm, 144, rfl⟩
abbrev main_v76 : Ref sig .tc := ⟨.hbm, 145, rfl⟩
abbrev main_v77 : Ref sig .tc := ⟨.hbm, 146, rfl⟩
abbrev main_cst_12 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_call8_v0 : Ref sig .tc := ⟨.hbm, 158, rfl⟩
abbrev main_call8_v1 : Ref sig .tc := ⟨.hbm, 159, rfl⟩
abbrev main_call8_cst : Ref sig .tc := ⟨.hbm, 160, rfl⟩
abbrev main_call8_v2 : Ref sig .tc := ⟨.hbm, 161, rfl⟩
abbrev main_call8_v3 : Ref sig .tc := ⟨.hbm, 162, rfl⟩
abbrev main_call8_cst_0 : Ref sig .tc := ⟨.hbm, 163, rfl⟩
abbrev main_call8_v4 : Ref sig .tc := ⟨.hbm, 164, rfl⟩
abbrev main_call8_v5 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩

abbrev nD : Nat := 1
abbrev τ : Topo := Topo.v7x

variable {F : FTy → Type} [FloatOps F]

abbrev main_while0_count : Scf.Loop 32 := ⟨0#32, 128#32, 1#32⟩
-- ==== Proj.lean ====
abbrev S16384x2048 : Shape := ⟨2, ![16384, 2048]⟩
abbrev S2048x12288 : Shape := ⟨2, ![2048, 12288]⟩
abbrev S12288 : Shape := ⟨1, ![12288]⟩
abbrev S1x12288 : Shape := ⟨2, ![1, 12288]⟩
abbrev S16384x12288 : Shape := ⟨2, ![16384, 12288]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048x12288, .f32⟩
  | .hbm, ⟨2, _⟩ => ⟨S12288, .f32⟩
  | .hbm, ⟨3, _⟩ => ⟨S2048x12288, .bf16⟩
  | .hbm, ⟨4, _⟩ => ⟨S1x12288, .f32⟩
  | .hbm, ⟨5, _⟩ => ⟨S16384x12288, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S16384x2048 : Shape := ⟨2, ![16384, 2048]⟩
abbrev S2048x12288 : Shape := ⟨2, ![2048, 12288]⟩
abbrev S12288 : Shape := ⟨1, ![12288]⟩
abbrev S16384x12288 : Shape := ⟨2, ![16384, 12288]⟩
abbrev S1x12288 : Shape := ⟨2, ![1, 12288]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x12288, .f32⟩
  | .hbm, ⟨2, _⟩ => ⟨S12288, .f32⟩
  | .hbm, ⟨3, _⟩ => ⟨S16384x12288, .f32⟩
  | .hbm, ⟨4, _⟩ => ⟨S1x12288, .f32⟩
  | .hbm, ⟨5, _⟩ => ⟨S16384x12288, .f32⟩
  | .hbm, ⟨6, _⟩ => ⟨S16384x12288, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Merge.lean ====
abbrev S16384x1024 : Shape := ⟨2, ![16384, 1024]⟩
abbrev S16384x12288 : Shape := ⟨2, ![16384, 12288]⟩
abbrev S16384x2048 : Shape := ⟨2, ![16384, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S2048x128 : Shape := ⟨2, ![2048, 128]⟩
abbrev S1x128 : Shape := ⟨2, ![1, 128]⟩
abbrev S1024x2048 : Shape := ⟨2, ![1024, 2048]⟩
abbrev S2048x2048 : Shape := ⟨2, ![2048, 2048]⟩
abbrev S2048 : Shape := ⟨1, ![2048]⟩
abbrev S16384x128 : Shape := ⟨2, ![16384, 128]⟩
abbrev S256x1024 : Shape := ⟨2, ![256, 1024]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 25
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x12288, .f32⟩
  | .hbm, ⟨3, _⟩ => ⟨S16384x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S2048x128, .bf16⟩
  | .hbm, ⟨10, _⟩ => ⟨S2048x128, .bf16⟩
  | .hbm, ⟨11, _⟩ => ⟨S1x128, .f32⟩
  | .hbm, ⟨12, _⟩ => ⟨S1024x2048, .f32⟩
  | .hbm, ⟨13, _⟩ => ⟨S1024x2048, .bf16⟩
  | .hbm, ⟨14, _⟩ => ⟨S1024x2048, .f32⟩
  | .hbm, ⟨15, _⟩ => ⟨S1024x2048, .bf16⟩
  | .hbm, ⟨16, _⟩ => ⟨S2048x2048, .f32⟩
  | .hbm, ⟨17, _⟩ => ⟨S2048x2048, .bf16⟩
  | .hbm, ⟨18, _⟩ => ⟨S2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S16384x2048, .f32⟩
  | .hbm, ⟨23, _⟩ => ⟨S16384x128, .i32⟩
  | .hbm, ⟨24, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S1x2048, .f32⟩
  | .local _ .vmem, ⟨15, _⟩ => ⟨S2048x128, .bf16⟩
  | .local _ .vmem, ⟨16, _⟩ => ⟨S2048x128, .bf16⟩
  | .local _ .vmem, ⟨17, _⟩ => ⟨S1x128, .f32⟩
  | .local _ .vmem, ⟨18, _⟩ => ⟨S256x2048, .f32⟩
  | .local _ .vmem, ⟨19, _⟩ => ⟨S256x2048, .f32⟩
  | .local _ .vmem, ⟨20, _⟩ => ⟨S256x128, .i32⟩
  | .local _ .vmem, ⟨21, _⟩ => ⟨S256x128, .i32⟩
  | .local _ .vmem, ⟨22, _⟩ => ⟨S256x128, .f32⟩
  | .local _ .vmem, ⟨23, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeRefIdeal.lean ====
abbrev S16384x1024 : Shape := ⟨2, ![16384, 1024]⟩
abbrev S16384x12288 : Shape := ⟨2, ![16384, 12288]⟩
abbrev S16384x2048 : Shape := ⟨2, ![16384, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S2048x128 : Shape := ⟨2, ![2048, 128]⟩
abbrev S1x128 : Shape := ⟨2, ![1, 128]⟩
abbrev S16384x4096 : Shape := ⟨2, ![16384, 4096]⟩
abbrev S_ : Shape := ⟨0, ![]⟩
abbrev S1024x2048 : Shape := ⟨2, ![1024, 2048]⟩
abbrev S2048x2048 : Shape := ⟨2, ![2048, 2048]⟩
abbrev S16384 : Shape := ⟨1, ![16384]⟩
abbrev S16384x1 : Shape := ⟨2, ![16384, 1]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x12288, .f32⟩
  | .hbm, ⟨3, _⟩ => ⟨S16384x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S2048x128, .bf16⟩
  | .hbm, ⟨10, _⟩ => ⟨S2048x128, .bf16⟩
  | .hbm, ⟨11, _⟩ => ⟨S1x128, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x2048, .f32⟩
  | .hbm, ⟨22, _⟩ => ⟨S16384x2048, .f32⟩
  | .hbm, ⟨23, _⟩ => ⟨S1024x2048, .f32⟩
  | .hbm, ⟨24, _⟩ => ⟨S16384x2048, .f32⟩
  | .hbm, ⟨25, _⟩ => ⟨S16384x2048, .f32⟩
  | .hbm, ⟨26, _⟩ => ⟨S1024x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S2048x2048, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x2048, .f32⟩
  | .hbm, ⟨52, _⟩ => ⟨S16384x2048, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x2048, .f32⟩
  | .hbm, ⟨58, _⟩ => ⟨S16384x2048, .f32⟩
  | .hbm, ⟨59, _⟩ => ⟨S2048, .f32⟩
  | .hbm, ⟨60, _⟩ => ⟨S1x2048, .f32⟩
  | .hbm, ⟨61, _⟩ => ⟨S16384x2048, .f32⟩
  | .hbm, ⟨62, _⟩ => ⟨S16384x2048, .f32⟩
  | .hbm, ⟨63, _⟩ => ⟨S2048, .f32⟩
  | .hbm, ⟨64, _⟩ => ⟨S1x2048, .f32⟩
  | .hbm, ⟨65, _⟩ => ⟨S16384x2048, .f32⟩
  | .hbm, ⟨66, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Moe.lean ====
abbrev S160 : Shape := ⟨1, ![160]⟩
abbrev S1 : Shape := ⟨1, ![1]⟩
abbrev S40960x2048 : Shape := ⟨2, ![40960, 2048]⟩
abbrev S32x2048x1024 : Shape := ⟨3, ![32, 2048, 1024]⟩
abbrev S32x1024x2048 : Shape := ⟨3, ![32, 1024, 2048]⟩
abbrev S256x2048 : Shape := ⟨2, ![256, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S256x1024 : Shape := ⟨2, ![256, 1024]⟩
abbrev S1024x2048 : Shape := ⟨2, ![1024, 2048]⟩

abbrev nBuf : Space → Nat
  | .hbm => 5
  | .vmem => 10
  | .smem => 2
  | _ => 0

abbrev bufTy : (tb : Table) → Fin (tcTables nBuf tb) → BufTy
  | .hbm, ⟨0, _⟩ => ⟨S40960x2048, .f32⟩
  | .hbm, ⟨1, _⟩ => ⟨S32x2048x1024, .bf16⟩
  | .hbm, ⟨2, _⟩ => ⟨S32x2048x1024, .bf16⟩
  | .hbm, ⟨3, _⟩ => ⟨S32x1024x2048, .bf16⟩
  | .hbm, ⟨4, _⟩ => ⟨S40960x2048, .f32⟩
  | .local _ .vmem, ⟨0, _⟩ => ⟨S256x2048, .f32⟩
  | .local _ .vmem, ⟨1, _⟩ => ⟨S256x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S256x2048, .f32⟩
  | .local _ .vmem, ⟨9, _⟩ => ⟨S256x2048, .f32⟩
  | .local _ .smem, ⟨0, _⟩ => ⟨S160, .i32⟩
  | .local _ .smem, ⟨1, _⟩ => ⟨S1, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeRefIdeal.lean ====
abbrev S160 : Shape := ⟨1, ![160]⟩
abbrev S1 : Shape := ⟨1, ![1]⟩
abbrev S40960x2048 : Shape := ⟨2, ![40960, 2048]⟩
abbrev S32x2048x1024 : Shape := ⟨3, ![32, 2048, 1024]⟩
abbrev S32x1024x2048 : Shape := ⟨3, ![32, 1024, 2048]⟩
abbrev S160x256x2048 : Shape := ⟨3, ![160, 256, 2048]⟩
abbrev S_ : Shape := ⟨0, ![]⟩
abbrev S160x1 : Shape := ⟨2, ![160, 1]⟩
abbrev S160x2048x1024 : Shape := ⟨3, ![160, 2048, 1024]⟩
abbrev S160x256x1024 : Shape := ⟨3, ![160, 256, 1024]⟩
abbrev S160x1024x2048 : Shape := ⟨3, ![160, 1024, 2048]⟩
abbrev S160x1x1 : Shape := ⟨3, ![160, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S40960x2048, .f32⟩
  | .hbm, ⟨3, _⟩ => ⟨S32x2048x1024, .bf16⟩
  | .hbm, ⟨4, _⟩ => ⟨S32x2048x1024, .bf16⟩
  | .hbm, ⟨5, _⟩ => ⟨S32x1024x2048, .bf16⟩
  | .hbm, ⟨6, _⟩ => ⟨S160x256x2048, .f32⟩
  | .hbm, ⟨7, _⟩ => ⟨S32x2048x1024, .f32⟩
  | .hbm, ⟨8, _⟩ => ⟨S_, .i32⟩
  | .hbm, ⟨9, _⟩ => ⟨S160, .i32⟩
  | .hbm, ⟨10, _⟩ => ⟨S160, .i1⟩
  | .hbm, ⟨11, _⟩ => ⟨S_, .i32⟩
  | .hbm, ⟨12, _⟩ => ⟨S160, .i32⟩
  | .hbm, ⟨13, _⟩ => ⟨S160, .i32⟩
  | .hbm, ⟨14, _⟩ => ⟨S160, .i32⟩
  | .hbm, ⟨15, _⟩ => ⟨S160x1, .i32⟩
  | .hbm, ⟨16, _⟩ => ⟨S160x2048x1024, .f32⟩
  | .hbm, ⟨17, _⟩ => ⟨S160x256x1024, .f32⟩
  | .hbm, ⟨18, _⟩ => ⟨S32x2048x1024, .f32⟩
  | .hbm, ⟨19, _⟩ => ⟨S_, .i32⟩
  | .hbm, ⟨20, _⟩ => ⟨S160, .i32⟩
  | .hbm, ⟨21, _⟩ => ⟨S160, .i1⟩
  | .hbm, ⟨22, _⟩ => ⟨S_, .i32⟩
  | .hbm, ⟨23, _⟩ => ⟨S160, .i32⟩
  | .hbm, ⟨24, _⟩ => ⟨S160, .i32⟩
  | .hbm, ⟨25, _⟩ => ⟨S160, .i32⟩
  | .hbm, ⟨26, _⟩ => ⟨S160x1, .i32⟩
  | .hbm, ⟨27, _⟩ => ⟨S160x2048x1024, .f32⟩
  | .hbm, ⟨28, _⟩ => ⟨S160x256x1024, .f32⟩
  | .hbm, ⟨29, _⟩ => ⟨S160x256x1024, .f32⟩
  | .hbm, ⟨30, _⟩ => ⟨S160x256x1024, .f32⟩
  | .hbm, ⟨31, _⟩ => ⟨S_, .f32⟩
  | .hbm, ⟨32, _⟩ => ⟨S160x256x1024, .f32⟩
  | .hbm, ⟨33, _⟩ => ⟨S160x256x1024, .f32⟩
  | .hbm, ⟨34, _⟩ => ⟨S_, .f32⟩
  | .hbm, ⟨35, _⟩ => ⟨S160x256x1024, .f32⟩
  | .hbm, ⟨36, _⟩ => ⟨S160x256x1024, .f32⟩
  | .hbm, ⟨37, _⟩ => ⟨S160x256x1024, .f32⟩
  | .hbm, ⟨38, _⟩ => ⟨S160x256x1024, .f32⟩
  | .hbm, ⟨39, _⟩ => ⟨S32x1024x2048, .f32⟩
  | .hbm, ⟨40, _⟩ => ⟨S_, .i32⟩
  | .hbm, ⟨41, _⟩ => ⟨S160, .i32⟩
  | .hbm, ⟨42, _⟩ => ⟨S160, .i1⟩
  | .hbm, ⟨43, _⟩ => ⟨S_, .i32⟩
  | .hbm, ⟨44, _⟩ => ⟨S160, .i32⟩
  | .hbm, ⟨45, _⟩ => ⟨S160, .i32⟩
  | .hbm, ⟨46, _⟩ => ⟨S160, .i32⟩
  | .hbm, ⟨47, _⟩ => ⟨S160x1, .i32⟩
  | .hbm, ⟨48, _⟩ => ⟨S160x1024x2048, .f32⟩
  | .hbm, ⟨49, _⟩ => ⟨S160x256x2048, .f32⟩
  | .hbm, ⟨50, _⟩ => ⟨S160, .i32⟩
  | .hbm, ⟨51, _⟩ => ⟨S_, .i32⟩
  | .hbm, ⟨52, _⟩ => ⟨S160, .i32⟩
  | .hbm, ⟨53, _⟩ => ⟨S160, .i1⟩
  | .hbm, ⟨54, _⟩ => ⟨S160x1x1, .i1⟩
  | .hbm, ⟨55, _⟩ => ⟨S_, .f32⟩
  | .hbm, ⟨56, _⟩ => ⟨S_, .f32⟩
  | .hbm, ⟨57, _⟩ => ⟨S160x256x2048, .i1⟩
  | .hbm, ⟨58, _⟩ => ⟨S160x256x2048, .f32⟩
  | .hbm, ⟨59, _⟩ => ⟨S160x256x2048, .f32⟩
  | .hbm, ⟨60, _⟩ => ⟨S40960x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]
-- ==== Comb.lean ====
abbrev S16384x2048 : Shape := ⟨2, ![16384, 2048]⟩
abbrev S40960x2048 : Shape := ⟨2, ![40960, 2048]⟩
abbrev S16384x2 : Shape := ⟨2, ![16384, 2]⟩
abbrev S16384x128 : Shape := ⟨2, ![16384, 128]⟩
abbrev S1x2048 : Shape := ⟨2, ![1, 2048]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S2048 : Shape := ⟨1, ![2048]⟩
abbrev S256x2048 : Shape := ⟨2, ![256, 2048]⟩
abbrev S256x128 : Shape := ⟨2, ![256, 128]⟩
abbrev S256x1 : Shape := ⟨2, ![256, 1]⟩
abbrev S256 : Shape := ⟨1, ![256]⟩

abbrev nBuf : Space → Nat
  | .hbm => 61
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S40960x2048, .f32⟩
  | .hbm, ⟨2, _⟩ => ⟨S16384x2, .i32⟩
  | .hbm, ⟨3, _⟩ => ⟨S16384x128, .f32⟩
  | .hbm, ⟨4, _⟩ => ⟨S1x2048, .f32⟩
  | .hbm, ⟨5, _⟩ => ⟨S1x2048, .f32⟩
  | .hbm, ⟨6, _⟩ => ⟨S16384x1, .i32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S1, .i32⟩
  | .hbm, ⟨17, _⟩ => ⟨S_, .i32⟩
  | .hbm, ⟨18, _⟩ => ⟨S16384x1, .i32⟩
  | .hbm, ⟨19, _⟩ => ⟨S16384x1, .i1⟩
  | .hbm, ⟨20, _⟩ => ⟨S1x1, .i32⟩
  | .hbm, ⟨21, _⟩ => ⟨S16384x1, .i32⟩
  | .hbm, ⟨22, _⟩ => ⟨S16384x1, .i1⟩
  | .hbm, ⟨23, _⟩ => ⟨S16384x1, .i1⟩
  | .hbm, ⟨24, _⟩ => ⟨S_, .i1⟩
  | .hbm, ⟨25, _⟩ => ⟨S16384, .i1⟩
  | .hbm, ⟨26, _⟩ => ⟨S16384x2048, .f32⟩
  | .hbm, ⟨27, _⟩ => ⟨S16384x2048, .i1⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S16384x1, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384x2048, .f32⟩
  | .hbm, ⟨52, _⟩ => ⟨S16384x2048, .i1⟩
  | .hbm, ⟨53, _⟩ => ⟨S_, .f32⟩
  | .hbm, ⟨54, _⟩ => ⟨S16384x2048, .f32⟩
  | .hbm, ⟨55, _⟩ => ⟨S16384x2048, .f32⟩
  | .hbm, ⟨56, _⟩ => ⟨S2048, .f32⟩
  | .hbm, ⟨57, _⟩ => ⟨S1x2048, .f32⟩
  | .hbm, ⟨58, _⟩ => ⟨S2048, .f32⟩
  | .hbm, ⟨59, _⟩ => ⟨S1x2048, .f32⟩
  | .hbm, ⟨60, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x128, .f32⟩
  | .local _ .vmem, ⟨7, _⟩ => ⟨S256x128, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombRefIdeal.lean ====
abbrev S16384x2048 : Shape := ⟨2, ![16384, 2048]⟩
abbrev S40960x2048 : Shape := ⟨2, ![40960, 2048]⟩
abbrev S16384x2 : Shape := ⟨2, ![16384, 2]⟩
abbrev S16384x128 : Shape := ⟨2, ![16384, 128]⟩
abbrev S1x2048 : Shape := ⟨2, ![1, 2048]⟩
abbrev S16384x1 : Shape := ⟨2, ![16384, 1]⟩
abbrev S16384 : Shape := ⟨1, ![16384]⟩
abbrev S_ : Shape := ⟨0, ![]⟩
abbrev S2048 : Shape := ⟨1, ![2048]⟩

abbrev nBuf : Space → Nat
  | .hbm => 70
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S40960x2048, .f32⟩
  | .hbm, ⟨2, _⟩ => ⟨S16384x2, .i32⟩
  | .hbm, ⟨3, _⟩ => ⟨S16384x128, .f32⟩
  | .hbm, ⟨4, _⟩ => ⟨S1x2048, .f32⟩
  | .hbm, ⟨5, _⟩ => ⟨S1x2048, .f32⟩
  | .hbm, ⟨6, _⟩ => ⟨S16384x1, .f32⟩
  | .hbm, ⟨7, _⟩ => ⟨S16384x1, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x1, .f32⟩
  | .hbm, ⟨21, _⟩ => ⟨S16384x1, .i32⟩
  | .hbm, ⟨22, _⟩ => ⟨S16384, .i32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x2048, .f32⟩
  | .hbm, ⟨55, _⟩ => ⟨S16384x2048, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x2048, .f32⟩
  | .hbm, ⟨61, _⟩ => ⟨S16384x2048, .f32⟩
  | .hbm, ⟨62, _⟩ => ⟨S2048, .f32⟩
  | .hbm, ⟨63, _⟩ => ⟨S1x2048, .f32⟩
  | .hbm, ⟨64, _⟩ => ⟨S16384x2048, .f32⟩
  | .hbm, ⟨65, _⟩ => ⟨S16384x2048, .f32⟩
  | .hbm, ⟨66, _⟩ => ⟨S2048, .f32⟩
  | .hbm, ⟨67, _⟩ => ⟨S1x2048, .f32⟩
  | .hbm, ⟨68, _⟩ => ⟨S16384x2048, .f32⟩
  | .hbm, ⟨69, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== Proof.HgrnHead.lean ====
/-
  One chunk of one head of the recurrence, as vector operations: the forget gate, the running sum of its logarithms,
  the decayed queries and keys, the chunk's output rows and the state it hands on. Then: what one trip of the chunk
  loop stores, head by head, is these functions of the rows it loads.
-/
module

public import proofs.«01_k».proof.Defs
public import proofs.«01_k».proof.Proof.Gen.KernelIdeal.Loops
public import Idealize.ShloMosaic.Lib.Pipeline.Value

@[expose] public section

set_option maxRecDepth 16384

noncomputable section

open Idealize.ShloMosaic Idealize.ShloMosaic.TcCoe Idealize.SL.Sem

namespace Cert.KernelIdeal.Hand

open Cert.KernelIdeal Cert.KernelIdeal.Gen

variable {F : FTy → Type} [FloatOps F]

/-- The splat of one. -/
def ones (S : Shape) : FVec F S .f32 := broadcast S (Scalar.ofBits .f32 0x3F800000#32)
/-- The splat of zero. -/
def zeros (S : Shape) : FVec F S .f32 := broadcast S (Scalar.ofBits .f32 0x00000000#32)

/-- The logistic function as the kernel spells it: `1 / (1 + exp (0 - x))`. -/
def sigm (x : FVec F S64x128 .f32) : FVec F S64x128 .f32 :=
  divf (ones S64x128) (addf (ones S64x128) (exp (subf (zeros S64x128) x)))

/-- The swish function. -/
def swish (x : FVec F S64x128 .f32) : FVec F S64x128 .f32 := mulf x (sigm x)

/-- The forget gate: the lower bound plus its complement times the logistic of the logits. -/
def gate (lb : FVec F S1x128 .f32) (x : FVec F S64x128 .f32) : FVec F S64x128 .f32 :=
  addf (broadcastTo S64x128 lb broadcasts_S1x128_S64x128)
    (mulf (broadcastTo S64x128 (subf (ones S1x128) lb) broadcasts_S1x128_S64x128) (sigm x))

/-- The high part of the gate's logarithm, rounded. -/
def hiPart (lb : FVec F S1x128 .f32) (x : FVec F S64x128 .f32) : FVec F S64x128 .bf16 :=
  truncf .bf16 (log (gate lb x)) bitsLt_bf16_f32
/-- What the high part leaves of the gate's logarithm. -/
def loPart (lb : FVec F S1x128 .f32) (x : FVec F S64x128 .f32) : FVec F S64x128 .bf16 :=
  truncf .bf16 (subf (log (gate lb x)) (extf .f32 (hiPart lb x) bitsLt_bf16_f32)) bitsLt_bf16_f32

/-- The running sum of the gate's logarithms along the chunk. -/
def cumLog (lb : FVec F S1x128 .f32) (x : FVec F S64x128 .f32) : FVec F S64x128 .f32 :=
  addf (matmul dot_S64x64_S64x128_S64x128_1_0_0_1_n_n none (k0_pay4 (F := F)) (hiPart lb x) (constant S64x128 .f32 0x00000000#32))
    (matmul dot_S64x64_S64x128_S64x128_1_0_0_1_n_n none (k0_pay4 (F := F)) (loPart lb x) (constant S64x128 .f32 0x00000000#32))

/-- Its last row, the whole chunk's decay. -/
def lastLog (lb : FVec F S1x128 .f32) (x : FVec F S64x128 .f32) : FVec F S1x128 .f32 :=
  extractStridedSlice S1x128 ![63, 0] (cumLog lb x) slices_S64x128_o63_0_S1x128

/-- The input gate, one minus the forget gate. -/
def keyGate (lb : FVec F S1x128 .f32) (x : FVec F S64x128 .f32) : FVec F S64x128 .f32 := subf (ones S64x128) (gate lb x)

/-- The queries decayed from the chunk's start. -/
def qDec (lb : FVec F S1x128 .f32) (xf xq : FVec F S64x128 .f32) : FVec F S64x128 .bf16 :=
  truncf .bf16 (mulf (swish xq) (exp (cumLog lb xf))) bitsLt_bf16_f32
/-- The keys decayed from the chunk's start. -/
def kDec (lb : FVec F S1x128 .f32) (xf : FVec F S64x128 .f32) : FVec F S64x128 .bf16 :=
  truncf .bf16 (mulf (keyGate lb xf) (exp (subf (zeros S64x128) (cumLog lb xf)))) bitsLt_bf16_f32
/-- The keys decayed to the chunk's end. -/
def kEnd (lb : FVec F S1x128 .f32) (xf : FVec F S64x128 .f32) : FVec F S64x128 .bf16 :=
  truncf .bf16 (mulf (keyGate lb xf) (exp (subf (broadcastTo S64x128 (lastLog lb xf) broadcasts_S1x128_S64x128) (cumLog lb xf)))) bitsLt_bf16_f32

/-- The state after the chunk: the decayed state plus the chunk's outer products. -/
def headSt (lb : FVec F S1x128 .f32) (xf xi : FVec F S64x128 .f32) (st : FVec F S1x128x128 .f32) : FVec F S1x128x128 .f32 :=
  shapeCast S1x128x128
    (addf (mulf (shapeCast S128x128 st shapeCasts_S1x128x128_S128x128) (broadcastTo S128x128 (exp (lastLog lb xf)) broadcasts_S1x128_S128x128))
      (matmul dot_S64x128_S64x128_S128x128_0_0_1_1_n_n none (truncf .bf16 xi bitsLt_bf16_f32) (kEnd lb xf) (constant S128x128 .f32 0x00000000#32)))
    shapeCasts_S128x128_S1x128x128

/-- The chunk's output before the norm: the causal attention within the chunk plus the read of the state. -/
def rawOut (lb : FVec F S1x128 .f32) (xf xq xi : FVec F S64x128 .f32) (st : FVec F S1x128x128 .f32) : FVec F S64x128 .f32 :=
  addf
    (matmul dot_S64x64_S64x128_S64x128_1_0_0_1_n_n none
      (truncf .bf16 (select k0_pay3 (matmul dot_S64x128_S64x128_S64x64_1_1_0_0_n_n none (qDec lb xf xq) (kDec lb xf) (constant S64x64 .f32 0x00000000#32)) (zeros S64x64)) bitsLt_bf16_f32)
      (truncf .bf16 xi bitsLt_bf16_f32) (constant S64x128 .f32 0x00000000#32))
    (matmul dot_S64x128_S128x128_S64x128_1_1_0_0_n_n none (qDec lb xf xq)
      (truncf .bf16 (shapeCast S128x128 st shapeCasts_S1x128x128_S128x128) bitsLt_bf16_f32) (constant S64x128 .f32 0x00000000#32))

/-- The row norm and the output gate. -/
def normed (o xg : FVec F S64x128 .f32) (ng : FVec F S1x128 .f32) : FVec F S64x128 .f32 :=
  mulf
    (mulf
      (mulf o (broadcastTo S64x128
        (rsqrt (addf (divf (shapeCast S64x1 (multiReduction .add [1] S64 (mulf o o) 0x00000000#32 reduces_S64x128_S64 (.inl rfl) rfl) shapeCasts_S64_S64x1)
          (broadcast S64x1 (Scalar.ofBits .f32 0x43000000#32))) (broadcast S64x1 (Scalar.ofBits .f32 0x358637BD#32)))) broadcasts_S64x1_S64x128))
      (broadcastTo S64x128 ng broadcasts_S1x128_S64x128))
    (swish xg)

/-- The chunk's output rows. -/
def headOut (lb : FVec F S1x128 .f32) (xf xq xi xg : FVec F S64x128 .f32) (ng : FVec F S1x128 .f32) (st : FVec F S1x128x128 .f32) : FVec F S64x128 .f32 :=
  normed (rawOut lb xf xq xi st) xg ng

/-- Where the trip's loads and stores of head `h` begin. -/
def offs (k : Fin k0_t1_loop.trips) : Fin 8 → Fin 2 → Nat
  | 0 => k0_off1 k | 1 => k0_off2 k | 2 => k0_off3 k | 3 => k0_off4 k | 4 => k0_off5 k | 5 => k0_off6 k | 6 => k0_off7 k | 7 => k0_off8 k

/-- Row `64 k`, column `128 h`. -/
theorem offs_eq (k : Fin k0_t1_loop.trips) (h : Fin 8) : offs k h = ![64 * k.val, 128 * h.val] := by
  fin_cases h
  · exact k0_off1_eq k
  · exact k0_off2_eq k
  · exact k0_off3_eq k
  · exact k0_off4_eq k
  · exact k0_off5_eq k
  · exact k0_off6_eq k
  · exact k0_off7_eq k
  · exact k0_off8_eq k

theorem offs_inb (k : Fin k0_t1_loop.trips) (h : Fin 8) (a : Fin 2) : offs k h a + S64x128.size a ≤ S512x1024.size a := by
  have hk : k.val < 8 := Nat.lt_of_lt_of_le k.isLt k0_t1_abs.2.1
  rw [offs_eq]
  match a with
  | ⟨0, _⟩ => show 64 * k.val + 64 ≤ 512; omega
  | ⟨1, _⟩ => show 128 * h.val + 128 ≤ 1024; omega

/-- The rows and columns of head `h` in the trip's chunk. -/
def tile (k : Fin k0_t1_loop.trips) (h : Fin 8) : Rect S512x1024 := Rect.unit (s := S512x1024) (offs k h) S64x128.size (offs_inb k h)

/-- The state of head `h`. -/
def stTile (h : Fin 8) : Rect S8x128x128 := Rect.unit (s := S8x128x128) ![h.val, 0, 0] S1x128x128.size (by
  intro a; match a with
  | ⟨0, _⟩ => show h.val + 1 ≤ 8; omega
  | ⟨1, _⟩ => exact Nat.le_refl _
  | ⟨2, _⟩ => exact Nat.le_refl _)

/-- The columns of head `h` in the norm's gain. -/
def ngTile (h : Fin 8) : Rect S1x1024 := Rect.unit (s := S1x1024) ![0, 128 * h.val] S1x128.size (by
  intro a; match a with
  | ⟨0, _⟩ => exact Nat.le_refl _
  | ⟨1, _⟩ => show 128 * h.val + 128 ≤ 1024; omega)

theorem lbSlices (h : Fin 8) : S1x1024.Slices ![0, 128 * h.val] S1x128 := by fin_cases h <;> decide

/-- The lower bounds of head `h`. -/
def lbOf (v3 : FVec F S2x1024 .f32) (h : Fin 8) : FVec F S1x128 .f32 :=
  extractStridedSlice S1x128 ![0, 128 * h.val] (k0_pay2 v3) (lbSlices h)

/-- The state a trip leaves for head `h`, of the blocks' contents and the state it finds. -/
def stPiece (v3 : FVec F S2x1024 .f32) (xf xi : Vec F S512x1024 .f32) (st : Vec F S8x128x128 .f32) (k : Fin k0_t1_loop.trips) (h : Fin 8) :
    View.Piece (Elt F) S8x128x128 .f32 :=
  ⟨stTile h, headSt (lbOf v3 h) (View.ld xf (tile k h)) (View.ld xi (tile k h)) (View.ld st (stTile h))⟩

/-- The output rows a trip stores for head `h`. -/
def outPiece (v3 : FVec F S2x1024 .f32) (xq xf xi xg : Vec F S512x1024 .f32) (ng : Vec F S1x1024 .f32) (st : Vec F S8x128x128 .f32)
    (k : Fin k0_t1_loop.trips) (h : Fin 8) : View.Piece (Elt F) S512x1024 .f32 :=
  ⟨tile k h, headOut (lbOf v3 h) (View.ld xf (tile k h)) (View.ld xq (tile k h)) (View.ld xi (tile k h)) (View.ld xg (tile k h))
    (View.ld ng (ngTile h)) (View.ld st (stTile h))⟩

section
variable (𝒱 : Variants) (c : Dev nD) (bd : Option 𝒱.V) (i : grid0.Coords)
  (arg2 : Memref sig .tc .vmem S512x1024 .f32) (harg2 : arg2.IsWhole) (arg3 : Memref sig .tc .vmem S512x1024 .f32) (harg3 : arg3.IsWhole)
  (arg4 : Memref sig .tc .vmem S512x1024 .f32) (harg4 : arg4.IsWhole) (arg5 : Memref sig .tc .vmem S512x1024 .f32) (harg5 : arg5.IsWhole)
  (arg6 : Memref sig .tc .vmem S2x1024 .f32) (harg6 : arg6.IsWhole) (arg7 : Memref sig .tc .vmem S1x1024 .f32) (harg7 : arg7.IsWhole)
  (arg8 : Memref sig .tc .vmem S512x1024 .f32) (harg8 : arg8.IsWhole) (arg9 : Memref sig .tc .vmem S8x128x128 .f32) (harg9 : arg9.IsWhole)
  (v3 : Vec F S2x1024 .f32) (X_arg2 : BufTy.Contents (Elt F) arg2.view.ty) (X_arg3 : BufTy.Contents (Elt F) arg3.view.ty)
  (X_arg4 : BufTy.Contents (Elt F) arg4.view.ty) (X_arg5 : BufTy.Contents (Elt F) arg5.view.ty) (X_arg7 : BufTy.Contents (Elt F) arg7.view.ty)
  (k : Fin k0_t1_loop.trips) (f_arg8 : BufTy.Contents (Elt F) arg8.view.ty) (f_arg9 : BufTy.Contents (Elt F) arg9.view.ty)

/-- What a trip stores: per head the new state and the output rows, the last head's first. -/
theorem tripL_eq :
    tripL_k0_t1 (F := F) 𝒱 c bd i arg2 harg2 arg3 harg3 arg4 harg4 arg5 harg5 arg6 harg6 arg7 harg7 arg8 harg8 arg9 harg9 v3 X_arg2 X_arg3 X_arg4 X_arg5 X_arg7 k f_arg8 f_arg9
      = (let po := outPiece v3 (arg2.view.read (Elt F) X_arg2) (arg3.view.read (Elt F) X_arg3) (arg4.view.read (Elt F) X_arg4)
          (arg5.view.read (Elt F) X_arg5) (arg7.view.read (Elt F) X_arg7) (arg9.view.read (Elt F) f_arg9) k
        [po 7, po 6, po 5, po 4, po 3, po 2, po 1, po 0],
        let ps := stPiece v3 (arg3.view.read (Elt F) X_arg3) (arg4.view.read (Elt F) X_arg4) (arg9.view.read (Elt F) f_arg9) k
        [ps 7, ps 6, ps 5, ps 4, ps 3, ps 2, ps 1, ps 0]) := by
  unfold tripL_k0_t1 trip_k0_t1
  dsimp only
  sl_unfold_words
  rfl
end

end Cert.KernelIdeal.Hand
-- ==== Proof.HgrnTrip.lean ====
/-
  What the chunk loop of one grid point leaves: the state folded over its trips and the block of output rows, whatever the output block held.
-/
module

public import proofs.«01_k».proof.Defs
public import proofs.«01_k».proof.Proof.HgrnHead
public import Idealize.ShloMosaic.Lib.Pointwise.Index
public import Idealize.ShloMosaic.Lib.Pipeline.Value

@[expose] public section

set_option maxRecDepth 16384

noncomputable section

open Idealize.ShloMosaic Idealize.ShloMosaic.TcCoe Idealize.SL.Sem

namespace Cert.KernelIdeal.Hand

open Cert.KernelIdeal Cert.KernelIdeal.Gen

variable {F : FTy → Type} [FloatOps F]

/-- The state after a trip: each head's, of its rows of the chunk and its state before. -/
def stStep (v3 : FVec F S2x1024 .f32) (xf xi : Vec F S512x1024 .f32) (k : Fin k0_t1_loop.trips) (st : Vec F S8x128x128 .f32) :
    Vec F S8x128x128 .f32 := fun y =>
  headSt (lbOf v3 (y (0 : Fin 3))) (View.ld xf (tile k (y (0 : Fin 3)))) (View.ld xi (tile k (y (0 : Fin 3))))
    (View.ld st (stTile (y (0 : Fin 3)))) (ix3 (n0 := 1) (n1 := 128) (n2 := 128) 0 (y (1 : Fin 3)) (y (2 : Fin 3)))

/-- The head of a column. -/
def hdOf (y : S512x1024.Idx) : Fin 8 := ⟨(y (1 : Fin 2)).val / 128, by have : (y (1 : Fin 2)).val < 1024 := (y (1 : Fin 2)).isLt; omega⟩
/-- The place of an element within its tile. -/
def inTile (y : S512x1024.Idx) : S64x128.Idx :=
  ix2 (n0 := 64) (n1 := 128) ⟨(y (0 : Fin 2)).val % 64, by omega⟩ ⟨(y (1 : Fin 2)).val % 128, by omega⟩

/-- The output rows of the chunk of trip `k`. -/
def outRows (v3 : FVec F S2x1024 .f32) (xq xf xi xg : Vec F S512x1024 .f32) (ng : Vec F S1x1024 .f32) (st : Vec F S8x128x128 .f32)
    (k : Fin k0_t1_loop.trips) : Vec F S512x1024 .f32 := fun y =>
  headOut (lbOf v3 (hdOf y)) (View.ld xf (tile k (hdOf y))) (View.ld xq (tile k (hdOf y))) (View.ld xi (tile k (hdOf y)))
    (View.ld xg (tile k (hdOf y))) (View.ld ng (ngTile (hdOf y))) (View.ld st (stTile (hdOf y))) (inTile y)

section
variable {sg : RefSig} {κ : Kind} {sp : Space}

theorem mem8 {α : Type} {p : Fin 8 → α} {x : α} (hx : x ∈ [p 7, p 6, p 5, p 4, p 3, p 2, p 1, p 0]) : ∃ h, x = p h := by
  simp only [List.mem_cons, List.not_mem_nil, or_false] at hx
  rcases hx with h | h | h | h | h | h | h | h <;> exact ⟨_, h⟩

theorem mem8' {α : Type} (p : Fin 8 → α) (h : Fin 8) : p h ∈ [p 7, p 6, p 5, p 4, p 3, p 2, p 1, p 0] := by
  simp only [List.mem_cons, List.not_mem_nil, or_false]
  fin_cases h <;> simp

/-- After a trip's stores the state reads as `stStep`. -/
theorem read_stPieces (v : View sg κ sp S8x128x128 .f32) (f : v.ty.Contents (Elt F)) (v3 : FVec F S2x1024 .f32)
    (xf xi : Vec F S512x1024 .f32) (st : Vec F S8x128x128 .f32) (k : Fin k0_t1_loop.trips) :
    v.read (Elt F) (v.writes (Elt F) f (let ps := stPiece v3 xf xi st k; [ps 7, ps 6, ps 5, ps 4, ps 3, ps 2, ps 1, ps 0]))
      = stStep v3 xf xi k st := by
  funext y
  refine View.read_writes_apply_of_pieces v f (stStep v3 xf xi k st) _ ?_ y ⟨stPiece v3 xf xi st k (y (0 : Fin 3)), mem8' _ _, ?_⟩
  · intro p hp x
    obtain ⟨h, rfl⟩ := mem8 hp
    have h0 : ((stPiece v3 xf xi st k h).1.emb x) (0 : Fin 3) = h := Fin.ext (by
      have : (x (0 : Fin 3)).val < 1 := (x (0 : Fin 3)).isLt
      show h.val + 1 * (x (0 : Fin 3)).val = h.val; omega)
    have hx : x = ix3 (n0 := 1) (n1 := 128) (n2 := 128) 0 (((stPiece v3 xf xi st k h).1.emb x) (1 : Fin 3)) (((stPiece v3 xf xi st k h).1.emb x) (2 : Fin 3)) := by
      funext a; apply Fin.ext
      match a with
      | ⟨0, _⟩ => have : (x (0 : Fin 3)).val < 1 := (x (0 : Fin 3)).isLt
                  show (x (0 : Fin 3)).val = 0; omega
      | ⟨1, _⟩ => show (x (1 : Fin 3)).val = 0 + 1 * (x (1 : Fin 3)).val; omega
      | ⟨2, _⟩ => show (x (2 : Fin 3)).val = 0 + 1 * (x (2 : Fin 3)).val; omega
    unfold stStep
    rw [h0, ← hx]
    rfl
  · show y ∈ (stTile (y (0 : Fin 3))).set
    unfold stTile
    rw [Rect.mem_set_unit]
    intro a
    match a with
    | ⟨0, _⟩ => show (y (0 : Fin 3)).val ≤ (y (0 : Fin 3)).val ∧ (y (0 : Fin 3)).val < (y (0 : Fin 3)).val + 1; omega
    | ⟨1, _⟩ => have : (y (1 : Fin 3)).val < 128 := (y (1 : Fin 3)).isLt
                show 0 ≤ (y (1 : Fin 3)).val ∧ (y (1 : Fin 3)).val < 0 + 128; omega
    | ⟨2, _⟩ => have : (y (2 : Fin 3)).val < 128 := (y (2 : Fin 3)).isLt
                show 0 ≤ (y (2 : Fin 3)).val ∧ (y (2 : Fin 3)).val < 0 + 128; omega

theorem mem_tile (k : Fin k0_t1_loop.trips) (h : Fin 8) (y : S512x1024.Idx) :
    y ∈ (tile k h).set ↔ (y (0 : Fin 2)).val / 64 = k.val ∧ hdOf y = h := by
  unfold tile
  rw [Rect.mem_set_unit, offs_eq]
  have e : hdOf y = h ↔ (y (1 : Fin 2)).val / 128 = h.val := by unfold hdOf; exact Fin.ext_iff
  rw [e]
  constructor
  · intro H
    have a0 : 64 * k.val ≤ (y (0 : Fin 2)).val ∧ (y (0 : Fin 2)).val < 64 * k.val + 64 := H 0
    have a1 : 128 * h.val ≤ (y (1 : Fin 2)).val ∧ (y (1 : Fin 2)).val < 128 * h.val + 128 := H 1
    omega
  · rintro ⟨H0, H1⟩ a
    match a with
    | ⟨0, _⟩ => show 64 * k.val ≤ (y (0 : Fin 2)).val ∧ (y (0 : Fin 2)).val < 64 * k.val + 64; omega
    | ⟨1, _⟩ => show 128 * h.val ≤ (y (1 : Fin 2)).val ∧ (y (1 : Fin 2)).val < 128 * h.val + 128; omega

/-- After a trip's stores the output reads as the trip's rows on its chunk and as before elsewhere. -/
theorem read_outPieces (v : View sg κ sp S512x1024 .f32) (f : v.ty.Contents (Elt F)) (v3 : FVec F S2x1024 .f32)
    (xq xf xi xg : Vec F S512x1024 .f32) (ng : Vec F S1x1024 .f32) (st : Vec F S8x128x128 .f32) (k : Fin k0_t1_loop.trips) (y : S512x1024.Idx) :
    v.read (Elt F) (v.writes (Elt F) f (let po := outPiece v3 xq xf xi xg ng st k; [po 7, po 6, po 5, po 4, po 3, po 2, po 1, po 0])) y
      = if (y (0 : Fin 2)).val / 64 = k.val then outRows v3 xq xf xi xg ng st k y else v.read (Elt F) f y := by
  split
  next hy =>
    refine View.read_writes_apply_of_pieces v f (outRows v3 xq xf xi xg ng st k) _ ?_ y
      ⟨outPiece v3 xq xf xi xg ng st k (hdOf y), mem8' _ _, (mem_tile k _ y).mpr ⟨hy, rfl⟩⟩
    intro p hp x
    obtain ⟨h, rfl⟩ := mem8 hp
    have e0 : (((tile k h).emb x) (0 : Fin 2)).val = 64 * k.val + (x (0 : Fin 2)).val := by
      show offs k h (0 : Fin 2) + 1 * (x (0 : Fin 2)).val = _
      rw [offs_eq]; show 64 * k.val + 1 * (x (0 : Fin 2)).val = _; omega
    have e1 : (((tile k h).emb x) (1 : Fin 2)).val = 128 * h.val + (x (1 : Fin 2)).val := by
      show offs k h (1 : Fin 2) + 1 * (x (1 : Fin 2)).val = _
      rw [offs_eq]; show 128 * h.val + 1 * (x (1 : Fin 2)).val = _; omega
    have b0 : (x (0 : Fin 2)).val < 64 := (x (0 : Fin 2)).isLt
    have b1 : (x (1 : Fin 2)).val < 128 := (x (1 : Fin 2)).isLt
    have h0 : hdOf ((tile k h).emb x) = h := Fin.ext (by show (((tile k h).emb x) (1 : Fin 2)).val / 128 = h.val; omega)
    have hx : inTile ((tile k h).emb x) = x := by
      funext a; apply Fin.ext
      match a with
      | ⟨0, _⟩ => show (((tile k h).emb x) (0 : Fin 2)).val % 64 = (x (0 : Fin 2)).val; omega
      | ⟨1, _⟩ => show (((tile k h).emb x) (1 : Fin 2)).val % 128 = (x (1 : Fin 2)).val; omega
    show _ = outRows v3 xq xf xi xg ng st k ((tile k h).emb x)
    unfold outRows
    rw [h0, hx]
    rfl
  next hy =>
    refine View.read_writes_apply_of_forall_not_mem v f y _ fun p hp hm => hy ?_
    obtain ⟨h, rfl⟩ := mem8 hp
    exact ((mem_tile k h y).mp hm).1
end

/-- The state before trip `n`. -/
def stSeq (v3 : FVec F S2x1024 .f32) (xf xi : Vec F S512x1024 .f32) (st : Vec F S8x128x128 .f32) : ℕ → Vec F S8x128x128 .f32
  | 0 => st
  | n + 1 => if h : n < k0_t1_loop.trips then stStep v3 xf xi ⟨n, h⟩ (stSeq v3 xf xi st n) else stSeq v3 xf xi st n

theorem trips_eq : k0_t1_loop.trips = 8 := by decide +kernel

/-- The trip that writes a row. -/
def tripOf (y : S512x1024.Idx) : Fin k0_t1_loop.trips := ⟨(y (0 : Fin 2)).val / 64, by
  have : (y (0 : Fin 2)).val < 512 := (y (0 : Fin 2)).isLt
  rw [trips_eq]; omega⟩

/-- The block a grid point leaves: each row by the trip of its chunk, at the state before it. -/
def blkOut (v3 : FVec F S2x1024 .f32) (xq xf xi xg : Vec F S512x1024 .f32) (ng : Vec F S1x1024 .f32) (st : Vec F S8x128x128 .f32) :
    Vec F S512x1024 .f32 := fun y =>
  outRows v3 xq xf xi xg ng (stSeq v3 xf xi st (tripOf y).val) (tripOf y) y

section
variable (𝒱 : Variants) (c : Dev nD) (bd : Option 𝒱.V) (i : grid0.Coords)
  (arg2 : Memref sig .tc .vmem S512x1024 .f32) (harg2 : arg2.IsWhole) (arg3 : Memref sig .tc .vmem S512x1024 .f32) (harg3 : arg3.IsWhole)
  (arg4 : Memref sig .tc .vmem S512x1024 .f32) (harg4 : arg4.IsWhole) (arg5 : Memref sig .tc .vmem S512x1024 .f32) (harg5 : arg5.IsWhole)
  (arg6 : Memref sig .tc .vmem S2x1024 .f32) (harg6 : arg6.IsWhole) (arg7 : Memref sig .tc .vmem S1x1024 .f32) (harg7 : arg7.IsWhole)
  (arg8 : Memref sig .tc .vmem S512x1024 .f32) (harg8 : arg8.IsWhole) (arg9 : Memref sig .tc .vmem S8x128x128 .f32) (harg9 : arg9.IsWhole)
  (v3 : Vec F S2x1024 .f32) (X_arg2 : BufTy.Contents (Elt F) arg2.view.ty) (X_arg3 : BufTy.Contents (Elt F) arg3.view.ty)
  (X_arg4 : BufTy.Contents (Elt F) arg4.view.ty) (X_arg5 : BufTy.Contents (Elt F) arg5.view.ty) (X_arg7 : BufTy.Contents (Elt F) arg7.view.ty)
  (G_arg8 : BufTy.Contents (Elt F) arg8.view.ty) (G_arg9 : BufTy.Contents (Elt F) arg9.view.ty)

/-- Before trip `n` the state holds `stSeq n` and the output the rows of the chunks before. -/
theorem pb_read : ∀ n : ℕ, n ≤ k0_t1_loop.trips →
    arg9.view.read (Elt F) (arg9.view.writes (Elt F) G_arg9 (pb_k0_t1 (F := F) 𝒱 c bd i arg2 harg2 arg3 harg3 arg4 harg4 arg5 harg5 arg6 harg6 arg7 harg7 arg8 harg8 arg9 harg9 v3 X_arg2 X_arg3 X_arg4 X_arg5 X_arg7 G_arg8 G_arg9 n).2)
      = stSeq v3 (arg3.view.read (Elt F) X_arg3) (arg4.view.read (Elt F) X_arg4) (arg9.view.read (Elt F) G_arg9) n
    ∧ ∀ y : S512x1024.Idx, arg8.view.read (Elt F) (arg8.view.writes (Elt F) G_arg8 (pb_k0_t1 (F := F) 𝒱 c bd i arg2 harg2 arg3 harg3 arg4 harg4 arg5 harg5 arg6 harg6 arg7 harg7 arg8 harg8 arg9 harg9 v3 X_arg2 X_arg3 X_arg4 X_arg5 X_arg7 G_arg8 G_arg9 n).1) y
      = if (y (0 : Fin 2)).val / 64 < n then blkOut v3 (arg2.view.read (Elt F) X_arg2) (arg3.view.read (Elt F) X_arg3) (arg4.view.read (Elt F) X_arg4)
          (arg5.view.read (Elt F) X_arg5) (arg7.view.read (Elt F) X_arg7) (arg9.view.read (Elt F) G_arg9) y
        else arg8.view.read (Elt F) G_arg8 y
  | 0, _ => ⟨rfl, fun y => by rw [if_neg (Nat.not_lt_zero _)]; rfl⟩
  | n + 1, hn => by
    obtain ⟨ih9, ih8⟩ := pb_read n (Nat.le_of_succ_le hn)
    have hs := pb_k0_t1_succ (F := F) 𝒱 c bd i arg2 harg2 arg3 harg3 arg4 harg4 arg5 harg5 arg6 harg6 arg7 harg7 arg8 harg8 arg9 harg9 v3 X_arg2 X_arg3 X_arg4 X_arg5 X_arg7 G_arg8 G_arg9 ⟨n, hn⟩
    rw [tripL_eq, ih9] at hs
    rw [hs]
    dsimp only
    refine ⟨?_, fun y => ?_⟩
    · rw [View.writes_append]
      refine (read_stPieces _ _ _ _ _ _ _).trans ?_
      rw [stSeq, dif_pos (show n < k0_t1_loop.trips from hn)]
    · rw [View.writes_append]
      refine (read_outPieces _ _ _ _ _ _ _ _ _ _ y).trans ?_
      rw [ih8]
      show (if (y (0 : Fin 2)).val / 64 = n then _ else _) = _
      by_cases h1 : (y (0 : Fin 2)).val / 64 = n
      · rw [if_pos h1, if_pos (by omega)]
        subst h1
        rfl
      · rw [if_neg h1]
        by_cases h2 : (y (0 : Fin 2)).val / 64 < n
        · rw [if_pos h2, if_pos (by omega)]
        · rw [if_neg h2, if_neg (by omega)]
/-- After the loop the output block holds every chunk's rows. -/
theorem loop_out : arg8.view.read (Elt F) (arg8.view.writes (Elt F) G_arg8 (pb_k0_t1 (F := F) 𝒱 c bd i arg2 harg2 arg3 harg3 arg4 harg4 arg5 harg5 arg6 harg6 arg7 harg7 arg8 harg8 arg9 harg9 v3 X_arg2 X_arg3 X_arg4 X_arg5 X_arg7 G_arg8 G_arg9 k0_t1_loop.trips).1)
    = blkOut v3 (arg2.view.read (Elt F) X_arg2) (arg3.view.read (Elt F) X_arg3) (arg4.view.read (Elt F) X_arg4)
        (arg5.view.read (Elt F) X_arg5) (arg7.view.read (Elt F) X_arg7) (arg9.view.read (Elt F) G_arg9) := by
  funext y
  rw [(pb_read 𝒱 c bd i arg2 harg2 arg3 harg3 arg4 harg4 arg5 harg5 arg6 harg6 arg7 harg7 arg8 harg8 arg9 harg9 v3 X_arg2 X_arg3 X_arg4 X_arg5 X_arg7 G_arg8 G_arg9 _ le_rfl).2 y]
  exact if_pos (tripOf y).isLt

/-- After the loop the state is the one after eight trips. -/
theorem loop_st : arg9.view.read (Elt F) (arg9.view.writes (Elt F) G_arg9 (pb_k0_t1 (F := F) 𝒱 c bd i arg2 harg2 arg3 harg3 arg4 harg4 arg5 harg5 arg6 harg6 arg7 harg7 arg8 harg8 arg9 harg9 v3 X_arg2 X_arg3 X_arg4 X_arg5 X_arg7 G_arg8 G_arg9 k0_t1_loop.trips).2)
    = stSeq v3 (arg3.view.read (Elt F) X_arg3) (arg4.view.read (Elt F) X_arg4) (arg9.view.read (Elt F) G_arg9) 8 := by
  rw [(pb_read 𝒱 c bd i arg2 harg2 arg3 harg3 arg4 harg4 arg5 harg5 arg6 harg6 arg7 harg7 arg8 harg8 arg9 harg9 v3 X_arg2 X_arg3 X_arg4 X_arg5 X_arg7 G_arg8 G_arg9 _ le_rfl).1, trips_eq]
end

end Cert.KernelIdeal.Hand
-- ==== Proof.HgrnRun.lean ====
/-
  The kernel's body at one grid point, run on any whole staging memrefs: the block of output rows and the state it leaves.
-/
module

public import proofs.«01_k».proof.Proof.HgrnTrip
public import proofs.«01_k».proof.Proof.Gen.KernelIdeal.Frame.Runs

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem z2 : (![0, 0] : Fin 2 → ℕ) = fun _ => 0 := funext fun a => by fin_cases a <;> rfl
theorem z3 : (![0, 0, 0] : Fin 3 → ℕ) = fun _ => 0 := funext fun a => by fin_cases a <;> rfl

/-- Once the zero state is stored over all of it, the state reads as the zero state. -/
theorem read_reset (arg9 : Memref sig .tc .vmem S8x128x128 .f32) (f : arg9.view.ty.Contents (Elt F)) (x : Vec F S8x128x128 .f32)
    (h : ∀ a, (![0, 0, 0] : Fin 3 → ℕ) a + S8x128x128.size a ≤ S8x128x128.size a) :
    arg9.view.read (Elt F) (arg9.view.writes (Elt F) f [⟨Rect.unit (s := S8x128x128) ![0, 0, 0] S8x128x128.size h, x⟩]) = x := by
  funext y
  have e : (Rect.unit (s := S8x128x128) ![0, 0, 0] S8x128x128.size h).emb y = y := by
    funext a; apply Fin.ext
    match a with
    | ⟨0, _⟩ => show 0 + 1 * (y (0 : Fin 3)).val = (y (0 : Fin 3)).val; omega
    | ⟨1, _⟩ => show 0 + 1 * (y (1 : Fin 3)).val = (y (1 : Fin 3)).val; omega
    | ⟨2, _⟩ => show 0 + 1 * (y (2 : Fin 3)).val = (y (2 : Fin 3)).val; omega
  have := View.read_writes_cons_emb arg9.view f (Rect.unit (s := S8x128x128) ![0, 0, 0] S8x128x128.size h) x [] y
  rwa [e] at this

set_option maxHeartbeats 1000000 in
/-- The body at a point that starts a batch: the output block it leaves and the state it leaves. -/
theorem runA (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S2x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S8x128x128 .f32) (harg9 : arg9.IsWhole) (hc0 : cond0_0 i)
    (x0 : Vec F S512x1024 .f32) (x1 : Vec F S512x1024 .f32) (x2 : Vec F S512x1024 .f32) (x3 : Vec F S512x1024 .f32) (x4 : Vec F S2x1024 .f32) (x5 : Vec F S1x1024 .f32)
      (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (blkOut x4 x0 x1 x2 x3 x5 (k0_pay1 (F := F))) ∗ owns (c : Thread nD τ) arg9 fullShare (stSeq x4 x1 x2 (k0_pay1 (F := F)) 8)) -∗ K ⟨⟩))
          ⊢ wp frame (wpE (defs₀ (F := F)) Variants.none c none) E (cc0_hgrn i arg2 harg2 arg3 harg3 arg4 harg4 arg5 harg5 arg6 harg6 arg7 harg7 arg8 harg8 arg9 harg9) K := by
    simp only [cc0_hgrn_eq_skeleton]; unfold cc0_hgrn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr
      rotate_left
      · iexact H6
      · ipureintro
        refine (loop_out _ _ _ _ _ _ _ _ _ _ _ _ _ _ _ _ _ _ _ _ _ _ _ _ _ _ _ _).trans ?_
        rw [harg2.read_unread, harg3.read_unread, harg4.read_unread, harg5.read_unread, harg7.read_unread, View.readAt_eq_ld, View.ld_unit_zero (S := S2x1024) z2, harg6.read_unread]
        exact congrArg (blkOut x4 x0 x1 x2 x3 x5) (read_reset _ _ _ inb_S8x128x128_S8x128x128_0_0_0)
    · iexists _; isplitr
      rotate_left
      · iexact HS0
      · ipureintro
        rw [View.writes_append]
        refine (loop_st _ _ _ _ _ _ _ _ _ _ _ _ _ _ _ _ _ _ _ _ _ _ _ _ _ _ _ _).trans ?_
        rw [harg3.read_unread, harg4.read_unread, View.readAt_eq_ld, View.ld_unit_zero (S := S2x1024) z2, harg6.read_unread]
        exact congrArg (fun z => stSeq x4 x1 x2 z 8) (read_reset _ _ _ inb_S8x128x128_S8x128x128_0_0_0)

set_option maxHeartbeats 1000000 in
/-- The body at a point within a batch: the output block it leaves and the state it leaves. -/
theorem runB (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S2x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S8x128x128 .f32) (harg9 : arg9.IsWhole) (hc0 : ¬ cond0_0 i)
    (x0 : Vec F S512x1024 .f32) (x1 : Vec F S512x1024 .f32) (x2 : Vec F S512x1024 .f32) (x3 : Vec F S512x1024 .f32) (x4 : Vec F S2x1024 .f32) (x5 : Vec F S1x1024 .f32) (xs0 : Vec F S8x128x128 .f32)
      (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (blkOut x4 x0 x1 x2 x3 x5 (xs0)) ∗ owns (c : Thread nD τ) arg9 fullShare (stSeq x4 x1 x2 (xs0) 8)) -∗ K ⟨⟩))
          ⊢ wp frame (wpE (defs₀ (F := F)) Variants.none c none) E (cc0_hgrn i arg2 harg2 arg3 harg3 arg4 harg4 arg5 harg5 arg6 harg6 arg7 harg7 arg8 harg8 arg9 harg9) K := by
    simp only [cc0_hgrn_eq_skeleton]; unfold cc0_hgrn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr
      rotate_left
      · iexact H6
      · ipureintro
        refine (loop_out _ _ _ _ _ _ _ _ _ _ _ _ _ _ _ _ _ _ _ _ _ _ _ _ _ _ _ _).trans ?_
        rw [harg2.read_unread, harg3.read_unread, harg4.read_unread, harg5.read_unread, harg7.read_unread, View.readAt_eq_ld, View.ld_unit_zero (S := S2x1024) z2, harg6.read_unread, harg9.read_unread]
    · iexists _; isplitr
      rotate_left
      · iexact HS0
      · ipureintro
        refine (loop_st _ _ _ _ _ _ _ _ _ _ _ _ _ _ _ _ _ _ _ _ _ _ _ _ _ _ _ _).trans ?_
        rw [harg3.read_unread, harg4.read_unread, View.readAt_eq_ld, View.ld_unit_zero (S := S2x1024) z2, harg6.read_unread, harg9.read_unread]

end Cert.KernelIdeal.Hand
-- ==== Proof.HgrnFrame.lean ====
/-
  The recurrence kernel's whole run: what each grid point leaves, the body's obligation at every point, and the frame.
-/
module

public import proofs.«01_k».proof.Proof.HgrnRun
public import Idealize.ShloMosaic.Lib.Claim

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What each point leaves -/

/-- The state a point works from: zero where a batch starts, else what the point before left. -/
def stBefore (c : Dev nD) : (n : ℕ) → n < cfg0.N → Vec F S8x128x128 .f32
  | 0, _ => k0_pay1 (F := F)
  | n + 1, hn => if (n + 1) % 16 = 0 then k0_pay1 (F := F) else
      stSeq (iblk m c 4 ⟨n, Nat.lt_of_succ_lt hn⟩) (iblk m c 1 ⟨n, Nat.lt_of_succ_lt hn⟩) (iblk m c 2 ⟨n, Nat.lt_of_succ_lt hn⟩)
        (stBefore c n (Nat.lt_of_succ_lt hn)) 8

/-- The state a point leaves. -/
def stAfter (c : Dev nD) (n : ℕ) (hn : n < cfg0.N) : Vec F S8x128x128 .f32 :=
  stSeq (iblk m c 4 ⟨n, hn⟩) (iblk m c 1 ⟨n, hn⟩) (iblk m c 2 ⟨n, hn⟩) (stBefore m c n hn) 8

/-- The output block a point leaves. -/
def outAfter (c : Dev nD) (n : ℕ) (hn : n < cfg0.N) : Vec F S512x1024 .f32 :=
  blkOut (iblk m c 4 ⟨n, hn⟩) (iblk m c 0 ⟨n, hn⟩) (iblk m c 1 ⟨n, hn⟩) (iblk m c 2 ⟨n, hn⟩) (iblk m c 3 ⟨n, hn⟩) (iblk m c 5 ⟨n, hn⟩) (stBefore m c n hn)

theorem stBefore_A (c : Dev nD) (n : ℕ) (hn : n < cfg0.N) (h0 : n % 16 = 0) : stBefore m c n hn = k0_pay1 (F := F) := by
  cases n with
  | zero => rfl
  | succ n => exact if_pos h0

theorem stBefore_B (c : Dev nD) (n : ℕ) (hn : n < cfg0.N) (h0 : ¬ n % 16 = 0) :
    stBefore m c n hn = stAfter m c (n - 1) (Nat.lt_of_le_of_lt (Nat.sub_le _ _) hn) := by
  cases n with
  | zero => exact absurd rfl h0
  | succ n => exact if_neg h0

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare (stAfter m c n hn)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (stAfter m c n hn)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (stAfter m c (n - 1) (by omega))) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAfter m c t.val t.isLt
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAfter m c t.val t.isLt := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 8000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 32 := lt_of_lt_of_eq t.isLt (show cfg0.N = 32 from N_0)
  by_cases h0 : t.val % 16 = 0
  · by_cases hz : t.val = 0
    · rw [PhiS_castSucc m c t, PhiS_zero m c _ _ hz, PhiA0_eq]
      unfold stAfter outAfter
      rw [stBefore_A m c _ _ h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (runA c (grid0.coords t) _ _ _ _ _ _ _ _ _ _ _ _ _ _ _ _ ((hcond0_0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc m c t, PhiS_pos m c _ _ hz]
      unfold stAfter outAfter
      rw [stBefore_A m c _ _ h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (runA c (grid0.coords t) _ _ _ _ _ _ _ _ _ _ _ _ _ _ _ _ ((hcond0_0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · by_cases hz : t.val = 0
    · exfalso; omega
    · rw [PhiS_castSucc m c t, PhiS_pos m c _ _ hz]
      unfold stAfter outAfter
      rw [stBefore_B m c _ _ h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) _ _ _ _ _ _ _ _ _ _ _ _ _ _ _ _ (fun h => h0 ((hcond0_0 t).mp h)) (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Hand.facts, fun m ρ _ => Cert.KernelIdeal.Hand.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.HgrnBits.lean ====
/-
  The recurrence's kernel over machine floats runs as its twin over the reals: the frame of one is the frame of the other.
-/
module

public import proofs.«01_k».proof.Defs
public import proofs.«01_k».proof.Proof.HgrnFrame
public import proofs.«01_k».proof.Proof.Gen.Kernel
public import proofs.«01_k».proof.Proof.Gen.Kernel.Launch

@[expose] public section

set_option maxRecDepth 16384

noncomputable section

open Idealize.ShloMosaic Idealize.ShloMosaic.TcCoe Idealize.SL.Sem

namespace Cert.Kernel.Hand

variable {F : FTy → Type} [FloatOps F]

/-- The two programs' kernel tables are one. -/
theorem tables : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => exact rfl
  | ⟨_ + 1, h⟩, _ => exact absurd h (Nat.not_lt.2 (Nat.le_add_left _ _))

/-- The two programs' definitions are one. -/
theorem programs : Cert.Kernel.defs (F := F) = Cert.KernelIdeal.defs (F := F) := by
  unfold Cert.Kernel.defs Cert.KernelIdeal.defs
  exact congrArg (Pipeline.defs _) tables

/-- The kernel terminates, keeps its arguments and leaves its semaphores at zero. -/
theorem frame : Cert.quiescent_Kernel := fun m ρ _ => by
  have h := Cert.KernelIdeal.Hand.frame (F := Bits) m ρ
  rw [← programs] at h
  exact h

end Cert.Kernel.Hand
-- ==== Proof.HgrnSpec.lean ====
/-
  The recurrence in plain arithmetic over the extended reals: the forget gate, its running decay within a chunk of 64 rows,
  the state carried from chunk to chunk, and one element of the normed and gated output.
-/
module

public import Idealize.ShloMosaic.PureOps.Ideal

@[expose] public section

noncomputable section

open Idealize.ShloMosaic

namespace Cert.Proof.HgrnSpec

/-- The logistic function. -/
def logi (x : EReal) : EReal := Ideal.div 1 (1 + Ideal.exp (-x))

/-- The forget gate: the lower bound plus its complement times the logistic of the logit. -/
def gateAt (lb x : EReal) : EReal := lb + (1 - lb) * logi x

/-- The first of the two softmax weights of a column: the lower bound of the gate. -/
def lowAt (l0 l1 : EReal) : EReal :=
  Ideal.div (Ideal.exp (l0 - max l0 l1)) (Ideal.exp (l0 - max l0 l1) + Ideal.exp (l1 - max l0 l1))

/-- The running sum of the gate's logarithms down a chunk. -/
def cumAt (lb : Fin 128 → EReal) (xf : Fin 64 → Fin 128 → EReal) (t : Fin 64) (d : Fin 128) : EReal :=
  ∑ s : Fin 64, if s ≤ t then Ideal.log (gateAt (lb d) (xf s d)) else 0

/-- The queries, decayed from the chunk's start. -/
def qAt (lb : Fin 128 → EReal) (xf xq : Fin 64 → Fin 128 → EReal) (t : Fin 64) (d : Fin 128) : EReal :=
  xq t d * logi (xq t d) * Ideal.exp (cumAt lb xf t d)

/-- The keys, decayed from the chunk's start. -/
def kAt (lb : Fin 128 → EReal) (xf : Fin 64 → Fin 128 → EReal) (s : Fin 64) (d : Fin 128) : EReal :=
  (1 - gateAt (lb d) (xf s d)) * Ideal.exp (-cumAt lb xf s d)

/-- The keys, decayed to the chunk's end. -/
def endAt (lb : Fin 128 → EReal) (xf : Fin 64 → Fin 128 → EReal) (s : Fin 64) (d : Fin 128) : EReal :=
  (1 - gateAt (lb d) (xf s d)) * Ideal.exp (cumAt lb xf 63 d - cumAt lb xf s d)

/-- The state after a chunk, of the state before it. -/
def nextAt (lb : Fin 128 → EReal) (xf xi : Fin 64 → Fin 128 → EReal) (st : Fin 128 → Fin 128 → EReal) (d v : Fin 128) : EReal :=
  Ideal.exp (cumAt lb xf 63 d) * st d v + ∑ s : Fin 64, endAt lb xf s d * xi s v

/-- A chunk's output before the norm: causal attention within the chunk plus the read of the state before it. -/
def rawAt (lb : Fin 128 → EReal) (xf xq xi : Fin 64 → Fin 128 → EReal) (st : Fin 128 → Fin 128 → EReal) (t : Fin 64) (v : Fin 128) : EReal :=
  (∑ s : Fin 64, (if s ≤ t then ∑ d : Fin 128, qAt lb xf xq t d * kAt lb xf s d else 0) * xi s v)
    + ∑ d : Fin 128, qAt lb xf xq t d * st d v

/-- One element of a row after its root-mean-square norm, the gain and the output gate. -/
def normAt (row : Fin 128 → EReal) (g : EReal) (x : EReal) (v : Fin 128) : EReal :=
  row v * Ideal.rsqrt (Ideal.div (∑ u, row u * row u) (Ideal.ofBits FTy.f32 1124073472#32) + Ideal.ofBits FTy.f32 897988541#32) * g * (x * logi x)

/-! ## The whole arrays -/

/-- A chunk of a head in an array of columns: rows `8192 b + 64 n + t`, columns `o + 128 h + d`. -/
def chunk (A : Fin 16384 → Fin 12288 → EReal) (o : Fin 8192) (b : Fin 2) (h : Fin 8) (n : Fin 128) (t : Fin 64) (d : Fin 128) : EReal :=
  A ⟨8192 * b.val + 64 * n.val + t.val, by omega⟩ ⟨o.val + 128 * h.val + d.val, by omega⟩

/-- The lower bounds of a head. -/
def lows (L : Fin 2 → Fin 1024 → EReal) (h : Fin 8) (d : Fin 128) : EReal :=
  lowAt (L 0 ⟨128 * h.val + d.val, by omega⟩) (L 1 ⟨128 * h.val + d.val, by omega⟩)

/-- The state before chunk `n`. -/
def stateAt (A : Fin 16384 → Fin 12288 → EReal) (L : Fin 2 → Fin 1024 → EReal) (b : Fin 2) (h : Fin 8) : ℕ → Fin 128 → Fin 128 → EReal
  | 0 => fun _ _ => 0
  | n + 1 => if hn : n < 128 then
      nextAt (lows L h) (chunk A 5120 b h ⟨n, hn⟩) (chunk A 6144 b h ⟨n, hn⟩) (stateAt A L b h n)
    else stateAt A L b h n

/-- The state after a chunk. -/
theorem stateAt_succ (A : Fin 16384 → Fin 12288 → EReal) (L : Fin 2 → Fin 1024 → EReal) (b : Fin 2) (h : Fin 8) (n : ℕ) (hn : n < 128) :
    stateAt A L b h (n + 1) = nextAt (lows L h) (chunk A 5120 b h ⟨n, hn⟩) (chunk A 6144 b h ⟨n, hn⟩) (stateAt A L b h n) := by
  rw [stateAt, dif_pos hn]

/-- One element of the output: row `t` of chunk `n` of sequence `b`, column `v` of head `h`. -/
def outAt (A : Fin 16384 → Fin 12288 → EReal) (L : Fin 2 → Fin 1024 → EReal) (N : Fin 1024 → EReal)
    (b : Fin 2) (h : Fin 8) (n : Fin 128) (t : Fin 64) (v : Fin 128) : EReal :=
  normAt (rawAt (lows L h) (chunk A 5120 b h n) (chunk A 4096 b h n) (chunk A 6144 b h n) (stateAt A L b h n.val) t)
    (N ⟨128 * h.val + v.val, by omega⟩) (chunk A 7168 b h n t v) v

/-- The output by row and column. -/
def out (A : Fin 16384 → Fin 12288 → EReal) (L : Fin 2 → Fin 1024 → EReal) (N : Fin 1024 → EReal) (i : Fin 16384) (j : Fin 1024) : EReal :=
  outAt A L N ⟨i.val / 8192, by omega⟩ ⟨j.val / 128, by omega⟩ ⟨i.val % 8192 / 64, by omega⟩ ⟨i.val % 64, by omega⟩ ⟨j.val % 128, by omega⟩

/-- The maximum of two, folded from `⊥`. -/
theorem fold_two (f : Fin 2 → EReal) : Finset.fold max (Ideal.ofBits FTy.f32 4286578688#32) f Finset.univ = max (f 0) (f 1) := by
  rw [show Ideal.ofBits FTy.f32 4286578688#32 = ⊥ by simp [Ideal.ofBits, Ideal.ieee], show (Finset.univ : Finset (Fin 2)) = {0, 1} from rfl,
    Finset.fold_insert (by decide), Finset.fold_singleton, max_bot_right]

/-! ## The gate's logarithm is never `⊤` -/

/-- The exponential of a value at most the bound it is taken from is a real number, not below zero. -/
theorem exp_sub_real {x y : EReal} (h : x ≤ y) : ∃ r : ℝ, 0 ≤ r ∧ Ideal.exp (x - y) = (r : EReal) := by
  induction x using EReal.rec with
  | bot => exact ⟨0, le_refl _, by rw [EReal.bot_sub]; rfl⟩
  | top =>
    obtain rfl := top_le_iff.mp h
    exact ⟨0, le_refl _, by rw [sub_eq_add_neg, EReal.neg_top, EReal.add_bot]; rfl⟩
  | coe x =>
    induction y using EReal.rec with
    | bot => exact absurd h (by simp)
    | top => exact ⟨0, le_refl _, by rw [sub_eq_add_neg, EReal.neg_top, EReal.add_bot]; rfl⟩
    | coe y => exact ⟨Real.exp (x - y), (Real.exp_pos _).le, by rw [← EReal.coe_sub]; rfl⟩

/-- The lower bound is a real number or `⊥`. -/
theorem lowAt_real (l0 l1 : EReal) : lowAt l0 l1 = ⊥ ∨ ∃ r : ℝ, lowAt l0 l1 = (r : EReal) := by
  obtain ⟨a, ha, ea⟩ := exp_sub_real (le_max_left l0 l1)
  obtain ⟨b, hb, eb⟩ := exp_sub_real (le_max_right l0 l1)
  unfold lowAt
  rw [ea, eb, ← EReal.coe_add]
  by_cases h : a + b = 0
  · left
    have : a = 0 := by linarith
    subst this
    rw [h]
    simp [Ideal.div]
  · right
    exact ⟨a * (1 / (a + b)), by rw [Ideal.div_coe h, ← EReal.coe_mul]⟩

/-- The logistic is a real number. -/
theorem logi_real (x : EReal) : ∃ r : ℝ, logi x = (r : EReal) := by
  unfold logi
  induction x using EReal.rec with
  | bot => exact ⟨0, by
      rw [EReal.neg_bot, Ideal.exp_top, show (1 : EReal) = ((1 : ℝ) : EReal) from rfl, EReal.coe_add_top]
      simp [Ideal.div]⟩
  | top => exact ⟨1, by
      rw [EReal.neg_top, Ideal.exp_bot, add_zero, show (1 : EReal) = ((1 : ℝ) : EReal) from rfl, Ideal.div_coe one_ne_zero, ← EReal.coe_mul]
      norm_num⟩
  | coe x => exact ⟨1 * (1 / (1 + Real.exp (-x))), by
      rw [← EReal.coe_neg, Ideal.exp_coe, show (1 : EReal) = ((1 : ℝ) : EReal) from rfl, ← EReal.coe_add,
        Ideal.div_coe (by positivity), ← EReal.coe_mul]⟩

/-- The logarithm of a gate with such a bound is not `⊤`. -/
theorem log_gateAt_ne_top {lb : EReal} (h : lb = ⊥ ∨ ∃ r : ℝ, lb = (r : EReal)) (x : EReal) : Ideal.log (gateAt lb x) ≠ ⊤ := by
  obtain ⟨s, hs⟩ := logi_real x
  unfold gateAt
  rw [hs]
  rcases h with rfl | ⟨r, rfl⟩
  · rw [EReal.bot_add]
    exact bot_ne_top
  · rw [show (1 : EReal) = ((1 : ℝ) : EReal) from rfl, ← EReal.coe_sub, ← EReal.coe_mul, ← EReal.coe_add, Ideal.log_coe]
    split
    · exact bot_ne_top
    · exact EReal.coe_ne_top _

/-- A value other than `⊤` plus what it leaves of itself is itself. -/
theorem add_sub_self {x : EReal} (h : x ≠ ⊤) : x + (x - x) = x := by
  induction x using EReal.rec with
  | bot => rw [EReal.bot_add]
  | top => exact absurd rfl h
  | coe x => rw [← EReal.coe_sub, sub_self, EReal.coe_zero, add_zero]

/-- The two triangular sums, of the values and of what they leave of themselves, are the running sum. -/
theorem tri_sums (f : Fin 64 → EReal) (hf : ∀ s, f s ≠ ⊤) (t : Fin 64) :
    (∑ s, (if s ≤ t then (1 : EReal) else 0) * f s) + (∑ s, (if s ≤ t then (1 : EReal) else 0) * (f s - f s))
      = ∑ s, if s ≤ t then f s else 0 := by
  rw [← Finset.sum_add_distrib]
  refine Finset.sum_congr rfl fun s _ => ?_
  split
  · rw [one_mul, one_mul, add_sub_self (hf s)]
  · rw [zero_mul, zero_mul, add_zero]

end Cert.Proof.HgrnSpec
-- ==== Proof.HgrnArr.lean ====
/-
  The array the recurrence kernel leaves, element by element, and the run stated at it.
-/
module

public import proofs.«01_k».proof.Proof.HgrnFrame
public import Idealize.ShloMosaic.Lib.Pipeline.Value

@[expose] public section

noncomputable section

namespace Cert.KernelIdeal.HandValue

open Cert.KernelIdeal Cert.KernelIdeal.Hand Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) (outAfter m c t.val t.isLt) := by
  show (cfg0.win 6).cut (grid0.coords t) ((dats m 0 c).after 6 t) = _
  rw [after0_6]

/-- The index map sends distinct grid points to distinct block indices (decided over the 32 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S16384x1024.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0) = (dats m 0 c).arrAt 6 cfg0.N :=
  (h c).1 6

/-- After the frame run, argument `main_arg0` is as launched: input window 3 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- After the frame run, argument `main_arg1` is as launched: input window 4 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))

/-- After the frame run, argument `main_arg2` is as launched: input window 5 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 5).trans (((dats m 0 c).arrAt_in 5 rfl _).trans ((A_eq m c 5).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post6 m r h c,
      kept_main_arg0 m r h c,
      kept_main_arg1 m r h c,
      kept_main_arg2 m r h c⟩)
    (run_main m ρ)

/-- The block a point leaves depends on the point alone. -/
theorem outAfter_congr (c : Dev nD) : ∀ (j : ℕ) (h : j < cfg0.N) (j' : ℕ) (h' : j' < cfg0.N), j = j' →
    outAfter m c j h = outAfter m c j' h' := by
  intro j h j' h' hj; subst hj; rfl

/-! ## Output window 6 -/

/-- The block of the array that holds index `i`, numbered in the order the points write the blocks back (one per point),
    `i`'s place in it, and the point that writes it back. -/
abbrev run6Of (i : S16384x1024.Idx) : ℕ := 1 * ((i 0).val / 512 - 0) + 1 * ((i 1).val / 1024 - 0)
set_option backward.proofsInPublic true in
abbrev loc6Of (i : S16384x1024.Idx) : S512x1024.Idx := fun a => match a with
  | ⟨0, _⟩ => ⟨(i 0).val % 512, Nat.mod_lt _ (by decide)⟩
  | ⟨1, _⟩ => ⟨(i 1).val % 1024, Nat.mod_lt _ (by decide)⟩
abbrev pt6Of (i : S16384x1024.Idx) : ℕ := run6Of i

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v0) := fun i =>
  if h : pt6Of i < cfg0.N then
    outAfter m c (pt6Of i) h (loc6Of i)
  else V m c (Pipeline.arrRef spec0 6) i

/-- The printed index map, decided over the grid: output window 6's block indices stay in the box, and the block number
    read off them is the point's (`t`). -/
theorem idx_facts6 : ∀ t : Fin cfg0.N, 0 ≤ win0_6.index t (0 : Fin 2) ∧ win0_6.index t (0 : Fin 2) ≤ 31
    ∧ 0 ≤ win0_6.index t (1 : Fin 2) ∧ win0_6.index t (1 : Fin 2) ≤ 0
    ∧ 1 * (win0_6.index t (0 : Fin 2) - 0) + 1 * (win0_6.index t (1 : Fin 2) - 0) = t.val :=
  (by decide +kernel : ∀ t : Fin grid0.N, _)

/-- Every block of the box is SOME flushing point's: `onto6Pt`, the point that writes back the block at place `q` of the box. -/
abbrev onto6Pt (q0 : Fin 32) (q1 : Fin 1) : Fin grid0.N :=
  ⟨1 * q0.val + 1 * q1.val, lt_of_lt_of_eq (by omega) N_0.symm⟩
theorem idx_onto6 : ∀ (q0 : Fin 32) (q1 : Fin 1), ∃ t : Fin cfg0.N, (cfg0.win 6).flush t = true ∧ win0_6.index t = ![q0.val + 0, q1.val + 0] :=
  fun q0 q1 => ⟨onto6Pt q0 q1, (by decide +kernel : ∀ (q0 : Fin 32) (q1 : Fin 1), win0_6.flush (onto6Pt q0 q1) = true ∧ win0_6.index (onto6Pt q0 q1) = ![q0.val + 0, q1.val + 0]) q0 q1⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6]
  obtain ⟨e0, e1, e2⟩ := idx_facts6 t
  funext y
  have hy0 : (y 0).val < 512 := (y 0).isLt
  have hy1 : (y 1).val < 1024 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 1024 + 1 * (y 1).val := rfl
  have hr : run6Of (((cfg0.win 6).blk t).view.emb y) = t.val := by
    show 1 * ((((cfg0.win 6).blk t).view.emb y 0).val / 512 - 0) + 1 * ((((cfg0.win 6).blk t).view.emb y 1).val / 1024 - 0) = _
    rw [hb0, hb1]
    rw [show (win0_6.index t (0 : Fin 2) * 512 + 1 * (y 0).val) / 512 = win0_6.index t (0 : Fin 2) from by omega]; rw [show (win0_6.index t (1 : Fin 2) * 1024 + 1 * (y 1).val) / 1024 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 512 = (y 0).val; rw [hb0]; omega
    | ⟨1, _⟩ => show (((cfg0.win 6).blk t).view.emb y 1).val % 1024 = (y 1).val; rw [hb1]; omega
  have hp : pt6Of (((cfg0.win 6).blk t).view.emb y) = t.val := by
    exact hr
  show outAfter m c t.val t.isLt ((cfg0.win 6).xinj (grid0.coords t) y) = G6 m c (((cfg0.win 6).blk t).view.emb y)
  unfold G6
  rw [dif_pos (by rw [hp]; exact t.isLt), hl]
  exact congrFun (outAfter_congr m c _ _ _ _ hp.symm) _

/-- An index of the array is in point `t`'s block iff each coordinate is in the block's range on its axis. -/
theorem mem_blk6 (t : Fin cfg0.N) (i : S16384x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v0).slice (win0_6.rect t)).set ↔ _
  rw [View.set_slice_whole, Rect.mem_set_unit]
  exact Iff.rfl

/-- THE COVERED INDICES: in some flushing point's block iff inside the box those blocks fill. -/
theorem covered_iff6 (i : S16384x1024.Idx) :
    (∃ t : Fin cfg0.N, (cfg0.win 6).flush t = true ∧ i ∈ ((cfg0.win 6).blk t).view.set) ↔ 0 ≤ (i 0).val ∧ (i 0).val < 16384 ∧ 0 ≤ (i 1).val ∧ (i 1).val < 1024 := by
  constructor
  · rintro ⟨t, -, hi⟩
    rw [mem_blk6] at hi
    have b0 : win0_6.index t (0 : Fin 2) * 512 ≤ (i 0).val ∧ (i 0).val < win0_6.index t (0 : Fin 2) * 512 + 512 := hi 0
    have b1 : win0_6.index t (1 : Fin 2) * 1024 ≤ (i 1).val ∧ (i 1).val < win0_6.index t (1 : Fin 2) * 1024 + 1024 := hi 1
    obtain ⟨e0, e1, e2⟩ := idx_facts6 t
    omega
  · intro h
    have hi0 : (i 0).val < 16384 := (i 0).isLt
    have hi1 : (i 1).val < 1024 := (i 1).isLt
    obtain ⟨t, hft, ht⟩ := idx_onto6 ⟨(i 0).val / 512 - 0, by omega⟩ ⟨(i 1).val / 1024 - 0, by omega⟩
    have q0 : win0_6.index t (0 : Fin 2) = (i 0).val / 512 - 0 + 0 := congrFun ht 0
    have q1 : win0_6.index t (1 : Fin 2) = (i 1).val / 1024 - 0 + 0 := congrFun ht 1
    refine ⟨t, hft, ?_⟩
    rw [mem_blk6]
    intro a
    match a with
    | ⟨0, _⟩ => show win0_6.index t (0 : Fin 2) * 512 ≤ (i 0).val ∧ (i 0).val < win0_6.index t (0 : Fin 2) * 512 + 512; omega
    | ⟨1, _⟩ => show win0_6.index t (1 : Fin 2) * 1024 ≤ (i 1).val ∧ (i 1).val < win0_6.index t (1 : Fin 2) * 1024 + 1024; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 16384 := (i 0).isLt; have h1 : (i 1).val < 1024 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v0) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post6 m r h c).trans (final6 m c),
      kept_main_arg0 m r h c,
      kept_main_arg1 m r h c,
      kept_main_arg2 m r h c⟩)
    (run_main m ρ)

end Cert.KernelIdeal.HandValue

end
-- ==== Proof.HgrnHeadValue.lean ====
/-
  One chunk of one head of the kernel at an index, over the extended reals: the vector operations of the chunk are the plain
  arithmetic of the recurrence.
-/
module

public import proofs.«01_k».proof.Defs
public import proofs.«01_k».proof.Proof.HgrnHead
public import proofs.«01_k».proof.Proof.HgrnSpec
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.HandHead

open Cert.KernelIdeal Cert.KernelIdeal.Gen Cert.KernelIdeal.Hand Cert.Proof.HgrnSpec

/-- A vector of rows, by row and column. -/
def rows (x : FVec Ideal S64x128 .f32) : Fin 64 → Fin 128 → EReal := fun t d => x (ix2 t d)

/-- A single row, by column. -/
def row (x : FVec Ideal S1x128 .f32) : Fin 128 → EReal := fun d => x (ix2 0 d)

/-- The state of a head; the kernel keeps it with the value's axis first. -/
def stateOf (st : FVec Ideal S1x128x128 .f32) : Fin 128 → Fin 128 → EReal := fun d v => st (ix3 0 v d)

/-- The logistic at an index. -/
theorem sigm_apply (x : FVec Ideal S64x128 .f32) (t : Fin 64) (d : Fin 128) : sigm x (ix2 t d) = logi (x (ix2 t d)) := by
  pointwise [sigm, ones, zeros, logi]
  simp only [sub_eq_add_neg, zero_add]

/-- The gate at an index. -/
theorem gate_apply (lb : FVec Ideal S1x128 .f32) (x : FVec Ideal S64x128 .f32) (t : Fin 64) (d : Fin 128) :
    gate lb x (ix2 t d) = gateAt (row lb d) (rows x t d) := by
  pointwise [gate, sigm_apply, ones, gateAt, row, rows]

/-- The causal mask at an index. -/
theorem mask_apply (t s : Fin 64) : k0_pay3 (ix2 t s) = if s ≤ t then 1#1 else 0#1 := by
  revert t s
  decide +kernel

/-- The triangular matrix of ones at an index. -/
theorem tri_apply (t s : Fin 64) : (k0_pay4 (F := Ideal)) (ix2 t s) = if s ≤ t then (1 : EReal) else 0 := by
  pointwise [k0_pay4, mask_apply]
  split <;> rfl

/-- The running sum at an index. -/
theorem cum_apply (lb : FVec Ideal S1x128 .f32) (x : FVec Ideal S64x128 .f32) (hl : ∀ d, row lb d = ⊥ ∨ ∃ r : ℝ, row lb d = (r : EReal))
    (t : Fin 64) (d : Fin 128) : cumLog lb x (ix2 t d) = cumAt (row lb) (rows x) t d := by
  have hi : ∀ s, hiPart lb x (ix2 s d) = Ideal.log (gateAt (row lb d) (rows x s d)) := fun s => by
    pointwise [hiPart, gate_apply]
  have lo : ∀ s, loPart lb x (ix2 s d) = Ideal.log (gateAt (row lb d) (rows x s d)) - Ideal.log (gateAt (row lb d) (rows x s d)) := fun s => by
    pointwise [loPart, hiPart, gate_apply]
  unfold cumAt
  rw [← tri_sums _ (fun s => log_gateAt_ne_top (hl d) (rows x s d)) t]
  pointwise [cumLog, tri_apply, hi, lo]

variable (lb : FVec Ideal S1x128 .f32) (xf xq xi xg : FVec Ideal S64x128 .f32) (ng : FVec Ideal S1x128 .f32) (st : FVec Ideal S1x128x128 .f32)
  (hl : ∀ d, row lb d = ⊥ ∨ ∃ r : ℝ, row lb d = (r : EReal))

include hl in
/-- The chunk's whole decay at a column. -/
theorem last_apply (d : Fin 128) : lastLog lb xf (ix2 0 d) = cumAt (row lb) (rows xf) 63 d := by
  rw [← cum_apply lb xf hl]
  pointwise [lastLog]

include hl in
/-- The decayed queries at an index. -/
theorem q_apply (t : Fin 64) (d : Fin 128) : qDec lb xf xq (ix2 t d) = qAt (row lb) (rows xf) (rows xq) t d := by
  have := cum_apply lb xf hl t d
  pointwise [qDec, swish, sigm_apply, qAt, rows, this]

include hl in
/-- The decayed keys at an index. -/
theorem k_apply (s : Fin 64) (d : Fin 128) : kDec lb xf (ix2 s d) = kAt (row lb) (rows xf) s d := by
  have := cum_apply lb xf hl s d
  pointwise [kDec, keyGate, ones, zeros, gate_apply, kAt, this]
  simp only [sub_eq_add_neg, zero_add]

include hl in
/-- The keys decayed to the chunk's end, at an index. -/
theorem end_apply (s : Fin 64) (d : Fin 128) : kEnd lb xf (ix2 s d) = endAt (row lb) (rows xf) s d := by
  have h1 := cum_apply lb xf hl s d
  have h2 := last_apply lb xf hl d
  pointwise [kEnd, keyGate, ones, gate_apply, endAt, h1, h2]

include hl in
/-- The state after the chunk. -/
theorem headSt_apply (v d : Fin 128) :
    headSt lb xf xi st (ix3 0 v d) = nextAt (row lb) (rows xf) (rows xi) (stateOf st) d v := by
  have h1 := fun s => end_apply lb xf hl s d
  have h2 := last_apply lb xf hl d
  pointwise [headSt, nextAt, h1, h2, rows, stateOf]
  rw [mul_comm]
  exact congrArg _ (Finset.sum_congr rfl fun s _ => mul_comm _ _)

include hl in
/-- The chunk's output before the norm. -/
theorem raw_apply (t : Fin 64) (v : Fin 128) :
    rawOut lb xf xq xi st (ix2 t v) = rawAt (row lb) (rows xf) (rows xq) (rows xi) (stateOf st) t v := by
  have h1 := fun d => q_apply lb xf xq hl t d
  have h2 := fun s d => k_apply lb xf hl s d
  pointwise [rawOut, rawAt, zeros, h1, h2, mask_apply, rows, stateOf]
  refine congrArg (· + _) (Finset.sum_congr rfl fun s _ => ?_)
  by_cases hs : s ≤ t
  · simp [hs, Scalar.select]
  · simp [hs, Scalar.select]

include hl in
/-- The chunk's output rows. -/
theorem headOut_apply (t : Fin 64) (v : Fin 128) :
    headOut lb xf xq xi xg ng st (ix2 t v)
      = normAt (rawAt (row lb) (rows xf) (rows xq) (rows xi) (stateOf st) t) (row ng v) (rows xg t v) v := by
  have h1 := fun u => raw_apply lb xf xq xi st hl t u
  pointwise [headOut, normed, swish, sigm_apply, normAt, h1, rows, row]

/-- The lower bounds. -/
theorem low_apply (v3 : FVec Ideal S2x1024 .f32) (j : Fin 1024) : (k0_pay2 v3 : FVec Ideal S1x1024 .f32) (ix2 0 j) = lowAt (v3 (ix2 0 j)) (v3 (ix2 1 j)) := by
  pointwise [k0_pay2, lowAt]
  rw [fold_two, Fin.sum_univ_two]

end Cert.KernelIdeal.HandHead
-- ==== Proof.HgrnValue.lean ====
/-
  What the recurrence kernel's array holds, element by element: the state carried over the grid's points and a point's chunks is the
  recurrence's, and each row is the recurrence's output.
-/
module

public import proofs.«01_k».proof.Defs
public import proofs.«01_k».proof.Proof.HgrnSpec
public import proofs.«01_k».proof.Proof.HgrnArr
public import proofs.«01_k».proof.Proof.HgrnHeadValue
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.HandGlobal

open Cert.KernelIdeal Cert.KernelIdeal.Gen Cert.KernelIdeal.Hand Cert.KernelIdeal.HandHead Cert.KernelIdeal.HandValue Cert.Proof.HgrnSpec

/-! ## Tiles at an index -/

/-- A rectangle of rows and columns read at an index. -/
theorem ld_rect (X : Vec Ideal S512x1024 .f32) (off : Fin 2 → ℕ) (inb : ∀ a, off a + S64x128.size a ≤ S512x1024.size a) (r0 c0 : ℕ)
    (e : off = ![r0, c0]) (t : Fin 64) (d : Fin 128) (hr : r0 + t.val < 512) (hc : c0 + d.val < 1024) :
    (View.ld X (Rect.unit (s := S512x1024) off S64x128.size inb) : FVec Ideal S64x128 .f32) (ix2 t d) = X (ix2 ⟨r0 + t.val, hr⟩ ⟨c0 + d.val, hc⟩) := by
  subst e
  refine congrArg X (funext fun a => ?_)
  fin_cases a
  · exact Fin.ext (by show r0 + 1 * t.val = r0 + t.val; omega)
  · exact Fin.ext (by show c0 + 1 * d.val = c0 + d.val; omega)

/-- A chunk's tile of a head. -/
theorem ld_tile (X : Vec Ideal S512x1024 .f32) (k : Fin k0_t1_loop.trips) (h : Fin 8) (t : Fin 64) (d : Fin 128) (hr : 64 * k.val + t.val < 512) :
    rows (View.ld X (tile k h)) t d = X (ix2 ⟨64 * k.val + t.val, hr⟩ ⟨128 * h.val + d.val, by omega⟩) :=
  ld_rect X _ _ _ _ (offs_eq k h) t d hr (by omega)

/-- A head's state. -/
theorem ld_state (st : Vec Ideal S8x128x128 .f32) (h : Fin 8) (d v : Fin 128) : stateOf (View.ld st (stTile h)) d v = st (ix3 h v d) := by
  refine congrArg st (funext fun a => ?_)
  fin_cases a
  · exact Fin.ext (by show h.val + 1 * 0 = h.val; omega)
  · exact Fin.ext (by show 0 + 1 * v.val = v.val; omega)
  · exact Fin.ext (by show 0 + 1 * d.val = d.val; omega)

/-- A head's gains. -/
theorem ld_gain (ng : Vec Ideal S1x1024 .f32) (h : Fin 8) (v : Fin 128) : row (View.ld ng (ngTile h)) v = ng (ix2 0 ⟨128 * h.val + v.val, by omega⟩) := by
  refine congrArg ng (funext fun a => ?_)
  fin_cases a
  · exact Fin.ext (by show 0 + 1 * 0 = 0; omega)
  · exact Fin.ext (by show 128 * h.val + 1 * v.val = 128 * h.val + v.val; omega)

/-- A head's bounds. -/
theorem lb_apply (v3 : FVec Ideal S2x1024 .f32) (L : Fin 2 → Fin 1024 → EReal) (hL : ∀ r j, v3 (ix2 r j) = L r j) (h : Fin 8) :
    row (lbOf v3 h) = lows L h := by
  funext d
  have e : ∀ w : FVec Ideal S1x1024 .f32, (extractStridedSlice S1x128 ![0, 128 * h.val] w (lbSlices h) : FVec Ideal S1x128 .f32) (ix2 0 d)
      = w (ix2 0 ⟨128 * h.val + d.val, by omega⟩) := fun w => by
    refine congrArg w (funext fun a => ?_)
    fin_cases a
    · exact Fin.ext (by show 0 + 0 = 0; omega)
    · exact Fin.ext (by show 128 * h.val + d.val = 128 * h.val + d.val; rfl)
  refine (e (k0_pay2 v3)).trans ?_
  rw [low_apply, hL, hL]
  rfl

/-! ## One block -/

/-- A block holds chunks `n0 …` of sequence `b` of the columns from `o`. -/
def Holds (X : Vec Ideal S512x1024 .f32) (A : Fin 16384 → Fin 12288 → EReal) (b : Fin 2) (n0 : ℕ) (hn0 : n0 + 8 ≤ 128) (o : Fin 8192) : Prop :=
  ∀ (k : ℕ) (hk : k < 8) (h : Fin 8) (t : Fin 64) (d : Fin 128),
    X (ix2 ⟨64 * k + t.val, by omega⟩ ⟨128 * h.val + d.val, by omega⟩) = chunk A o b h ⟨n0 + k, by omega⟩ t d

/-- A tile of such a block is the chunk. -/
theorem rows_eq (A : Fin 16384 → Fin 12288 → EReal) (b : Fin 2) (n0 : ℕ) (hn0 : n0 + 8 ≤ 128) (X : Vec Ideal S512x1024 .f32) (o : Fin 8192) (hX : Holds X A b n0 hn0 o) (k : Fin k0_t1_loop.trips) (hk : k.val < 8) (h : Fin 8) :
    rows (View.ld X (tile k h)) = chunk A o b h ⟨n0 + k.val, by omega⟩ := by
  funext t d
  rw [ld_tile X k h t d (by omega)]
  exact hX k.val hk h t d

/-- The bounds are real or minus infinity. -/
theorem lows_real (L : Fin 2 → Fin 1024 → EReal) (h : Fin 8) (d : Fin 128) : lows L h d = ⊥ ∨ ∃ r : ℝ, lows L h d = (r : EReal) := lowAt_real _ _

section
variable (v3 : FVec Ideal S2x1024 .f32) (xq xf xi xg : Vec Ideal S512x1024 .f32) (ng : Vec Ideal S1x1024 .f32) (st : Vec Ideal S8x128x128 .f32)
  (A : Fin 16384 → Fin 12288 → EReal) (L : Fin 2 → Fin 1024 → EReal) (N : Fin 1024 → EReal) (b : Fin 2) (n0 : ℕ) (hn0 : n0 + 8 ≤ 128)
  (hL : ∀ r j, v3 (ix2 r j) = L r j) (hN : ∀ j, ng (ix2 0 j) = N j)
  (hq : Holds xq A b n0 hn0 4096) (hf : Holds xf A b n0 hn0 5120) (hi : Holds xi A b n0 hn0 6144) (hg : Holds xg A b n0 hn0 7168)

include hL hf hi in
/-- The state within a block follows the recurrence. -/
theorem seq_apply (hst : ∀ h v d, st (ix3 h v d) = stateAt A L b h n0 d v) (k : ℕ) (hk : k ≤ 8) (h : Fin 8) (v d : Fin 128) :
    stSeq v3 xf xi st k (ix3 h v d) = stateAt A L b h (n0 + k) d v := by
  induction k generalizing h v d with
  | zero => exact hst h v d
  | succ k ih =>
    have hT : k < k0_t1_loop.trips := by rw [trips_eq]; omega
    have e : stSeq v3 xf xi st (k + 1) = stStep v3 xf xi ⟨k, hT⟩ (stSeq v3 xf xi st k) := by rw [stSeq, dif_pos hT]
    rw [e]
    refine (headSt_apply (lbOf v3 h) (View.ld xf (tile ⟨k, hT⟩ h)) (View.ld xi (tile ⟨k, hT⟩ h)) (View.ld (stSeq v3 xf xi st k) (stTile h)) (fun d => by rw [lb_apply v3 L hL h]; exact lows_real L h d) v d).trans ?_
    have eS : stateOf (View.ld (stSeq v3 xf xi st k) (stTile h)) = stateAt A L b h (n0 + k) :=
      funext fun d => funext fun v => (ld_state _ h d v).trans (ih (by omega) h v d)
    rw [lb_apply v3 L hL h, eS]
    have eF := rows_eq A b n0 hn0 xf 5120 hf ⟨k, hT⟩ (by show k < 8; omega) h
    have eI := rows_eq A b n0 hn0 xi 6144 hi ⟨k, hT⟩ (by show k < 8; omega) h
    refine Eq.trans ?_ (congrFun (congrFun (stateAt_succ A L b h (n0 + k) (by omega)) d) v).symm
    exact congrArg₂ (fun x y => nextAt (lows L h) x y (stateAt A L b h (n0 + k)) d v) eF eI

include hL hN hq hf hi hg in
/-- The block's output is the recurrence's. -/
theorem blk_apply (hst : ∀ h v d, st (ix3 h v d) = stateAt A L b h n0 d v) (r : Fin 512) (j : Fin 1024) :
    blkOut v3 xq xf xi xg ng st (ix2 r j)
      = outAt A L N b ⟨j.val / 128, by omega⟩ ⟨n0 + r.val / 64, by omega⟩ ⟨r.val % 64, by omega⟩ ⟨j.val % 128, by omega⟩ := by
  have hT : r.val / 64 < k0_t1_loop.trips := by rw [trips_eq]; omega
  refine (headOut_apply (lbOf v3 ⟨j.val / 128, by omega⟩) (View.ld xf (tile ⟨r.val / 64, hT⟩ ⟨j.val / 128, by omega⟩)) (View.ld xq (tile ⟨r.val / 64, hT⟩ ⟨j.val / 128, by omega⟩))
    (View.ld xi (tile ⟨r.val / 64, hT⟩ ⟨j.val / 128, by omega⟩)) (View.ld xg (tile ⟨r.val / 64, hT⟩ ⟨j.val / 128, by omega⟩)) (View.ld ng (ngTile ⟨j.val / 128, by omega⟩))
    (View.ld (stSeq v3 xf xi st (r.val / 64)) (stTile ⟨j.val / 128, by omega⟩))
    (fun d => by rw [lb_apply v3 L hL]; exact lows_real L _ d) ⟨r.val % 64, by omega⟩ ⟨j.val % 128, by omega⟩).trans ?_
  have eS : stateOf (View.ld (stSeq v3 xf xi st (r.val / 64)) (stTile ⟨j.val / 128, by omega⟩)) = stateAt A L b ⟨j.val / 128, by omega⟩ (n0 + r.val / 64) :=
    funext fun d => funext fun v => (ld_state _ _ d v).trans (seq_apply v3 xf xi st A L b n0 hn0 hL hf hi hst (r.val / 64) (by omega) _ v d)
  rw [lb_apply v3 L hL, eS, rows_eq A b n0 hn0 xf 5120 hf ⟨r.val / 64, hT⟩ (by show r.val / 64 < 8; omega), rows_eq A b n0 hn0 xq 4096 hq ⟨r.val / 64, hT⟩ (by show r.val / 64 < 8; omega),
    rows_eq A b n0 hn0 xi 6144 hi ⟨r.val / 64, hT⟩ (by show r.val / 64 < 8; omega), rows_eq A b n0 hn0 xg 7168 hg ⟨r.val / 64, hT⟩ (by show r.val / 64 < 8; omega), ld_gain, hN]
  rfl

end

/-! ## The windows' blocks at an index -/

variable (m : (ℓ : Loc nD τ sig) → Buf (Elt Ideal) ℓ) (c : Dev nD)

/-- The columns' array as launched, by row and column. -/
def inA : Fin 16384 → Fin 12288 → EReal := fun i j => (m ((c : Thread nD τ).loc main_arg0) : FVec Ideal S16384x12288 .f32) (ix2 i j)
/-- The bound logits as launched. -/
def inL : Fin 2 → Fin 1024 → EReal := fun r j => (m ((c : Thread nD τ).loc main_arg1) : FVec Ideal S2x1024 .f32) (ix2 r j)
/-- The norm's gains as launched. -/
def inN : Fin 1024 → EReal := fun j => (m ((c : Thread nD τ).loc main_arg2) : FVec Ideal S1x1024 .f32) (ix2 0 j)

/-- The blocks the windows hold at a point. -/
theorem idx : ∀ t : Fin cfg0.N, (win0_0.index t (0 : Fin 2) = t.val ∧ win0_0.index t (1 : Fin 2) = 4)
    ∧ (win0_1.index t (0 : Fin 2) = t.val ∧ win0_1.index t (1 : Fin 2) = 5)
    ∧ (win0_2.index t (0 : Fin 2) = t.val ∧ win0_2.index t (1 : Fin 2) = 6)
    ∧ (win0_3.index t (0 : Fin 2) = t.val ∧ win0_3.index t (1 : Fin 2) = 7)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- Window 0's block at a point, read at an index. -/
theorem iblk0_apply (t : Fin cfg0.N) (j0 : Fin 512) (j1 : Fin 1024) (h : t.val * 512 + j0.val < 16384) :
    (iblk m c 0 t : Vec Ideal S512x1024 .f32) (ix2 j0 j1) = inA m c ⟨t.val * 512 + j0.val, h⟩ ⟨4096 + j1.val, by omega⟩ := by
  unfold iblk
  rw [View.read_apply]
  refine (congrFun (V_main_arg0 m c) _).trans ?_
  refine congrArg (m ((c : Thread nD τ).loc main_arg0) : FVec Ideal S16384x12288 .f32) (funext fun a => Fin.ext ?_)
  have hi := (idx t).1
  match a with
  | ⟨0, _⟩ => show win0_0.index t 0 * 512 + 1 * j0.val = t.val * 512 + j0.val; rw [hi.1]; omega
  | ⟨1, _⟩ => show win0_0.index t 1 * 1024 + 1 * j1.val = 4096 + j1.val; rw [hi.2]; omega

/-- Window 1's block at a point, read at an index. -/
theorem iblk1_apply (t : Fin cfg0.N) (j0 : Fin 512) (j1 : Fin 1024) (h : t.val * 512 + j0.val < 16384) :
    (iblk m c 1 t : Vec Ideal S512x1024 .f32) (ix2 j0 j1) = inA m c ⟨t.val * 512 + j0.val, h⟩ ⟨5120 + j1.val, by omega⟩ := by
  unfold iblk
  rw [View.read_apply]
  refine (congrFun (V_main_arg0 m c) _).trans ?_
  refine congrArg (m ((c : Thread nD τ).loc main_arg0) : FVec Ideal S16384x12288 .f32) (funext fun a => Fin.ext ?_)
  have hi := (idx t).2.1
  match a with
  | ⟨0, _⟩ => show win0_1.index t 0 * 512 + 1 * j0.val = t.val * 512 + j0.val; rw [hi.1]; omega
  | ⟨1, _⟩ => show win0_1.index t 1 * 1024 + 1 * j1.val = 5120 + j1.val; rw [hi.2]; omega

/-- Window 2's block at a point, read at an index. -/
theorem iblk2_apply (t : Fin cfg0.N) (j0 : Fin 512) (j1 : Fin 1024) (h : t.val * 512 + j0.val < 16384) :
    (iblk m c 2 t : Vec Ideal S512x1024 .f32) (ix2 j0 j1) = inA m c ⟨t.val * 512 + j0.val, h⟩ ⟨6144 + j1.val, by omega⟩ := by
  unfold iblk
  rw [View.read_apply]
  refine (congrFun (V_main_arg0 m c) _).trans ?_
  refine congrArg (m ((c : Thread nD τ).loc main_arg0) : FVec Ideal S16384x12288 .f32) (funext fun a => Fin.ext ?_)
  have hi := (idx t).2.2.1
  match a with
  | ⟨0, _⟩ => show win0_2.index t 0 * 512 + 1 * j0.val = t.val * 512 + j0.val; rw [hi.1]; omega
  | ⟨1, _⟩ => show win0_2.index t 1 * 1024 + 1 * j1.val = 6144 + j1.val; rw [hi.2]; omega

/-- Window 3's block at a point, read at an index. -/
theorem iblk3_apply (t : Fin cfg0.N) (j0 : Fin 512) (j1 : Fin 1024) (h : t.val * 512 + j0.val < 16384) :
    (iblk m c 3 t : Vec Ideal S512x1024 .f32) (ix2 j0 j1) = inA m c ⟨t.val * 512 + j0.val, h⟩ ⟨7168 + j1.val, by omega⟩ := by
  unfold iblk
  rw [View.read_apply]
  refine (congrFun (V_main_arg0 m c) _).trans ?_
  refine congrArg (m ((c : Thread nD τ).loc main_arg0) : FVec Ideal S16384x12288 .f32) (funext fun a => Fin.ext ?_)
  have hi := (idx t).2.2.2.1
  match a with
  | ⟨0, _⟩ => show win0_3.index t 0 * 512 + 1 * j0.val = t.val * 512 + j0.val; rw [hi.1]; omega
  | ⟨1, _⟩ => show win0_3.index t 1 * 1024 + 1 * j1.val = 7168 + j1.val; rw [hi.2]; omega

/-- Window 4's block at a point, read at an index. -/
theorem iblk4_apply (t : Fin cfg0.N) (j0 : Fin 2) (j1 : Fin 1024) : (iblk m c 4 t : Vec Ideal S2x1024 .f32) (ix2 j0 j1) = inL m c j0 j1 := by
  unfold iblk
  rw [View.read_apply]
  refine (congrFun (V_main_arg1 m c) _).trans ?_
  refine congrArg (m ((c : Thread nD τ).loc main_arg1) : FVec Ideal S2x1024 .f32) (funext fun a => Fin.ext ?_)
  have hi := (idx t).2.2.2.2.1
  match a with
  | ⟨0, _⟩ => show win0_4.index t 0 * 2 + 1 * j0.val = j0.val; rw [hi.1]; omega
  | ⟨1, _⟩ => show win0_4.index t 1 * 1024 + 1 * j1.val = j1.val; rw [hi.2]; omega

/-- Window 5's block at a point, read at an index. -/
theorem iblk5_apply (t : Fin cfg0.N) (j1 : Fin 1024) : (iblk m c 5 t : Vec Ideal S1x1024 .f32) (ix2 0 j1) = inN m c j1 := by
  unfold iblk
  rw [View.read_apply]
  refine (congrFun (V_main_arg2 m c) _).trans ?_
  refine congrArg (m ((c : Thread nD τ).loc main_arg2) : FVec Ideal S1x1024 .f32) (funext fun a => Fin.ext ?_)
  have hi := (idx t).2.2.2.2.2
  match a with
  | ⟨0, _⟩ => show win0_5.index t 0 * 1 + 1 * 0 = 0; rw [hi.1]
  | ⟨1, _⟩ => show win0_5.index t 1 * 1024 + 1 * j1.val = j1.val; rw [hi.2]; omega

/-! ## The grid's points in turn -/

/-- A block read by rows and columns of the array holds the point's chunks. -/
theorem holds (X : Vec Ideal S512x1024 .f32) (n : ℕ) (hn : n < 32) (o : Fin 8192)
    (hX : ∀ (j0 : Fin 512) (j1 : Fin 1024) (h : n * 512 + j0.val < 16384), X (ix2 j0 j1) = inA m c ⟨n * 512 + j0.val, h⟩ ⟨o.val + j1.val, by omega⟩) :
    Holds X (inA m c) ⟨n / 16, by omega⟩ (8 * (n % 16)) (by omega) o := by
  intro k hk h t d
  rw [hX _ _ (by show n * 512 + (64 * k + t.val) < 16384; omega)]
  unfold chunk
  congr 1
  · exact Fin.ext (by show n * 512 + (64 * k + t.val) = 8192 * (n / 16) + 64 * (8 * (n % 16) + k) + t.val; omega)
  · exact Fin.ext (by show o.val + (128 * h.val + d.val) = o.val + 128 * h.val + d.val; omega)

/-- The number of the grid's points. -/
theorem lt32 (n : ℕ) (hn : n < cfg0.N) : n < 32 := lt_of_lt_of_eq hn N_0

theorem holds0 (n : ℕ) (hn : n < cfg0.N) : Holds (iblk m c 0 ⟨n, hn⟩) (inA m c) ⟨n / 16, by have := lt32 n hn; omega⟩ (8 * (n % 16)) (by omega) 4096 :=
  holds m c _ n (lt32 n hn) 4096 fun j0 j1 h => iblk0_apply m c ⟨n, hn⟩ j0 j1 h
theorem holds1 (n : ℕ) (hn : n < cfg0.N) : Holds (iblk m c 1 ⟨n, hn⟩) (inA m c) ⟨n / 16, by have := lt32 n hn; omega⟩ (8 * (n % 16)) (by omega) 5120 :=
  holds m c _ n (lt32 n hn) 5120 fun j0 j1 h => iblk1_apply m c ⟨n, hn⟩ j0 j1 h
theorem holds2 (n : ℕ) (hn : n < cfg0.N) : Holds (iblk m c 2 ⟨n, hn⟩) (inA m c) ⟨n / 16, by have := lt32 n hn; omega⟩ (8 * (n % 16)) (by omega) 6144 :=
  holds m c _ n (lt32 n hn) 6144 fun j0 j1 h => iblk2_apply m c ⟨n, hn⟩ j0 j1 h
theorem holds3 (n : ℕ) (hn : n < cfg0.N) : Holds (iblk m c 3 ⟨n, hn⟩) (inA m c) ⟨n / 16, by have := lt32 n hn; omega⟩ (8 * (n % 16)) (by omega) 7168 :=
  holds m c _ n (lt32 n hn) 7168 fun j0 j1 h => iblk3_apply m c ⟨n, hn⟩ j0 j1 h

/-- A sequence starts at the zero state. -/
theorem pay1_apply (h : Fin 8) (v d : Fin 128) : (k0_pay1 (F := Ideal)) (ix3 h v d) = (0 : EReal) := by
  pointwise [k0_pay1]

/-- The state before a point is the recurrence's. -/
theorem before_apply (n : ℕ) (hn : n < cfg0.N) (h : Fin 8) (v d : Fin 128) :
    stBefore m c n hn (ix3 h v d) = stateAt (inA m c) (inL m c) ⟨n / 16, by have := lt32 n hn; omega⟩ h (8 * (n % 16)) d v := by
  induction n generalizing h v d with
  | zero => exact pay1_apply h v d
  | succ n ih =>
    by_cases h0 : (n + 1) % 16 = 0
    · rw [stBefore_A m c (n + 1) hn h0, h0]
      exact pay1_apply h v d
    · have hn' : n < cfg0.N := Nat.lt_of_succ_lt hn
      have h32 := lt32 (n + 1) hn
      have e : stBefore m c (n + 1) hn = stAfter m c n hn' := by
        show (if (n + 1) % 16 = 0 then _ else _) = _
        rw [if_neg h0]
        rfl
      have eb : (⟨(n + 1) / 16, by omega⟩ : Fin 2) = ⟨n / 16, by omega⟩ := Fin.ext (by show (n + 1) / 16 = n / 16; omega)
      have en : 8 * ((n + 1) % 16) = 8 * (n % 16) + 8 := by omega
      rw [e, eb, en]
      exact seq_apply _ _ _ _ (inA m c) (inL m c) ⟨n / 16, by omega⟩ (8 * (n % 16)) (by omega) (fun r j => iblk4_apply m c ⟨n, hn'⟩ r j)
        (holds1 m c n hn') (holds2 m c n hn') (fun h v d => ih hn' h v d) 8 le_rfl h v d

/-- The array the kernel leaves is the recurrence's output of the arguments. -/
theorem value (i : Fin 16384) (j : Fin 1024) :
    (G6 m c : FVec Ideal S16384x1024 .f32) (ix2 i j) = out (inA m c) (inL m c) (inN m c) i j := by
  have hp : pt6Of (ix2 i j) = i.val / 512 := by
    show 1 * (i.val / 512 - 0) + 1 * (j.val / 1024 - 0) = i.val / 512
    omega
  have hN : i.val / 512 < cfg0.N := lt_of_lt_of_eq (by omega) N_0.symm
  have e : (G6 m c : FVec Ideal S16384x1024 .f32) (ix2 i j) = outAfter m c (i.val / 512) hN (loc6Of (ix2 i j)) := by
    unfold G6
    rw [dif_pos (by rw [hp]; exact hN)]
    exact congrFun (outAfter_congr m c _ _ _ _ hp) _
  have el : loc6Of (ix2 i j) = ix2 ⟨i.val % 512, by omega⟩ j := by
    funext a
    fin_cases a
    · rfl
    · exact Fin.ext (by show j.val % 1024 = j.val; omega)
  rw [e, el]
  refine (blk_apply _ _ _ _ _ _ _ (inA m c) (inL m c) (inN m c) ⟨i.val / 512 / 16, by omega⟩ (8 * (i.val / 512 % 16)) (by omega)
    (fun r j => iblk4_apply m c _ r j) (fun j => iblk5_apply m c _ j) (holds0 m c _ hN) (holds1 m c _ hN) (holds2 m c _ hN) (holds3 m c _ hN)
    (fun h v d => before_apply m c _ hN h v d) ⟨i.val % 512, by omega⟩ j).trans ?_
  unfold out
  congr 1
  · exact Fin.ext (by show i.val / 512 / 16 = i.val / 8192; omega)
  · exact Fin.ext (by show 8 * (i.val / 512 % 16) + i.val % 512 / 64 = i.val % 8192 / 64; omega)
  · exact Fin.ext (by show i.val % 512 % 64 = i.val % 64; omega)

end Cert.KernelIdeal.HandGlobal
-- ==== Proof.HgrnWindow.lean ====
/-
  The reference's two running sums at an index. A running sum along an axis is written as a window sum over the operand padded
  before its first element: at each place it is the sum of the elements up to that place.
-/
module

public import proofs.«01_k».proof.Defs
public import proofs.«01_k».proof.Proof.Gen.ReferenceIdeal
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.ReferenceIdeal.HandWindow

open Cert.ReferenceIdeal Cert.ReferenceIdeal.Gen

/-- Adding up along a list. -/
theorem foldl_add {ι : Type} (g : ι → EReal) : ∀ (l : List ι) (a : EReal), l.foldl (fun r n => r + g n) a = a + (l.map g).sum
  | [], a => by simp
  | n :: l, a => by rw [List.foldl_cons, foldl_add g l, List.map_cons, List.sum_cons, add_assoc]

/-- A window sum at an index: the initial value plus the sum over the window's places. -/
theorem window_apply {s t u : Shape} (window strides lo hi : Fin s.rank → Nat) (x : FVec Ideal s .f32) (init : FVec Ideal u .f32)
    (h : s.ReduceWindows window strides lo hi t) (hu : 0 < u.numel) (j : t.Idx) :
    Host.reduceWindowAdd (F := Ideal) window strides lo hi x init h hu j
      = init (Shape.Idx.first hu) + ∑ w : (⟨s.rank, window⟩ : Shape).Idx,
        (if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else init (Shape.Idx.first hu)) := by
  refine (foldl_add (fun n : Fin (⟨s.rank, window⟩ : Shape).numel => _) _ _).trans (congrArg _ ?_)
  rw [← Fin.sum_univ_def]
  refine Eq.trans (Finset.sum_congr rfl fun i _ => ?_) (Equiv.sum_comp (⟨s.rank, window⟩ : Shape).rowMajor.symm (fun w => if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else init (Shape.Idx.first hu)))
  dsimp only
  congr

/-- A sum over 64 places that begin 63 before `t` is the sum up to `t`. -/
theorem shifted_sum (f : Fin 64 → EReal) (t : Fin 64) :
    (∑ k : Fin 64, if hk : 63 ≤ t.val + k.val then f ⟨t.val + k.val - 63, by omega⟩ else 0) = ∑ s : Fin 64, if s ≤ t then f s else 0 := by
  have e : ∀ k : Fin 64, (if hk : 63 ≤ t.val + k.val then f ⟨t.val + k.val - 63, by omega⟩ else (0 : EReal))
      = if 63 ≤ t.val + k.val then f ⟨t.val + k.val - 63, by omega⟩ else 0 := fun k => by split <;> rfl
  simp only [e]
  rw [← Finset.sum_filter, ← Finset.sum_filter]
  refine Finset.sum_bij' (fun k _ => ⟨t.val + k.val - 63, by omega⟩) (fun s _ => ⟨(s.val + 63 - t.val) % 64, by omega⟩) ?_ ?_ ?_ ?_ ?_
  · intro k hk
    rw [Finset.mem_filter, Fin.le_def]
    exact ⟨Finset.mem_univ _, by show t.val + k.val - 63 ≤ t.val; omega⟩
  · intro s hs
    have := Fin.le_def.mp (Finset.mem_filter.mp hs).2
    rw [Finset.mem_filter]
    exact ⟨Finset.mem_univ _, by show 63 ≤ t.val + (s.val + 63 - t.val) % 64; omega⟩
  · intro k hk
    have := (Finset.mem_filter.mp hk).2
    refine Fin.ext ?_
    show (t.val + k.val - 63 + 63 - t.val) % 64 = k.val
    omega
  · intro s hs
    have := Fin.le_def.mp (Finset.mem_filter.mp hs).2
    refine Fin.ext ?_
    show t.val + (s.val + 63 - t.val) % 64 - 63 = s.val
    omega
  · intro k hk
    rfl

/-- The places of a window of 64 along the third axis. -/
def places : (⟨5, ![1, 1, 64, 1, 1]⟩ : Shape).Idx ≃ Fin 64 where
  toFun w := w 2
  invFun k := ix5 (n0 := 1) (n1 := 1) (n2 := 64) (n3 := 1) (n4 := 1) 0 0 k 0 0
  left_inv w := funext fun a => by
    fin_cases a
    · exact Subsingleton.elim (α := Fin 1) _ _
    · exact Subsingleton.elim (α := Fin 1) _ _
    · rfl
    · exact Subsingleton.elim (α := Fin 1) _ _
    · exact Subsingleton.elim (α := Fin 1) _ _
  right_inv k := rfl

/-- The running sum along a chunk. -/
theorem running (x : FVec Ideal S2x128x64x8x128 .f32) (init : FVec Ideal S_ .f32) (hi : init (Shape.Idx.first h_S_) = 0)
    (b : Fin 2) (n : Fin 128) (t : Fin 64) (h : Fin 8) (d : Fin 128) :
    Host.reduceWindowAdd (F := Ideal) ![1, 1, 64, 1, 1] ![1, 1, 1, 1, 1] ![0, 0, 63, 0, 0] ![0, 0, 0, 0, 0] x init
        reduceWindows_S2x128x64x8x128_S2x128x64x8x128_w1s1p0_0_w1s1p0_0_w64s1p63_0_w1s1p0_0_w1s1p0_0 h_S_ (ix5 b n t h d)
      = ∑ s : Fin 64, if s ≤ t then x (ix5 b n s h d) else 0 := by
  rw [window_apply, hi, zero_add, ← shifted_sum (fun s => x (ix5 b n s h d)) t, ← Equiv.sum_comp places.symm]
  refine Finset.sum_congr rfl fun k _ => ?_
  by_cases hk : 63 ≤ t.val + k.val
  · rw [dif_pos hk, dif_pos]
    · refine congrArg x (funext fun a => ?_)
      fin_cases a <;> refine Fin.ext ?_
      · show b.val * 1 + 0 - 0 = b.val; omega
      · show n.val * 1 + 0 - 0 = n.val; omega
      · show t.val * 1 + k.val - 63 = t.val + k.val - 63; omega
      · show h.val * 1 + 0 - 0 = h.val; omega
      · show d.val * 1 + 0 - 0 = d.val; omega
    · intro a
      fin_cases a
      · show 0 ≤ b.val * 1 + 0 ∧ b.val * 1 + 0 - 0 < 2; omega
      · show 0 ≤ n.val * 1 + 0 ∧ n.val * 1 + 0 - 0 < 128; omega
      · show 63 ≤ t.val * 1 + k.val ∧ t.val * 1 + k.val - 63 < 64; omega
      · show 0 ≤ h.val * 1 + 0 ∧ h.val * 1 + 0 - 0 < 8; omega
      · show 0 ≤ d.val * 1 + 0 ∧ d.val * 1 + 0 - 0 < 128; omega
  · rw [dif_neg hk, dif_neg]
    intro hin
    have h2 : 63 ≤ t.val * 1 + k.val := (hin 2).1
    omega

/-- The places of a window of two along the first axis. -/
def places2 : (⟨2, ![2, 1]⟩ : Shape).Idx ≃ Fin 2 where
  toFun w := w 0
  invFun k := ix2 (n0 := 2) (n1 := 1) k 0
  left_inv w := funext fun a => by
    fin_cases a
    · rfl
    · exact Subsingleton.elim (α := Fin 1) _ _
  right_inv k := rfl

/-- The first row of the running sum of two rows is the first row. -/
theorem running_first (x : FVec Ideal S2x1024 .f32) (init : FVec Ideal S_ .f32) (hi : init (Shape.Idx.first h_S_) = 0) (j : Fin 1024) :
    Host.reduceWindowAdd (F := Ideal) ![2, 1] ![1, 1] ![1, 0] ![0, 0] x init
        reduceWindows_S2x1024_S2x1024_w2s1p1_0_w1s1p0_0 h_S_ (ix2 0 j) = x (ix2 0 j) := by
  rw [window_apply, hi, zero_add, ← Equiv.sum_comp places2.symm, Fin.sum_univ_two, dif_neg, zero_add, dif_pos]
  · refine congrArg x (funext fun a => ?_)
    fin_cases a <;> refine Fin.ext ?_
    · rfl
    · show j.val * 1 + 0 - 0 = j.val; omega
  · intro a
    fin_cases a
    · show 1 ≤ 0 * 1 + 1 ∧ 0 * 1 + 1 - 1 < 2; omega
    · show 0 ≤ j.val * 1 + 0 ∧ j.val * 1 + 0 - 0 < 1024; omega
  · intro hin
    have h0 : 1 ≤ 0 * 1 + 0 := (hin 0).1
    omega

end Cert.ReferenceIdeal.HandWindow
-- ==== Proof.HgrnRefDefs.lean ====
/-
  The reference's chunked recurrence as named vectors of its arguments, and each of them at an index.
-/
module

public import proofs.«01_k».proof.Defs
public import proofs.«01_k».proof.Proof.HgrnSpec
public import proofs.«01_k».proof.Proof.HgrnWindow
public import proofs.«01_k».proof.Proof.Gen.ReferenceIdeal
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.HandWindow Cert.Proof.HgrnSpec

/-! ## Reshapes at an index -/

/-- Rows of both sequences as a sequence and a row. -/
theorem cast3 {α : Type} (x : S16384x1024.Idx → α) (b : Fin 2) (r : Fin 8192) (j : Fin 1024) :
    shapeCast S2x8192x1024 x shapeCasts_S16384x1024_S2x8192x1024 (ix3 b r j) = x (ix2 ⟨8192 * b.val + r.val, by omega⟩ j) := by
  refine shapeCast_apply _ _ _ _ ?_
  rw [Shape.rowMajor_val_two, Shape.rowMajor_val_three]
  show (8192 * b.val + r.val) * 1024 + j.val = (b.val * 8192 + r.val) * 1024 + j.val
  omega

/-- A row as a chunk and a row within it, a column as a head and a column within it. -/
theorem cast5 {α : Type} (x : S2x8192x1024.Idx → α) (b : Fin 2) (n : Fin 128) (t : Fin 64) (h : Fin 8) (d : Fin 128) :
    shapeCast S2x128x64x8x128 x shapeCasts_S2x8192x1024_S2x128x64x8x128 (ix5 b n t h d)
      = x (ix3 b ⟨64 * n.val + t.val, by omega⟩ ⟨128 * h.val + d.val, by omega⟩) := by
  refine shapeCast_apply _ _ _ _ ?_
  rw [Shape.rowMajor_val_three, Shape.rowMajor_val_five]
  show (b.val * 8192 + (64 * n.val + t.val)) * 1024 + (128 * h.val + d.val) = (((b.val * 128 + n.val) * 64 + t.val) * 8 + h.val) * 128 + d.val
  omega

/-- Back from chunks and heads. -/
theorem uncast5 {α : Type} (x : S2x128x64x8x128.Idx → α) (b : Fin 2) (r : Fin 8192) (j : Fin 1024) :
    shapeCast S2x8192x1024 x shapeCasts_S2x128x64x8x128_S2x8192x1024 (ix3 b r j)
      = x (ix5 b ⟨r.val / 64, by omega⟩ ⟨r.val % 64, by omega⟩ ⟨j.val / 128, by omega⟩ ⟨j.val % 128, by omega⟩) := by
  refine shapeCast_apply _ _ _ _ ?_
  rw [Shape.rowMajor_val_three, Shape.rowMajor_val_five]
  show (((b.val * 128 + r.val / 64) * 64 + r.val % 64) * 8 + j.val / 128) * 128 + j.val % 128 = (b.val * 8192 + r.val) * 1024 + j.val
  omega

/-- Back from sequences. -/
theorem uncast3 {α : Type} (x : S2x8192x1024.Idx → α) (i : Fin 16384) (j : Fin 1024) :
    shapeCast S16384x1024 x shapeCasts_S2x8192x1024_S16384x1024 (ix2 i j) = x (ix3 ⟨i.val / 8192, by omega⟩ ⟨i.val % 8192, by omega⟩ j) := by
  refine shapeCast_apply _ _ _ _ ?_
  rw [Shape.rowMajor_val_two, Shape.rowMajor_val_three]
  show (i.val / 8192 * 8192 + i.val % 8192) * 1024 + j.val = i.val * 1024 + j.val
  omega

/-- A chunk's last row without its unit axis. -/
theorem castLast {α : Type} (x : S2x128x1x8x128.Idx → α) (b : Fin 2) (n : Fin 128) (h : Fin 8) (d : Fin 128) :
    shapeCast S2x128x8x128 x shapeCasts_S2x128x1x8x128_S2x128x8x128 (ix4 b n h d) = x (ix5 b n 0 h d) := by
  refine shapeCast_apply _ _ _ _ ?_
  rw [Shape.rowMajor_val_four, Shape.rowMajor_val_five]
  show (((b.val * 128 + n.val) * 1 + 0) * 8 + h.val) * 128 + d.val = ((b.val * 128 + n.val) * 8 + h.val) * 128 + d.val
  omega

/-! ## The reference's steps, each a function of the vectors it reads -/

/-- The queries' columns. -/
def qCols (a : FVec Ideal S16384x12288 .f32) : FVec Ideal S2x8192x1024 .f32 :=
  shapeCast S2x8192x1024 (extractStridedSlice S16384x1024 ![0, 4096] a slices_S16384x12288_S16384x1024_0_4096) shapeCasts_S16384x1024_S2x8192x1024
/-- The forget logits' columns. -/
def fCols (a : FVec Ideal S16384x12288 .f32) : FVec Ideal S2x8192x1024 .f32 :=
  shapeCast S2x8192x1024 (extractStridedSlice S16384x1024 ![0, 5120] a slices_S16384x12288_S16384x1024_0_5120) shapeCasts_S16384x1024_S2x8192x1024
/-- The inputs' columns. -/
def iCols (a : FVec Ideal S16384x12288 .f32) : FVec Ideal S2x8192x1024 .f32 :=
  shapeCast S2x8192x1024 (extractStridedSlice S16384x1024 ![0, 6144] a slices_S16384x12288_S16384x1024_0_6144) shapeCasts_S16384x1024_S2x8192x1024
/-- The output gate's columns. -/
def gCols (a : FVec Ideal S16384x12288 .f32) : FVec Ideal S2x8192x1024 .f32 :=
  shapeCast S2x8192x1024 (extractStridedSlice S16384x1024 ![0, 7168] a slices_S16384x12288_S16384x1024_0_7168) shapeCasts_S16384x1024_S2x8192x1024

/-- The bound logits' exponentials, less their maximum. -/
def lowExp (l : FVec Ideal S2x1024 .f32) : FVec Ideal S2x1024 .f32 :=
  Host.exp (subf l (broadcastInDim S2x1024 ![0, 1] bcast_S1x1024_S2x1024_0_1 (broadcastInDim S1x1024 ![1] bcast_S1024_S1x1024_1
    (maximumf (broadcastInDim S1024 ![] bcast_S_S1024 (constant S_ .f32 0xFF800000#32))
      (Host.reduce FloatOps.maximumf l (constant S_ .f32 0xFF800000#32) reducesTo_S2x1024_S1024_d0 h_S_)))))
/-- The bound logits' softmax. -/
def lowSoft (l : FVec Ideal S2x1024 .f32) : FVec Ideal S2x1024 .f32 :=
  Host.divf (lowExp l) (broadcastInDim S2x1024 ![0, 1] bcast_S1x1024_S2x1024_0_1 (broadcastInDim S1x1024 ![1] bcast_S1024_S1x1024_1
    (Host.reduceAdd (lowExp l) (constant S_ .f32 0x00000000#32) reducesTo_S2x1024_S1024_d0 h_S_)))
/-- The running sum of two rows. -/
def winOf (x : FVec Ideal S2x1024 .f32) : FVec Ideal S2x1024 .f32 :=
  Host.reduceWindowAdd ![2, 1] ![1, 1] ![1, 0] ![0, 0] x (broadcastInDim S_ ![] bcast_S_S_ (constant S_ .f32 0x00000000#32)) reduceWindows_S2x1024_S2x1024_w2s1p1_0_w1s1p0_0 h_S_
/-- The first of two rows. -/
def rowOf (y : FVec Ideal S2x1024 .f32) : FVec Ideal S1024 .f32 :=
  shapeCast S1024 (extractStridedSlice S1x1024 ![0, 0] y slices_S2x1024_S1x1024_0_0) shapeCasts_S1x1024_S1024

/-- The splat of one. -/
def onesV : FVec Ideal S2x8192x1024 .f32 := broadcastInDim S2x8192x1024 ![] bcast_S_S2x8192x1024 (constant S_ .f32 0x3F800000#32)
/-- The logistic. -/
def sigmV (x : FVec Ideal S2x8192x1024 .f32) : FVec Ideal S2x8192x1024 .f32 := Host.divf onesV (addf onesV (Host.exp (Host.negf x)))
/-- The swish function. -/
def swishV (x : FVec Ideal S2x8192x1024 .f32) : FVec Ideal S2x8192x1024 .f32 := mulf x (sigmV x)
/-- A row spread over the rows of both sequences. -/
def spread (x : FVec Ideal S1024 .f32) : FVec Ideal S2x8192x1024 .f32 :=
  broadcastInDim S2x8192x1024 ![0, 1, 2] bcast_S1x1x1024_S2x8192x1024_0_1_2 (broadcastInDim S1x1x1024 ![2] bcast_S1024_S1x1x1024_2 x)
/-- The forget gate, of the bounds' running sum and the logits. -/
def gateOf (y : FVec Ideal S2x1024 .f32) (x : FVec Ideal S2x8192x1024 .f32) : FVec Ideal S2x8192x1024 .f32 :=
  addf (spread (rowOf y)) (mulf (spread (subf (broadcastInDim S1024 ![] bcast_S_S1024 (constant S_ .f32 0x3F800000#32)) (rowOf y))) (sigmV x))
/-- The complement of the gate. -/
def keyOf (x : FVec Ideal S2x8192x1024 .f32) : FVec Ideal S2x8192x1024 .f32 := subf onesV x

/-- A vector by chunk and head. -/
def byChunk (x : FVec Ideal S2x8192x1024 .f32) : FVec Ideal S2x128x64x8x128 .f32 := shapeCast S2x128x64x8x128 x shapeCasts_S2x8192x1024_S2x128x64x8x128

/-- The running sums along the chunks. -/
def cumOf (x : FVec Ideal S2x128x64x8x128 .f32) : FVec Ideal S2x128x64x8x128 .f32 :=
  Host.reduceWindowAdd ![1, 1, 64, 1, 1] ![1, 1, 1, 1, 1] ![0, 0, 63, 0, 0] ![0, 0, 0, 0, 0] x
    (broadcastInDim S_ ![] bcast_S_S_ (constant S_ .f32 0x00000000#32)) reduceWindows_S2x128x64x8x128_S2x128x64x8x128_w1s1p0_0_w1s1p0_0_w64s1p63_0_w1s1p0_0_w1s1p0_0 h_S_
/-- The chunks' last rows. -/
def lastOf (x : FVec Ideal S2x128x64x8x128 .f32) : FVec Ideal S2x128x1x8x128 .f32 :=
  extractStridedSlice S2x128x1x8x128 ![0, 0, 63, 0, 0] x slices_S2x128x64x8x128_S2x128x1x8x128_0_0_63_0_0
/-- The decayed queries, of the queries and the running sums. -/
def qOf (x y : FVec Ideal S2x128x64x8x128 .f32) : FVec Ideal S2x128x64x8x128 .f32 := mulf x (Host.exp y)
/-- The decayed keys. -/
def kOf (x y : FVec Ideal S2x128x64x8x128 .f32) : FVec Ideal S2x128x64x8x128 .f32 := mulf x (Host.exp (Host.negf y))
/-- The keys decayed to their chunk's end. -/
def endOf (x y : FVec Ideal S2x128x64x8x128 .f32) : FVec Ideal S2x128x64x8x128 .f32 :=
  mulf x (Host.exp (subf (broadcastInDim S2x128x64x8x128 ![0, 1, 2, 3, 4] bcast_S2x128x1x8x128_S2x128x64x8x128_0_1_2_3_4 (lastOf y)) y))
/-- The ones the mask keeps. -/
def allV : IVec S64x64 1 := broadcastInDim S64x64 ![] bcast_S_S64x64 (constantI S_ 1 1#1)
/-- A mask's part on or under the diagonal. -/
def trilOf (x : IVec S64x64 1) : IVec S64x64 1 :=
  select (cmpi .sge (addi (iotaInDim S64x64 32 0) (broadcastInDim S64x64 ![] bcast_S_S64x64 (constantI S_ 32 0#32))) (iotaInDim S64x64 32 1))
    x (broadcastInDim S64x64 ![] bcast_S_S64x64 (constantI S_ 1 0#1))
/-- The scores within each chunk. -/
def dotOf (q k : FVec Ideal S2x128x64x8x128 .f32) : FVec Ideal S2x128x8x64x64 .f32 :=
  Host.dotGeneral dot_S2x128x64x8x128_S2x128x64x8x128_S2x128x8x64x64_4_4_2_2_013_013 none q k
/-- The masked scores. -/
def scoreOf (z : FVec Ideal S_ .f32) (k : IVec S64x64 1) (x : FVec Ideal S2x128x8x64x64 .f32) : FVec Ideal S2x128x8x64x64 .f32 :=
  select (broadcastInDim S2x128x8x64x64 ![3, 4] bcast_S64x64_S2x128x8x64x64_3_4 k) x
    (broadcastInDim S2x128x8x64x64 ![] bcast_S_S2x128x8x64x64 (id z))
/-- The attention within each chunk, of the inputs and the scores. -/
def intraOf (i : FVec Ideal S2x128x64x8x128 .f32) (s : FVec Ideal S2x128x8x64x64 .f32) : FVec Ideal S2x128x64x8x128 .f32 :=
  transpose S2x128x64x8x128 [0, 1, 4, 2, 3] (Host.dotGeneral dot_S2x128x64x8x128_S2x128x8x64x64_S2x128x8x128x64_2_4_4_3_013_012 none i s)
    transposes_S2x128x8x128x64_S2x128x64x8x128_0_1_4_2_3
/-- The chunks' decays, chunk first. -/
def decOf (y : FVec Ideal S2x128x1x8x128 .f32) : FVec Ideal S128x2x8x128 .f32 :=
  transpose S128x2x8x128 [1, 0, 2, 3] (Host.exp (shapeCast S2x128x8x128 y shapeCasts_S2x128x1x8x128_S2x128x8x128)) transposes_S2x128x8x128_S128x2x8x128_1_0_2_3
/-- The chunks' outer products, chunk first. -/
def addOf (e i : FVec Ideal S2x128x64x8x128 .f32) : FVec Ideal S128x2x8x128x128 .f32 :=
  transpose S128x2x8x128x128 [1, 0, 2, 3, 4] (Host.dotGeneral dot_S2x128x64x8x128_S2x128x64x8x128_S2x128x8x128x128_2_2_4_4_013_013 none e i)
    transposes_S2x128x8x128x128_S128x2x8x128x128_1_0_2_3_4
/-- The output before the norm, of the states before the chunks, the decayed queries and the attention within the chunks. -/
def rawOf (S : FVec Ideal S128x2x8x128x128 .f32) (q y : FVec Ideal S2x128x64x8x128 .f32) : FVec Ideal S2x128x64x8x128 .f32 :=
  addf y (transpose S2x128x64x8x128 [0, 1, 4, 2, 3]
    (Host.dotGeneral dot_S2x128x8x128x128_S2x128x64x8x128_S2x128x8x128x64_3_4_4_2_012_013 none
      (transpose S2x128x8x128x128 [1, 0, 2, 3, 4] S transposes_S128x2x8x128x128_S2x128x8x128x128_1_0_2_3_4) q)
    transposes_S2x128x8x128x64_S2x128x64x8x128_0_1_4_2_3)
/-- Its root-mean-square norm. -/
def normV (x : FVec Ideal S2x128x64x8x128 .f32) : FVec Ideal S2x128x64x8x128 .f32 :=
  mulf x (broadcastInDim S2x128x64x8x128 ![0, 1, 2, 3, 4] bcast_S2x128x64x8x1_S2x128x64x8x128_0_1_2_3_4
    (Host.rsqrt (addf (Host.divf
      (broadcastInDim S2x128x64x8x1 ![0, 1, 2, 3] bcast_S2x128x64x8_S2x128x64x8x1_0_1_2_3 (Host.reduceAdd (mulf x x) (constant S_ .f32 0x00000000#32) reducesTo_S2x128x64x8x128_S2x128x64x8_d4 h_S_))
      (broadcastInDim S2x128x64x8x1 ![] bcast_S_S2x128x64x8x1 (constant S_ .f32 0x43000000#32)))
      (broadcastInDim S2x128x64x8x1 ![] bcast_S_S2x128x64x8x1 (constant S_ .f32 0x358637BD#32)))))
/-- The normed rows times the gain. -/
def gainOf (x : FVec Ideal S2x128x64x8x128 .f32) (g : FVec Ideal S1x1024 .f32) : FVec Ideal S2x8192x1024 .f32 :=
  mulf (shapeCast S2x8192x1024 (normV x) shapeCasts_S2x128x64x8x128_S2x8192x1024) (spread (shapeCast S1024 g shapeCasts_S1x1024_S1024))
/-- The gated rows of both sequences. -/
def outOf (x y : FVec Ideal S2x8192x1024 .f32) : FVec Ideal S16384x1024 .f32 := shapeCast S16384x1024 (mulf x y) shapeCasts_S2x8192x1024_S16384x1024

/-! ## The same, of the arguments -/

variable (a : FVec Ideal S16384x12288 .f32) (l : FVec Ideal S2x1024 .f32) (g : FVec Ideal S1x1024 .f32)

/-- The forget gate. -/
def gateV : FVec Ideal S2x8192x1024 .f32 := gateOf (winOf (lowSoft l)) (fCols a)
/-- The running sums of the gate's logarithms. -/
def cumV : FVec Ideal S2x128x64x8x128 .f32 := cumOf (byChunk (Host.log (gateV a l)))
/-- The decayed queries. -/
def qV : FVec Ideal S2x128x64x8x128 .f32 := qOf (byChunk (swishV (qCols a))) (cumV a l)
/-- The complement of the gate. -/
def keyV : FVec Ideal S2x128x64x8x128 .f32 := byChunk (keyOf (gateV a l))
/-- The decayed keys. -/
def kV : FVec Ideal S2x128x64x8x128 .f32 := kOf (keyV a l) (cumV a l)
/-- The keys decayed to their chunk's end. -/
def endV : FVec Ideal S2x128x64x8x128 .f32 := endOf (keyV a l) (cumV a l)
/-- The masked scores within each chunk. -/
def scoreV : FVec Ideal S2x128x8x64x64 .f32 := scoreOf (constant S_ .f32 0x00000000#32) (trilOf allV) (dotOf (qV a l) (kV a l))
/-- The attention within each chunk. -/
def intraV : FVec Ideal S2x128x64x8x128 .f32 := intraOf (byChunk (iCols a)) (scoreV a l)
/-- The chunks' decays, chunk first. -/
def decV : FVec Ideal S128x2x8x128 .f32 := decOf (lastOf (cumV a l))
/-- The chunks' outer products, chunk first. -/
def addV : FVec Ideal S128x2x8x128x128 .f32 := addOf (endV a l) (byChunk (iCols a))
/-- The output, of the states before the chunks. -/
def outV (S : FVec Ideal S128x2x8x128x128 .f32) : FVec Ideal S16384x1024 .f32 :=
  outOf (gainOf (rawOf S (qV a l) (intraV a l)) g) (swishV (gCols a))

end Cert.ReferenceIdeal.Hand
-- ==== Proof.HgrnRefEntry.lean ====
/-
  The reference's buffers at its loop's entry, stretch by stretch: each holds the named vector of the arguments.
-/
module

public import proofs.«01_k».proof.Defs
public import proofs.«01_k».proof.Proof.HgrnRefDefs
public import proofs.«01_k».proof.Proof.Gen.ReferenceIdeal.Run
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.StableHlo

namespace Cert.ReferenceIdeal.HandRun

open Cert.ReferenceIdeal Cert.ReferenceIdeal.Gen Cert.ReferenceIdeal.Value Cert.ReferenceIdeal.Hand

section
variable (V : Valuation τ sig (Elt Ideal))

/-! ## One stretch each -/

theorem s0_v1 : after hostOps0 V (Proc.devRef .tc main_v1) = qCols (V (Proc.devRef .tc main_arg0)) := by
  simp only [hostOps0]; after_results_simp; rfl
theorem s0_v3 : after hostOps0 V (Proc.devRef .tc main_v3) = fCols (V (Proc.devRef .tc main_arg0)) := by
  simp only [hostOps0]; after_results_simp; rfl
theorem s0_v5 : after hostOps0 V (Proc.devRef .tc main_v5) = iCols (V (Proc.devRef .tc main_arg0)) := by
  simp only [hostOps0]; after_results_simp; rfl
theorem s0_v7 : after hostOps0 V (Proc.devRef .tc main_v7) = gCols (V (Proc.devRef .tc main_arg0)) := by
  simp only [hostOps0]; after_results_simp; rfl
theorem s0_v18 : after hostOps0 V (Proc.devRef .tc main_v18) = lowSoft (V (Proc.devRef .tc main_arg1)) := by
  simp only [hostOps0]; after_results_simp; rfl
theorem s1_v19 : after hostOps0_1 V (Proc.devRef .tc main_v19) = winOf (V (Proc.devRef .tc main_v18)) := by
  simp only [hostOps0_1]; after_results_simp
  (try simp only [StableHlo.TRef.toBuf, StableHlo.TRef.ofBuf, cast_eq]); (try rfl)
theorem s2_v35 : after hostOps0_2 V (Proc.devRef .tc main_v35) = gateOf (V (Proc.devRef .tc main_v19)) (V (Proc.devRef .tc main_v3)) := by
  simp only [hostOps0_2]; after_results_simp; rfl
theorem s3_v36 : after hostOps0_3 V (Proc.devRef .tc main_v36) = swishV (V (Proc.devRef .tc main_v1)) := by
  simp only [hostOps0_3]; after_results_simp
  (try simp only [StableHlo.TRef.toBuf, StableHlo.TRef.ofBuf, cast_eq]); (try rfl)
theorem s4_v37 : after hostOps0_4 V (Proc.devRef .tc main_v37) = byChunk (V (Proc.devRef .tc main_v36)) := by
  simp only [hostOps0_4]; after_results_simp; rfl
theorem s4_v40 : after hostOps0_4 V (Proc.devRef .tc main_v40) = byChunk (keyOf (V (Proc.devRef .tc main_v35))) := by
  simp only [hostOps0_4]; after_results_simp; rfl
theorem s4_v41 : after hostOps0_4 V (Proc.devRef .tc main_v41) = byChunk (V (Proc.devRef .tc main_v5)) := by
  simp only [hostOps0_4]; after_results_simp; rfl
theorem s4_v43 : after hostOps0_4 V (Proc.devRef .tc main_v43) = byChunk (Host.log (F := Ideal) (φ := .f32) (V (Proc.devRef .tc main_v35))) := by
  simp only [hostOps0_4]; after_results_simp; rfl
theorem s5_v44 : after hostOps0_5 V (Proc.devRef .tc main_v44) = cumOf (V (Proc.devRef .tc main_v43)) := by
  simp only [hostOps0_5]; after_results_simp
  (try simp only [StableHlo.TRef.toBuf, StableHlo.TRef.ofBuf, cast_eq]); (try rfl)
theorem s6_v45 : after hostOps0_6 V (Proc.devRef .tc main_v45) = lastOf (V (Proc.devRef .tc main_v44)) := by
  simp only [hostOps0_6]; after_results_simp; rfl
theorem s6_v47 : after hostOps0_6 V (Proc.devRef .tc main_v47) = qOf (V (Proc.devRef .tc main_v37)) (V (Proc.devRef .tc main_v44)) := by
  simp only [hostOps0_6]; after_results_simp; rfl
theorem s6_v50 : after hostOps0_6 V (Proc.devRef .tc main_v50) = kOf (V (Proc.devRef .tc main_v40)) (V (Proc.devRef .tc main_v44)) := by
  simp only [hostOps0_6]; after_results_simp; rfl
theorem s6_v54 : after hostOps0_6 V (Proc.devRef .tc main_v54) = endOf (V (Proc.devRef .tc main_v40)) (V (Proc.devRef .tc main_v44)) := by
  simp only [hostOps0_6]; after_results_simp; rfl
theorem s6_v55 : after hostOps0_6 V (Proc.devRef .tc main_v55) = allV := by
  simp only [hostOps0_6]; after_results_simp; rfl
theorem s7_v56 : after hostOps0_7 V (Proc.devRef .tc main_v56) = trilOf (V (Proc.devRef .tc main_v55)) := by
  simp only [hostOps0_7]; after_results_simp
  (try simp only [StableHlo.TRef.toBuf, StableHlo.TRef.ofBuf, cast_eq]); (try rfl)
theorem s8_v57 : after hostOps0_8 V (Proc.devRef .tc main_v57) = dotOf (V (Proc.devRef .tc main_v47)) (V (Proc.devRef .tc main_v50)) := by
  simp only [hostOps0_8]; after_results_simp; rfl
theorem s8_cst : after hostOps0_8 V (Proc.devRef .tc main_cst_6) = constant (F := Ideal) S_ .f32 0x00000000#32 := by
  simp only [hostOps0_8]; after_results_simp
theorem s9_v58 : after hostOps0_9 V (Proc.devRef .tc main_v58)
    = scoreOf (V (Proc.devRef .tc main_cst_6)) (V (Proc.devRef .tc main_v56)) (V (Proc.devRef .tc main_v57)) := by
  simp only [hostOps0_9]; after_results_simp
  (try simp only [StableHlo.TRef.toBuf, StableHlo.TRef.ofBuf, cast_eq]); (try rfl)
theorem s10_v60 : after hostOps0_10 V (Proc.devRef .tc main_v60) = intraOf (V (Proc.devRef .tc main_v41)) (V (Proc.devRef .tc main_v58)) := by
  simp only [hostOps0_10]; after_results_simp; rfl
theorem s10_dec : after hostOps0_10 V (Proc.devRef .tc main_v68_0) = decOf (V (Proc.devRef .tc main_v45)) := by
  simp only [hostOps0_10]; after_results_simp; rfl
theorem s10_add : after hostOps0_10 V (Proc.devRef .tc main_v68_1) = addOf (V (Proc.devRef .tc main_v54)) (V (Proc.devRef .tc main_v41)) := by
  simp only [hostOps0_10]; after_results_simp; rfl
theorem s10_state : after hostOps0_10 V (Proc.devRef .tc main_v68_3)
    = broadcastInDim S2x8x128x128 ![] bcast_S_S2x8x128x128 (constant (F := Ideal) S_ .f32 0x00000000#32) := by
  simp only [hostOps0_10]; after_results_simp; rfl
theorem s11_v87 : after hostOps0_11 V (Proc.devRef .tc main_v87)
    = gainOf (rawOf (V (Proc.devRef .tc main_v68_4)) (V (Proc.devRef .tc main_v47)) (V (Proc.devRef .tc main_v60))) (V (Proc.devRef .tc main_arg2)) := by
  simp only [hostOps0_11]; after_results_simp; rfl
theorem s12_v88 : after hostOps0_12 V (Proc.devRef .tc main_v88) = swishV (V (Proc.devRef .tc main_v7)) := by
  simp only [hostOps0_12]; after_results_simp
  (try simp only [StableHlo.TRef.toBuf, StableHlo.TRef.ofBuf, cast_eq]); (try rfl)
theorem s13_v90 : after hostOps0_13 V (Proc.devRef .tc main_v90) = outOf (V (Proc.devRef .tc main_v87)) (V (Proc.devRef .tc main_v88)) := by
  simp only [hostOps0_13]; after_results_simp; rfl

end

end Cert.ReferenceIdeal.HandRun
-- ==== Proof.HgrnRefLoop.lean ====
/-
  One round of the reference's loop, of the vectors it reads: the state decays by a chunk's row and gains the chunk's outer products, and
  the old state is put at the chunk's place among the states.
-/
module

public import proofs.«01_k».proof.Defs
public import proofs.«01_k».proof.Proof.HgrnRefDefs
public import proofs.«01_k».proof.Proof.Gen.ReferenceIdeal.Run
public import Idealize.ShloMosaic.Lib.DynamicIndex
public import Idealize.ShloMosaic.Lib.WordCmp
public import Idealize.ShloMosaic.Lib.Scf.Counter
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ReferenceIdeal.HandLoop

open Cert.ReferenceIdeal Cert.ReferenceIdeal.Gen Cert.ReferenceIdeal.Value Cert.ReferenceIdeal.Hand

/-- The first coordinate the counter names, and zeros after it. -/
abbrev at4 (n : IVec S_ 32) : Fin 4 → Int := fun k =>
  (((![n, constantI S_ 32 0#32, constantI S_ 32 0#32, constantI S_ 32 0#32] : Fin 4 → (⟨S_, .i32⟩ : BufTy).Contents (Elt Ideal))) k (Shape.Idx.first h_S_)).toInt
/-- The first coordinate the counter names, and zeros after it. -/
abbrev at5 (n : IVec S_ 32) : Fin 5 → Int := fun k =>
  (((![n, constantI S_ 32 0#32, constantI S_ 32 0#32, constantI S_ 32 0#32, constantI S_ 32 0#32] : Fin 5 → (⟨S_, .i32⟩ : BufTy).Contents (Elt Ideal))) k (Shape.Idx.first h_S_)).toInt

/-- The decays of the chunk the counter names. -/
def decAt (D : FVec Ideal S128x2x8x128 .f32) (n : IVec S_ 32) : FVec Ideal S2x8x128 .f32 :=
  shapeCast S2x8x128 (Host.dynamicSlice S1x2x8x128 D (at4 n) sliceFits_S128x2x8x128_S1x2x8x128) shapeCasts_S1x2x8x128_S2x8x128
/-- The outer products of the chunk the counter names. -/
def addAt (U : FVec Ideal S128x2x8x128x128 .f32) (n : IVec S_ 32) : FVec Ideal S2x8x128x128 .f32 :=
  shapeCast S2x8x128x128 (Host.dynamicSlice S1x2x8x128x128 U (at5 n) sliceFits_S128x2x8x128x128_S1x2x8x128x128) shapeCasts_S1x2x8x128x128_S2x8x128x128
/-- A state decayed by a row and added to. -/
def stepOf (D : FVec Ideal S2x8x128 .f32) (U S : FVec Ideal S2x8x128x128 .f32) : FVec Ideal S2x8x128x128 .f32 :=
  addf (mulf (broadcastInDim S2x8x128x128 ![0, 1, 2, 3] bcast_S2x8x128x1_S2x8x128x128_0_1_2_3
    (broadcastInDim S2x8x128x1 ![0, 1, 2] bcast_S2x8x128_S2x8x128x1_0_1_2 D)) S) U
/-- The states with one more put at the place the counter names. -/
def putAt (O : FVec Ideal S128x2x8x128x128 .f32) (S : FVec Ideal S2x8x128x128 .f32) (n : IVec S_ 32) : FVec Ideal S128x2x8x128x128 .f32 :=
  Host.dynamicUpdateSlice O (broadcastInDim S1x2x8x128x128 ![1, 2, 3, 4] bcast_S2x8x128x128_S1x2x8x128x128_1_2_3_4 S) (at5 n)
    updateFits_S128x2x8x128x128_S1x2x8x128x128

/-- The state after a round is the step of the vectors read. -/
theorem step3 (V : Valuation τ sig (Elt Ideal)) : step_main_v68_3 V
    = stepOf (decAt (V (Proc.devRef .tc main_v68_0)) (V (Proc.devRef .tc main_v68_2))) (addAt (V (Proc.devRef .tc main_v68_1)) (V (Proc.devRef .tc main_v68_2)))
      (V (Proc.devRef .tc main_v68_3)) := by
  unfold step_main_v68_3 stepOf decAt addAt at4 at5
  rw [id]
  generalize V (Proc.devRef .tc main_v68_2) = n
  rfl
/-- The states after a round are the old ones and the state read. -/
theorem step4 (V : Valuation τ sig (Elt Ideal)) : step_main_v68_4 V
    = putAt (V (Proc.devRef .tc main_v68_4)) (V (Proc.devRef .tc main_v68_3)) (V (Proc.devRef .tc main_v68_2)) := by
  unfold step_main_v68_4 putAt at5
  rw [id]
  generalize V (Proc.devRef .tc main_v68_2) = n
  rfl

/-- The counter as a number. -/
theorem iv_toInt (k : ℕ) (hk : k < 128) : (Scf.iv 0#32 1#32 k : BitVec 32).toInt = k := by
  have e : (Scf.iv 0#32 1#32 k : BitVec 32) = BitVec.ofNat 32 k := by simp [Scf.iv]
  rw [e]
  exact toInt_ofNat_of_lt (by omega)

variable (k : Fin 128) (n : IVec S_ 32) (hn : (n (Shape.Idx.first h_S_)).toInt = k.val)
include hn

/-- The starts of the four-axis reads. -/
theorem at4_eq (a : Fin 4) : at4 n a = ((![k.val, 0, 0, 0] : Fin 4 → ℕ) a : Int) := by
  fin_cases a
  · exact hn
  all_goals rfl
/-- The starts of the five-axis reads. -/
theorem at5_eq (a : Fin 5) : at5 n a = ((![k.val, 0, 0, 0, 0] : Fin 5 → ℕ) a : Int) := by
  fin_cases a
  · exact hn
  all_goals rfl

/-- The decays read. -/
theorem decAt_apply (D : FVec Ideal S128x2x8x128 .f32) (b : Fin 2) (h : Fin 8) (d : Fin 128) :
    decAt D n (ix3 b h d) = D (ix4 k b h d) := by
  unfold decAt
  rw [shapeCast_apply _ _ (ix3 b h d) (ix4 0 b h d) (by rw [Shape.rowMajor_val_three, Shape.rowMajor_val_four]; simp),
    Host.dynamicSlice_eq_extractStridedSlice S1x2x8x128 D (at4 n) ![k.val, 0, 0, 0] sliceFits_S128x2x8x128_S1x2x8x128
      ⟨rfl, fun a => by fin_cases a <;> simp [Shape.size] <;> omega⟩ (at4_eq k n hn)]
  pointwise

/-- The outer products read. -/
theorem addAt_apply (U : FVec Ideal S128x2x8x128x128 .f32) (b : Fin 2) (h : Fin 8) (d v : Fin 128) :
    addAt U n (ix4 b h d v) = U (ix5 k b h d v) := by
  unfold addAt
  rw [shapeCast_apply _ _ (ix4 b h d v) (ix5 0 b h d v) (by rw [Shape.rowMajor_val_four, Shape.rowMajor_val_five]; simp),
    Host.dynamicSlice_eq_extractStridedSlice S1x2x8x128x128 U (at5 n) ![k.val, 0, 0, 0, 0] sliceFits_S128x2x8x128x128_S1x2x8x128x128
      ⟨rfl, fun a => by fin_cases a <;> simp [Shape.size] <;> omega⟩ (at5_eq k n hn)]
  pointwise

/-- The states put. -/
theorem putAt_apply (O : FVec Ideal S128x2x8x128x128 .f32) (S : FVec Ideal S2x8x128x128 .f32) (p : Fin 128) (b : Fin 2) (h : Fin 8) (d v : Fin 128) :
    putAt O S n (ix5 p b h d v) = if p = k then S (ix4 b h d v) else O (ix5 p b h d v) := by
  have e : ∀ y : FVec Ideal S1x2x8x128x128 .f32, updateSlice O y ![k.val, 0, 0, 0, 0]
      ⟨rfl, fun a => by fin_cases a <;> simp [Shape.size] <;> omega⟩ (ix5 p b h d v) = if p = k then y (ix5 0 b h d v) else O (ix5 p b h d v) := fun y => by
    by_cases hp : p = k
    · subst hp
      rw [if_pos rfl]
      unfold updateSlice
      rw [dif_pos (fun a => by fin_cases a <;> simp [Shape.size] <;> omega)]
      refine congrArg y (funext fun a => ?_)
      fin_cases a <;> exact Fin.ext (by simp)
    · rw [if_neg hp]
      unfold updateSlice
      rw [dif_neg]
      intro H
      have H0 := H 0
      simp [Shape.size] at H0
      exact hp (Fin.ext (by omega))
  unfold putAt
  rw [WordCmp.dynamicUpdateSlice_eq_update _ _ (at5 n) updateFits_S128x2x8x128x128_S1x2x8x128x128 ![k.val, 0, 0, 0, 0]
    ⟨rfl, fun a => by fin_cases a <;> simp [Shape.size] <;> omega⟩ (at5_eq k n hn), e]
  pointwise

omit hn
/-- A step at an index. -/
theorem stepOf_apply (D : FVec Ideal S2x8x128 .f32) (U S : FVec Ideal S2x8x128x128 .f32) (b : Fin 2) (h : Fin 8) (d v : Fin 128) :
    stepOf D U S (ix4 b h d v) = D (ix3 b h d) * S (ix4 b h d v) + U (ix4 b h d v) := by
  pointwise [stepOf]

end Cert.ReferenceIdeal.HandLoop
-- ==== Proof.HgrnRefValue.lean ====
/-
  The reference's vectors at an index are the plain arithmetic of the recurrence.
-/
module

public import proofs.«01_k».proof.Defs
public import proofs.«01_k».proof.Proof.HgrnRefDefs

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.HandWindow Cert.Proof.HgrnSpec

variable (a : FVec Ideal S16384x12288 .f32) (l : FVec Ideal S2x1024 .f32) (g : FVec Ideal S1x1024 .f32)

/-- The columns' array by row and column. -/
def inA : Fin 16384 → Fin 12288 → EReal := fun i j => a (ix2 i j)
/-- The bound logits by row and column. -/
def inL : Fin 2 → Fin 1024 → EReal := fun i j => l (ix2 i j)
/-- The norm's gain by column. -/
def inN : Fin 1024 → EReal := fun j => g (ix2 0 j)

/-- A product with an exponential at an index. -/
theorem mul_exp {s : Shape} (x y : FVec Ideal s .f32) (i : s.Idx) : mulf x (Host.exp y) i = x i * Ideal.exp (y i) := rfl
/-- A negation at an index. -/
theorem neg_apply {s : Shape} (x : FVec Ideal s .f32) (i : s.Idx) : Host.negf x i = -x i := rfl
/-- A logarithm at an index. -/
theorem log_apply {s : Shape} (x : FVec Ideal s .f32) (i : s.Idx) : Host.log x i = Ideal.log (x i) := rfl
/-- A sum at an index. -/
theorem sum_apply {s : Shape} (x y : FVec Ideal s .f32) (i : s.Idx) : addf x y i = x i + y i := rfl
/-- A product at an index. -/
theorem mul_apply {s : Shape} (x y : FVec Ideal s .f32) (i : s.Idx) : mulf x y i = x i * y i := rfl
/-- A row spread over all rows, at an index. -/
theorem spread_apply (x : FVec Ideal S1024 .f32) (b : Fin 2) (r : Fin 8192) (j : Fin 1024) : spread x (ix3 b r j) = x (ix1 j) := by
  pointwise [spread]

theorem qCols_apply (b : Fin 2) (n : Fin 128) (t : Fin 64) (h : Fin 8) (d : Fin 128) :
    byChunk (qCols a) (ix5 b n t h d) = chunk (inA a) 4096 b h n t d := by
  unfold byChunk qCols
  rw [cast5, cast3]
  pointwise [chunk, inA]
  congr 3 <;> omega

theorem fCols_apply (b : Fin 2) (n : Fin 128) (t : Fin 64) (h : Fin 8) (d : Fin 128) :
    fCols a (ix3 b ⟨64 * n.val + t.val, by omega⟩ ⟨128 * h.val + d.val, by omega⟩) = chunk (inA a) 5120 b h n t d := by
  unfold fCols
  rw [cast3]
  pointwise [chunk, inA]
  congr 3 <;> omega

theorem iCols_apply (b : Fin 2) (n : Fin 128) (t : Fin 64) (h : Fin 8) (d : Fin 128) :
    byChunk (iCols a) (ix5 b n t h d) = chunk (inA a) 6144 b h n t d := by
  unfold byChunk iCols
  rw [cast5, cast3]
  pointwise [chunk, inA]
  congr 3 <;> omega

/-! ## The steps at an index, of any vectors -/

/-- The logistic at an index. -/
theorem sigmV_apply (x : FVec Ideal S2x8192x1024 .f32) (b : Fin 2) (r : Fin 8192) (j : Fin 1024) :
    sigmV x (ix3 b r j) = logi (x (ix3 b r j)) := by
  pointwise [sigmV, onesV, logi]

/-- The swish function at an index. -/
theorem swishV_apply (x : FVec Ideal S2x8192x1024 .f32) (b : Fin 2) (r : Fin 8192) (j : Fin 1024) :
    swishV x (ix3 b r j) = x (ix3 b r j) * logi (x (ix3 b r j)) := by
  rw [← sigmV_apply]
  rfl

/-- The exponentials at an index. -/
theorem lowExp_apply (r : Fin 2) (j : Fin 1024) : lowExp l (ix2 r j) = Ideal.exp (l (ix2 r j) - max (l (ix2 0 j)) (l (ix2 1 j))) := by
  have e : Host.reduce (FloatOps.maximumf (F := Ideal) (φ := .f32)) l (constant S_ .f32 0xFF800000#32) reducesTo_S2x1024_S1024_d0 h_S_ (ix1 j)
      = max (l (ix2 0 j)) (l (ix2 1 j)) := by
    rw [← fold_two (fun r => l (ix2 r j))]
    pointwise
  have e' : ∀ y : FVec Ideal S1024 .f32, Host.exp (subf l (broadcastInDim S2x1024 ![0, 1] bcast_S1x1024_S2x1024_0_1 (broadcastInDim S1x1024 ![1] bcast_S1024_S1x1024_1 y))) (ix2 r j)
      = Ideal.exp (l (ix2 r j) - y (ix1 j)) := fun y => by pointwise
  unfold lowExp
  have e2 : ∀ y : FVec Ideal S1024 .f32, maximumf (broadcastInDim S1024 ![] bcast_S_S1024 (constant S_ .f32 0xFF800000#32)) y (ix1 j) = y (ix1 j) := fun y => by
    have hb : Ideal.ofBits FTy.f32 0xFF800000#32 = ⊥ := by simp [Ideal.ofBits, Ideal.ieee]
    pointwise
    rw [hb, max_eq_right bot_le]
  rw [e', e2, e]

/-- The bounds at a column, of the softmax's running sum. -/
theorem rowOf_apply (x : FVec Ideal S2x1024 .f32) (j : Fin 1024) : rowOf (winOf x) (ix1 j) = x (ix2 0 j) := by
  rw [← running_first x (broadcastInDim S_ ![] bcast_S_S_ (constant S_ .f32 0x00000000#32)) (by pointwise) j]
  have e : ∀ y : FVec Ideal S2x1024 .f32, rowOf y (ix1 j) = y (ix2 0 j) := fun y => by pointwise [rowOf]
  rw [e]
  rfl

/-- The lower bounds at a column. -/
theorem low_apply (h : Fin 8) (d : Fin 128) : rowOf (winOf (lowSoft l)) (ix1 ⟨128 * h.val + d.val, by omega⟩) = lows (inL l) h d := by
  rw [rowOf_apply]
  pointwise [lowSoft, lowExp_apply, lows, lowAt, inL]
  rw [Fin.sum_univ_two]

/-- The gate at an index. -/
theorem gateOf_apply (y : FVec Ideal S2x1024 .f32) (x : FVec Ideal S2x8192x1024 .f32) (b : Fin 2) (r : Fin 8192) (j : Fin 1024) :
    gateOf y x (ix3 b r j) = gateAt (rowOf y (ix1 j)) (x (ix3 b r j)) := by
  unfold gateAt
  rw [← sigmV_apply]
  pointwise [gateOf, spread]

/-- The running sums at an index. -/
theorem cumOf_apply (x : FVec Ideal S2x128x64x8x128 .f32) (b : Fin 2) (n : Fin 128) (t : Fin 64) (h : Fin 8) (d : Fin 128) :
    cumOf x (ix5 b n t h d) = ∑ s : Fin 64, if s ≤ t then x (ix5 b n s h d) else 0 :=
  running x _ (by pointwise) b n t h d

/-- The last rows at an index. -/
theorem lastOf_apply (x : FVec Ideal S2x128x64x8x128 .f32) (b : Fin 2) (n : Fin 128) (h : Fin 8) (d : Fin 128) :
    lastOf x (ix5 b n 0 h d) = x (ix5 b n 63 h d) := by
  pointwise [lastOf]

/-- The keys decayed to the end, at an index. -/
theorem endOf_apply (x y : FVec Ideal S2x128x64x8x128 .f32) (b : Fin 2) (n : Fin 128) (t : Fin 64) (h : Fin 8) (d : Fin 128) :
    endOf x y (ix5 b n t h d) = x (ix5 b n t h d) * Ideal.exp (y (ix5 b n 63 h d) - y (ix5 b n t h d)) := by
  rw [← lastOf_apply y]
  unfold endOf
  generalize lastOf y = z
  pointwise

/-- The causal mask. -/
theorem mask_apply (t s : Fin 64) : trilOf allV (ix2 t s) = if s ≤ t then 1#1 else 0#1 := by
  revert t s
  decide +kernel

/-- The scores at an index. -/
theorem dotOf_apply (q k : FVec Ideal S2x128x64x8x128 .f32) (b : Fin 2) (n : Fin 128) (h : Fin 8) (t s : Fin 64) :
    dotOf q k (ix5 b n h t s) = ∑ d : Fin 128, q (ix5 b n t h d) * k (ix5 b n s h d) := by
  pointwise [dotOf]

/-- The masked scores at an index. -/
theorem scoreOf_apply (k : IVec S64x64 1) (x : FVec Ideal S2x128x8x64x64 .f32) (b : Fin 2) (n : Fin 128) (h : Fin 8) (t s : Fin 64) :
    scoreOf (constant S_ .f32 0x00000000#32) k x (ix5 b n h t s) = Scalar.select (k (ix2 t s)) (x (ix5 b n h t s)) 0 := by
  unfold scoreOf
  rw [id]
  pointwise

/-- The attention within a chunk, at an index. -/
theorem intraOf_apply (i : FVec Ideal S2x128x64x8x128 .f32) (s : FVec Ideal S2x128x8x64x64 .f32) (b : Fin 2) (n : Fin 128) (t : Fin 64)
    (h : Fin 8) (v : Fin 128) : intraOf i s (ix5 b n t h v) = ∑ u : Fin 64, s (ix5 b n h t u) * i (ix5 b n u h v) := by
  pointwise [intraOf]
  exact Finset.sum_congr rfl fun u _ => mul_comm _ _

/-- A chunk's decay at an index. -/
theorem decOf_apply (y : FVec Ideal S2x128x1x8x128 .f32) (b : Fin 2) (n : Fin 128) (h : Fin 8) (d : Fin 128) :
    decOf y (ix4 n b h d) = Ideal.exp (y (ix5 b n 0 h d)) := by
  rw [← castLast y]
  unfold decOf
  generalize shapeCast S2x128x8x128 y shapeCasts_S2x128x1x8x128_S2x128x8x128 = z
  pointwise

/-- A chunk's outer products at an index. -/
theorem addOf_apply (e i : FVec Ideal S2x128x64x8x128 .f32) (b : Fin 2) (n : Fin 128) (h : Fin 8) (d v : Fin 128) :
    addOf e i (ix5 n b h d v) = ∑ s : Fin 64, e (ix5 b n s h d) * i (ix5 b n s h v) := by
  pointwise [addOf]

/-- The output before the norm, at an index. -/
theorem rawOf_apply (S : FVec Ideal S128x2x8x128x128 .f32) (q y : FVec Ideal S2x128x64x8x128 .f32) (b : Fin 2) (n : Fin 128) (t : Fin 64)
    (h : Fin 8) (v : Fin 128) : rawOf S q y (ix5 b n t h v) = y (ix5 b n t h v) + ∑ d : Fin 128, q (ix5 b n t h d) * S (ix5 n b h d v) := by
  pointwise [rawOf]
  exact congrArg _ (Finset.sum_congr rfl fun d _ => mul_comm _ _)

/-- The norm at an index. -/
theorem normV_apply (x : FVec Ideal S2x128x64x8x128 .f32) (b : Fin 2) (n : Fin 128) (t : Fin 64) (h : Fin 8) (v : Fin 128) (gn xg : EReal) :
    normV x (ix5 b n t h v) * gn * (xg * logi xg) = Cert.Proof.HgrnSpec.normAt (fun u => x (ix5 b n t h u)) gn xg v := by
  pointwise [normV, Cert.Proof.HgrnSpec.normAt]

/-- The output gate's columns at an index. -/
theorem gCols_apply (b : Fin 2) (r : Fin 8192) (j : Fin 1024) :
    gCols a (ix3 b r j) = chunk (inA a) 7168 b ⟨j.val / 128, by omega⟩ ⟨r.val / 64, by omega⟩ ⟨r.val % 64, by omega⟩ ⟨j.val % 128, by omega⟩ := by
  unfold gCols
  rw [cast3]
  pointwise [chunk, inA]
  congr 3 <;> omega

/-! ## The vectors of the arguments at an index -/

/-- The gate by chunk and head. -/
theorem gateV_apply (b : Fin 2) (n : Fin 128) (t : Fin 64) (h : Fin 8) (d : Fin 128) :
    gateV a l (ix3 b ⟨64 * n.val + t.val, by omega⟩ ⟨128 * h.val + d.val, by omega⟩)
      = gateAt (lows (inL l) h d) (chunk (inA a) 5120 b h n t d) := by
  unfold gateV
  rw [gateOf_apply, fCols_apply, low_apply]

/-- The running sums. -/
theorem cumV_apply (b : Fin 2) (n : Fin 128) (t : Fin 64) (h : Fin 8) (d : Fin 128) :
    cumV a l (ix5 b n t h d) = cumAt (lows (inL l) h) (chunk (inA a) 5120 b h n) t d := by
  unfold cumV cumAt
  rw [cumOf_apply]
  refine Finset.sum_congr rfl fun s _ => ?_
  unfold byChunk
  rw [cast5, log_apply, gateV_apply]

/-- The decayed queries. -/
theorem qV_apply (b : Fin 2) (n : Fin 128) (t : Fin 64) (h : Fin 8) (d : Fin 128) :
    qV a l (ix5 b n t h d) = qAt (lows (inL l) h) (chunk (inA a) 5120 b h n) (chunk (inA a) 4096 b h n) t d := by
  have e : byChunk (swishV (qCols a)) (ix5 b n t h d) = chunk (inA a) 4096 b h n t d * logi (chunk (inA a) 4096 b h n t d) := by
    rw [← qCols_apply]
    unfold byChunk
    rw [cast5, cast5, swishV_apply]
  unfold qAt qV qOf
  rw [mul_exp, e, cumV_apply]

/-- The complement of the gate. -/
theorem keyV_apply (b : Fin 2) (n : Fin 128) (t : Fin 64) (h : Fin 8) (d : Fin 128) :
    keyV a l (ix5 b n t h d) = 1 - gateAt (lows (inL l) h d) (chunk (inA a) 5120 b h n t d) := by
  have e : ∀ (x : FVec Ideal S2x8192x1024 .f32) (b : Fin 2) (r : Fin 8192) (j : Fin 1024), keyOf x (ix3 b r j) = 1 - x (ix3 b r j) := fun x b r j => by
    pointwise [keyOf, onesV]
  unfold keyV byChunk
  rw [cast5, e, gateV_apply]

/-- The decayed keys. -/
theorem kV_apply (b : Fin 2) (n : Fin 128) (t : Fin 64) (h : Fin 8) (d : Fin 128) :
    kV a l (ix5 b n t h d) = kAt (lows (inL l) h) (chunk (inA a) 5120 b h n) t d := by
  unfold kAt kV kOf
  rw [mul_exp, neg_apply, keyV_apply, cumV_apply]

/-- The keys decayed to their chunk's end. -/
theorem endV_apply (b : Fin 2) (n : Fin 128) (t : Fin 64) (h : Fin 8) (d : Fin 128) :
    endV a l (ix5 b n t h d) = endAt (lows (inL l) h) (chunk (inA a) 5120 b h n) t d := by
  unfold endAt endV
  rw [endOf_apply, keyV_apply, cumV_apply, cumV_apply]

/-- The masked scores. -/
theorem scoreV_apply (b : Fin 2) (n : Fin 128) (h : Fin 8) (t s : Fin 64) :
    scoreV a l (ix5 b n h t s) = if s ≤ t then ∑ d : Fin 128, qAt (lows (inL l) h) (chunk (inA a) 5120 b h n) (chunk (inA a) 4096 b h n) t d
      * kAt (lows (inL l) h) (chunk (inA a) 5120 b h n) s d else 0 := by
  unfold scoreV
  rw [scoreOf_apply, mask_apply, dotOf_apply]
  simp only [qV_apply, kV_apply]
  by_cases hs : s ≤ t
  · rw [if_pos hs, if_pos hs]; rfl
  · rw [if_neg hs, if_neg hs]; rfl

/-- A chunk's decay. -/
theorem decV_apply (b : Fin 2) (n : Fin 128) (h : Fin 8) (d : Fin 128) :
    decV a l (ix4 n b h d) = Ideal.exp (cumAt (lows (inL l) h) (chunk (inA a) 5120 b h n) 63 d) := by
  unfold decV
  rw [decOf_apply, lastOf_apply, cumV_apply]

/-- A chunk's outer products. -/
theorem addV_apply (b : Fin 2) (n : Fin 128) (h : Fin 8) (d v : Fin 128) :
    addV a l (ix5 n b h d v) = ∑ s : Fin 64, endAt (lows (inL l) h) (chunk (inA a) 5120 b h n) s d * chunk (inA a) 6144 b h n s v := by
  unfold addV
  rw [addOf_apply]
  exact Finset.sum_congr rfl fun s _ => by rw [endV_apply, iCols_apply]

/-- The output before the norm, once the states are the recurrence's. -/
theorem raw_apply (S : FVec Ideal S128x2x8x128x128 .f32) (b : Fin 2) (n : Fin 128) (t : Fin 64) (h : Fin 8) (v : Fin 128)
    (hS : ∀ d v, S (ix5 n b h d v) = stateAt (inA a) (inL l) b h n.val d v) :
    rawOf S (qV a l) (intraV a l) (ix5 b n t h v)
      = rawAt (lows (inL l) h) (chunk (inA a) 5120 b h n) (chunk (inA a) 4096 b h n) (chunk (inA a) 6144 b h n) (stateAt (inA a) (inL l) b h n.val) t v := by
  unfold rawAt intraV
  rw [rawOf_apply, intraOf_apply]
  simp only [scoreV_apply, iCols_apply, qV_apply, hS]

/-- The gained rows at an index. -/
theorem gainOf_apply (x : FVec Ideal S2x128x64x8x128 .f32) (b : Fin 2) (r : Fin 8192) (j : Fin 1024) :
    gainOf x g (ix3 b r j) = normV x (ix5 b ⟨r.val / 64, by omega⟩ ⟨r.val % 64, by omega⟩ ⟨j.val / 128, by omega⟩ ⟨j.val % 128, by omega⟩)
      * inN g ⟨128 * (j.val / 128) + j.val % 128, by omega⟩ := by
  have eN : inN g ⟨128 * (j.val / 128) + j.val % 128, by omega⟩ = shapeCast S1024 g shapeCasts_S1x1024_S1024 (ix1 j) := by
    have : (⟨128 * (j.val / 128) + j.val % 128, by omega⟩ : Fin 1024) = j := Fin.ext (by show 128 * (j.val / 128) + j.val % 128 = j.val; omega)
    rw [this]
    pointwise [inN]
  unfold gainOf
  rw [mul_apply, uncast5, spread_apply, eN]

/-- The output, once the states are the recurrence's. -/
theorem outV_apply (S : FVec Ideal S128x2x8x128x128 .f32)
    (hS : ∀ (b : Fin 2) (n : Fin 128) (h : Fin 8) (d v : Fin 128), S (ix5 n b h d v) = stateAt (inA a) (inL l) b h n.val d v)
    (i : Fin 16384) (j : Fin 1024) : outV a l g S (ix2 i j) = out (inA a) (inL l) (inN g) i j := by
  have e64 : (⟨i.val % 8192 % 64, by omega⟩ : Fin 64) = ⟨i.val % 64, by omega⟩ := Fin.ext (by show i.val % 8192 % 64 = i.val % 64; omega)
  unfold outV outOf
  rw [uncast3, mul_apply, gainOf_apply, swishV_apply, gCols_apply, normV_apply]
  unfold out outAt
  rw [e64]
  exact congrArg (fun f => Cert.Proof.HgrnSpec.normAt f _ _ _) (funext fun u => raw_apply a l S _ _ _ _ u (hS _ _ _))

end Cert.ReferenceIdeal.Hand
-- ==== Proof.HgrnRefRun.lean ====
/-
  The run of the reference: its loop leaves the states before the chunks, and its result is the named output vector of them.
-/
module

public import proofs.«01_k».proof.Defs
public import proofs.«01_k».proof.Proof.HgrnRefDefs
public import proofs.«01_k».proof.Proof.HgrnRefEntry
public import proofs.«01_k».proof.Proof.HgrnRefLoop
public import proofs.«01_k».proof.Proof.HgrnRefValue
public import proofs.«01_k».proof.Proof.Gen.ReferenceIdeal.Run
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.StableHlo

namespace Cert.ReferenceIdeal.HandRun

open Cert.ReferenceIdeal Cert.ReferenceIdeal.Gen Cert.ReferenceIdeal.Value Cert.ReferenceIdeal.Hand Cert.ReferenceIdeal.HandLoop
open Cert.Proof.HgrnSpec

/-! ## What a stretch keeps -/

section
variable (V : Valuation τ sig (Elt Ideal)) {r : Ref sig .tc}

theorem k0 (h : r ∉ hostOps0_W) : after hostOps0 V (Proc.devRef .tc r) = V (Proc.devRef .tc r) := after_of_writes_sub hostOps0 V hostOps0_writes h
theorem k1 (h : r ∉ hostOps0_1_W) : after hostOps0_1 V (Proc.devRef .tc r) = V (Proc.devRef .tc r) := after_of_writes_sub hostOps0_1 V hostOps0_1_writes h
theorem k2 (h : r ∉ hostOps0_2_W) : after hostOps0_2 V (Proc.devRef .tc r) = V (Proc.devRef .tc r) := after_of_writes_sub hostOps0_2 V hostOps0_2_writes h
theorem k3 (h : r ∉ hostOps0_3_W) : after hostOps0_3 V (Proc.devRef .tc r) = V (Proc.devRef .tc r) := after_of_writes_sub hostOps0_3 V hostOps0_3_writes h
theorem k4 (h : r ∉ hostOps0_4_W) : after hostOps0_4 V (Proc.devRef .tc r) = V (Proc.devRef .tc r) := after_of_writes_sub hostOps0_4 V hostOps0_4_writes h
theorem k5 (h : r ∉ hostOps0_5_W) : after hostOps0_5 V (Proc.devRef .tc r) = V (Proc.devRef .tc r) := after_of_writes_sub hostOps0_5 V hostOps0_5_writes h
theorem k6 (h : r ∉ hostOps0_6_W) : after hostOps0_6 V (Proc.devRef .tc r) = V (Proc.devRef .tc r) := after_of_writes_sub hostOps0_6 V hostOps0_6_writes h
theorem k7 (h : r ∉ hostOps0_7_W) : after hostOps0_7 V (Proc.devRef .tc r) = V (Proc.devRef .tc r) := after_of_writes_sub hostOps0_7 V hostOps0_7_writes h
theorem k8 (h : r ∉ hostOps0_8_W) : after hostOps0_8 V (Proc.devRef .tc r) = V (Proc.devRef .tc r) := after_of_writes_sub hostOps0_8 V hostOps0_8_writes h
theorem k9 (h : r ∉ hostOps0_9_W) : after hostOps0_9 V (Proc.devRef .tc r) = V (Proc.devRef .tc r) := after_of_writes_sub hostOps0_9 V hostOps0_9_writes h
theorem k10 (h : r ∉ hostOps0_10_W) : after hostOps0_10 V (Proc.devRef .tc r) = V (Proc.devRef .tc r) := after_of_writes_sub hostOps0_10 V hostOps0_10_writes h
theorem w0 (h : r ∉ while0Ops0_W) : after while0Ops0 V (Proc.devRef .tc r) = V (Proc.devRef .tc r) := after_of_writes_sub while0Ops0 V while0Ops0_writes h
theorem w1 (h : r ∉ while0Ops0_1_W) : after while0Ops0_1 V (Proc.devRef .tc r) = V (Proc.devRef .tc r) := after_of_writes_sub while0Ops0_1 V while0Ops0_1_writes h
theorem w2 (h : r ∉ while0Ops0_2_W) : after while0Ops0_2 V (Proc.devRef .tc r) = V (Proc.devRef .tc r) := after_of_writes_sub while0Ops0_2 V while0Ops0_2_writes h
theorem w3 (h : r ∉ while0Ops0_3_W) : after while0Ops0_3 V (Proc.devRef .tc r) = V (Proc.devRef .tc r) := after_of_writes_sub while0Ops0_3 V while0Ops0_3_writes h
theorem w4 (h : r ∉ while0Ops0_4_W) : after while0Ops0_4 V (Proc.devRef .tc r) = V (Proc.devRef .tc r) := after_of_writes_sub while0Ops0_4 V while0Ops0_4_writes h

/-- The references the stretch writes. -/
abbrev W11 : List (Ref sig .tc) := [main_v69, main_v70, main_v71, main_v72, main_v73, main_cst_10, main_v74, main_v75, main_cst_11, main_v76, main_v77, main_cst_12, main_v78, main_v79, main_v80, main_v81, main_v82, main_v83, main_v84, main_v85, main_v86, main_v87]
/-- The references the stretch writes. -/
abbrev W12 : List (Ref sig .tc) := [main_call8_v0, main_call8_v1, main_call8_cst, main_call8_v2, main_call8_v3, main_call8_cst_0, main_call8_v4, main_call8_v5, main_v88]
/-- The references the stretch writes. -/
abbrev W13 : List (Ref sig .tc) := [main_v89, main_v90]
/-- The references the loop's condition writes. -/
abbrev WC : List (Ref sig .tc) := [main_while0c_c_17, main_while0c_v91]
theorem k11 (h : r ∉ W11) : after hostOps0_11 V (Proc.devRef .tc r) = V (Proc.devRef .tc r) :=
  after_of_writes_sub (W := W11) hostOps0_11 V (StableHlo.forall_writes_sub_of_map rfl) h
theorem k12 (h : r ∉ W12) : after hostOps0_12 V (Proc.devRef .tc r) = V (Proc.devRef .tc r) :=
  after_of_writes_sub (W := W12) hostOps0_12 V (StableHlo.forall_writes_sub_of_map rfl) h
theorem k13 (h : r ∉ W13) : after hostOps0_13 V (Proc.devRef .tc r) = V (Proc.devRef .tc r) :=
  after_of_writes_sub (W := W13) hostOps0_13 V (StableHlo.forall_writes_sub_of_map rfl) h
theorem kC (h : r ∉ WC) : after condOps V (Proc.devRef .tc r) = V (Proc.devRef .tc r) :=
  after_of_writes_sub (W := WC) condOps V (StableHlo.forall_writes_sub_of_map rfl) h

/-- A round of the loop keeps what none of its operations write. -/
theorem keepTrip (hC : r ∉ WC) (h0 : r ∉ while0Ops0_W) (h1 : r ∉ while0Ops0_1_W) (h2 : r ∉ while0Ops0_2_W) (h3 : r ∉ while0Ops0_3_W)
    (h4 : r ∉ while0Ops0_4_W) : afterL bodyI (after condOps V) (Proc.devRef .tc r) = V (Proc.devRef .tc r) := by
  simp only [bodyI, afterL_cons, afterL_nil]
  rw [w4 _ h4, w3 _ h3, w2 _ h2, w1 _ h1, w0 _ h0, kC _ hC]

end

variable (m : (ℓ : Loc nD τ sig) → Buf (Elt Ideal) ℓ) (ρ : Dev nD → PrngReg) (c : Dev nD)

/-- The columns' array. -/
abbrev A : FVec Ideal S16384x12288 .f32 := m ((c.tc : Thread nD τ).loc main_arg0)
/-- The bound logits. -/
abbrev L : FVec Ideal S2x1024 .f32 := m ((c.tc : Thread nD τ).loc main_arg1)
/-- The norm's gain. -/
abbrev G : FVec Ideal S1x1024 .f32 := m ((c.tc : Thread nD τ).loc main_arg2)

/-! ## The contents after each stretch before the loop -/

/-- The contents after the stretch. -/
def E0 : Valuation τ sig (Elt Ideal) := after hostOps0 (launchContents m c)
/-- The contents after the stretch. -/
def E1 : Valuation τ sig (Elt Ideal) := after hostOps0_1 (E0 m c)
/-- The contents after the stretch. -/
def E2 : Valuation τ sig (Elt Ideal) := after hostOps0_2 (E1 m c)
/-- The contents after the stretch. -/
def E3 : Valuation τ sig (Elt Ideal) := after hostOps0_3 (E2 m c)
/-- The contents after the stretch. -/
def E4 : Valuation τ sig (Elt Ideal) := after hostOps0_4 (E3 m c)
/-- The contents after the stretch. -/
def E5 : Valuation τ sig (Elt Ideal) := after hostOps0_5 (E4 m c)
/-- The contents after the stretch. -/
def E6 : Valuation τ sig (Elt Ideal) := after hostOps0_6 (E5 m c)
/-- The contents after the stretch. -/
def E7 : Valuation τ sig (Elt Ideal) := after hostOps0_7 (E6 m c)
/-- The contents after the stretch. -/
def E8 : Valuation τ sig (Elt Ideal) := after hostOps0_8 (E7 m c)
/-- The contents after the stretch. -/
def E9 : Valuation τ sig (Elt Ideal) := after hostOps0_9 (E8 m c)
/-- The contents after the stretch. -/
def E10 : Valuation τ sig (Elt Ideal) := after hostOps0_10 (E9 m c)

/-- The loop's entry is the contents after the last stretch before it. -/
theorem entry_eq : entryContents preI m c = E10 m c := by
  simp only [entryContents, preI, afterL_cons, afterL_nil]
  rfl

theorem v1_0 : E0 m c (Proc.devRef .tc main_v1) = qCols (A m c) := by
  unfold E0
  rw [s0_v1]
theorem v3_0 : E0 m c (Proc.devRef .tc main_v3) = fCols (A m c) := by
  unfold E0
  rw [s0_v3]
theorem v5_0 : E0 m c (Proc.devRef .tc main_v5) = iCols (A m c) := by
  unfold E0
  rw [s0_v5]
theorem v7_0 : E0 m c (Proc.devRef .tc main_v7) = gCols (A m c) := by
  unfold E0
  rw [s0_v7]
theorem v18_0 : E0 m c (Proc.devRef .tc main_v18) = lowSoft (L m c) := by
  unfold E0
  rw [s0_v18]
theorem v19_1 : E1 m c (Proc.devRef .tc main_v19) = winOf (lowSoft (L m c)) := by
  unfold E1
  rw [s1_v19, v18_0]
theorem v3_1 : E1 m c (Proc.devRef .tc main_v3) = fCols (A m c) := by
  unfold E1
  rw [k1 _ (by decide), v3_0]
theorem v35_2 : E2 m c (Proc.devRef .tc main_v35) = gateV (A m c) (L m c) := by
  unfold E2 gateV
  rw [s2_v35, v19_1, v3_1]
theorem v1_2 : E2 m c (Proc.devRef .tc main_v1) = qCols (A m c) := by
  unfold E2 E1
  rw [k2 _ (by decide), k1 _ (by decide), v1_0]
theorem v36_3 : E3 m c (Proc.devRef .tc main_v36) = swishV (qCols (A m c)) := by
  unfold E3
  rw [s3_v36, v1_2]
theorem v35_3 : E3 m c (Proc.devRef .tc main_v35) = gateV (A m c) (L m c) := by
  unfold E3
  rw [k3 _ (by decide), v35_2]
theorem v5_3 : E3 m c (Proc.devRef .tc main_v5) = iCols (A m c) := by
  unfold E3 E2 E1
  rw [k3 _ (by decide), k2 _ (by decide), k1 _ (by decide), v5_0]
theorem v37_4 : E4 m c (Proc.devRef .tc main_v37) = byChunk (swishV (qCols (A m c))) := by
  unfold E4
  rw [s4_v37, v36_3]
theorem v40_4 : E4 m c (Proc.devRef .tc main_v40) = keyV (A m c) (L m c) := by
  unfold E4 keyV
  rw [s4_v40, v35_3]
theorem v41_4 : E4 m c (Proc.devRef .tc main_v41) = byChunk (iCols (A m c)) := by
  unfold E4
  rw [s4_v41, v5_3]
theorem v43_4 : E4 m c (Proc.devRef .tc main_v43) = byChunk (Host.log (F := Ideal) (φ := .f32) (gateV (A m c) (L m c))) := by
  unfold E4
  rw [s4_v43, v35_3]
theorem v44_5 : E5 m c (Proc.devRef .tc main_v44) = cumV (A m c) (L m c) := by
  unfold E5 cumV
  rw [s5_v44, v43_4]
theorem v37_5 : E5 m c (Proc.devRef .tc main_v37) = byChunk (swishV (qCols (A m c))) := by
  unfold E5
  rw [k5 _ (by decide), v37_4]
theorem v40_5 : E5 m c (Proc.devRef .tc main_v40) = keyV (A m c) (L m c) := by
  unfold E5
  rw [k5 _ (by decide), v40_4]
theorem v45_6 : E6 m c (Proc.devRef .tc main_v45) = lastOf (cumV (A m c) (L m c)) := by
  unfold E6
  rw [s6_v45, v44_5]
theorem v47_6 : E6 m c (Proc.devRef .tc main_v47) = qV (A m c) (L m c) := by
  unfold E6 qV
  rw [s6_v47, v37_5, v44_5]
theorem v50_6 : E6 m c (Proc.devRef .tc main_v50) = kV (A m c) (L m c) := by
  unfold E6 kV
  rw [s6_v50, v40_5, v44_5]
theorem v54_6 : E6 m c (Proc.devRef .tc main_v54) = endV (A m c) (L m c) := by
  unfold E6 endV
  rw [s6_v54, v40_5, v44_5]
theorem v55_6 : E6 m c (Proc.devRef .tc main_v55) = allV := by
  unfold E6
  rw [s6_v55]
theorem v56_7 : E7 m c (Proc.devRef .tc main_v56) = trilOf allV := by
  unfold E7
  rw [s7_v56, v55_6]
theorem v47_7 : E7 m c (Proc.devRef .tc main_v47) = qV (A m c) (L m c) := by
  unfold E7
  rw [k7 _ (by decide), v47_6]
theorem v50_7 : E7 m c (Proc.devRef .tc main_v50) = kV (A m c) (L m c) := by
  unfold E7
  rw [k7 _ (by decide), v50_6]
theorem v57_8 : E8 m c (Proc.devRef .tc main_v57) = dotOf (qV (A m c) (L m c)) (kV (A m c) (L m c)) := by
  unfold E8
  rw [s8_v57, v47_7, v50_7]
theorem cst_6_8 : E8 m c (Proc.devRef .tc main_cst_6) = constant (F := Ideal) S_ .f32 0x00000000#32 := by
  unfold E8
  rw [s8_cst]
theorem v56_8 : E8 m c (Proc.devRef .tc main_v56) = trilOf allV := by
  unfold E8
  rw [k8 _ (by decide), v56_7]
theorem v58_9 : E9 m c (Proc.devRef .tc main_v58) = scoreV (A m c) (L m c) := by
  unfold E9 scoreV
  rw [s9_v58, cst_6_8, v56_8, v57_8]
theorem v41_9 : E9 m c (Proc.devRef .tc main_v41) = byChunk (iCols (A m c)) := by
  unfold E9 E8 E7 E6 E5
  rw [k9 _ (by decide), k8 _ (by decide), k7 _ (by decide), k6 _ (by decide), k5 _ (by decide), v41_4]
theorem v45_9 : E9 m c (Proc.devRef .tc main_v45) = lastOf (cumV (A m c) (L m c)) := by
  unfold E9 E8 E7
  rw [k9 _ (by decide), k8 _ (by decide), k7 _ (by decide), v45_6]
theorem v54_9 : E9 m c (Proc.devRef .tc main_v54) = endV (A m c) (L m c) := by
  unfold E9 E8 E7
  rw [k9 _ (by decide), k8 _ (by decide), k7 _ (by decide), v54_6]
theorem v60_10 : E10 m c (Proc.devRef .tc main_v60) = intraV (A m c) (L m c) := by
  unfold E10 intraV
  rw [s10_v60, v41_9, v58_9]
theorem v68_0_10 : E10 m c (Proc.devRef .tc main_v68_0) = decV (A m c) (L m c) := by
  unfold E10 decV
  rw [s10_dec, v45_9]
theorem v68_1_10 : E10 m c (Proc.devRef .tc main_v68_1) = addV (A m c) (L m c) := by
  unfold E10 addV
  rw [s10_add, v54_9, v41_9]
theorem v47_10 : E10 m c (Proc.devRef .tc main_v47) = qV (A m c) (L m c) := by
  unfold E10 E9 E8 E7
  rw [k10 _ (by decide), k9 _ (by decide), k8 _ (by decide), k7 _ (by decide), v47_6]
theorem v7_10 : E10 m c (Proc.devRef .tc main_v7) = gCols (A m c) := by
  unfold E10 E9 E8 E7 E6 E5 E4 E3 E2 E1
  rw [k10 _ (by decide), k9 _ (by decide), k8 _ (by decide), k7 _ (by decide), k6 _ (by decide), k5 _ (by decide), k4 _ (by decide), k3 _ (by decide), k2 _ (by decide), k1 _ (by decide), v7_0]
theorem arg0_10 : E10 m c (Proc.devRef .tc main_arg0) = A m c := by
  unfold E10 E9 E8 E7 E6 E5 E4 E3 E2 E1 E0
  rw [k10 _ (by decide), k9 _ (by decide), k8 _ (by decide), k7 _ (by decide), k6 _ (by decide), k5 _ (by decide), k4 _ (by decide), k3 _ (by decide), k2 _ (by decide), k1 _ (by decide), k0 _ (by decide)]
theorem arg1_10 : E10 m c (Proc.devRef .tc main_arg1) = L m c := by
  unfold E10 E9 E8 E7 E6 E5 E4 E3 E2 E1 E0
  rw [k10 _ (by decide), k9 _ (by decide), k8 _ (by decide), k7 _ (by decide), k6 _ (by decide), k5 _ (by decide), k4 _ (by decide), k3 _ (by decide), k2 _ (by decide), k1 _ (by decide), k0 _ (by decide)]
theorem arg2_10 : E10 m c (Proc.devRef .tc main_arg2) = G m c := by
  unfold E10 E9 E8 E7 E6 E5 E4 E3 E2 E1 E0
  rw [k10 _ (by decide), k9 _ (by decide), k8 _ (by decide), k7 _ (by decide), k6 _ (by decide), k5 _ (by decide), k4 _ (by decide), k3 _ (by decide), k2 _ (by decide), k1 _ (by decide), k0 _ (by decide)]
theorem state_10 (b : Fin 2) (h : Fin 8) (d v : Fin 128) : E10 m c (Proc.devRef .tc main_v68_3) (ix4 b h d v) = (0 : EReal) := by
  unfold E10
  rw [s10_state]
  pointwise

/-! ## The loop -/

/-- The decays are kept. -/
theorem dec_at (k : ℕ) : atK m k c (Proc.devRef .tc main_v68_0) = decV (A m c) (L m c) := by
  rw [atK_agree m c k main_v68_0 (by decide)]
  induction k with
  | zero => exact (congrFun (entry_eq m c) _).trans (v68_0_10 m c)
  | succ k ih => rw [Function.iterate_succ_apply', STEP_main_v68_0]; exact ih

/-- The outer products are kept. -/
theorem add_at (k : ℕ) : atK m k c (Proc.devRef .tc main_v68_1) = addV (A m c) (L m c) := by
  rw [atK_agree m c k main_v68_1 (by decide)]
  induction k with
  | zero => exact (congrFun (entry_eq m c) _).trans (v68_1_10 m c)
  | succ k ih => rw [Function.iterate_succ_apply', STEP_main_v68_1]; exact ih

/-- One round on the state. -/
theorem state_succ (k : ℕ) : atK m (k + 1) c (Proc.devRef .tc main_v68_3) = step_main_v68_3 (atK m k c) := by
  rw [show atK m (k + 1) c = afterL bodyI (after condOps (atK m k c)) from rfl, trip_agree (atK m k c) main_v68_3 (by decide), STEP_main_v68_3]

/-- One round on the states. -/
theorem states_succ (k : ℕ) : atK m (k + 1) c (Proc.devRef .tc main_v68_4) = step_main_v68_4 (atK m k c) := by
  rw [show atK m (k + 1) c = afterL bodyI (after condOps (atK m k c)) from rfl, trip_agree (atK m k c) main_v68_4 (by decide), STEP_main_v68_4]

/-- The counter before a round, as a number. -/
theorem ctr_toInt (k : Fin 128) : ((atK m k.val c (Proc.devRef .tc main_v68_2) : IVec S_ 32) (Shape.Idx.first h_S_)).toInt = k.val := by
  rw [atK_ctr m c k.val]
  exact iv_toInt k.val k.isLt

/-- The state before a round is the recurrence's. -/
theorem state_at (k : ℕ) (hk : k ≤ 128) (b : Fin 2) (h : Fin 8) (d v : Fin 128) :
    (atK m k c (Proc.devRef .tc main_v68_3) : FVec Ideal S2x8x128x128 .f32) (ix4 b h d v) = stateAt (inA (A m c)) (inL (L m c)) b h k d v := by
  induction k generalizing d v with
  | zero => exact (congrFun (congrFun (entry_eq m c) _) _).trans (state_10 m c b h d v)
  | succ k ih =>
    have hn := ctr_toInt m c ⟨k, by omega⟩
    have e : (atK m (k + 1) c (Proc.devRef .tc main_v68_3) : FVec Ideal S2x8x128x128 .f32) = _ := (state_succ m c k).trans (step3 _)
    rw [e, stepOf_apply, decAt_apply ⟨k, by omega⟩ _ hn, addAt_apply ⟨k, by omega⟩ _ hn, dec_at, add_at, decV_apply, addV_apply, ih (by omega)]
    exact (congrFun (congrFun (stateAt_succ (inA (A m c)) (inL (L m c)) b h k (by omega)) d) v).symm

/-- The states put before a round are the recurrence's. -/
theorem states_at (k : ℕ) (hk : k ≤ 128) (p : Fin 128) (hp : p.val < k) (b : Fin 2) (h : Fin 8) (d v : Fin 128) :
    (atK m k c (Proc.devRef .tc main_v68_4) : FVec Ideal S128x2x8x128x128 .f32) (ix5 p b h d v) = stateAt (inA (A m c)) (inL (L m c)) b h p.val d v := by
  induction k with
  | zero => omega
  | succ k ih =>
    have hn := ctr_toInt m c ⟨k, by omega⟩
    have e : (atK m (k + 1) c (Proc.devRef .tc main_v68_4) : FVec Ideal S128x2x8x128x128 .f32) = _ := (states_succ m c k).trans (step4 _)
    rw [e, putAt_apply ⟨k, by omega⟩ _ hn]
    by_cases hpk : p = ⟨k, by omega⟩
    · rw [if_pos hpk, state_at m c k (by omega), hpk]
    · rw [if_neg hpk]
      exact ih (by omega) (by have : p.val ≠ k := fun e => hpk (Fin.ext e); omega)

/-- What no operation of the loop writes is what the loop's entry held. -/
theorem kept (r : Ref sig .tc) (hC : r ∉ WC) (h0 : r ∉ while0Ops0_W) (h1 : r ∉ while0Ops0_1_W) (h2 : r ∉ while0Ops0_2_W) (h3 : r ∉ while0Ops0_3_W)
    (h4 : r ∉ while0Ops0_4_W) (k : ℕ) : atTrip condOps bodyI (entryContents preI m) k c (Proc.devRef .tc r) = E10 m c (Proc.devRef .tc r) := by
  induction k with
  | zero => exact congrFun (entry_eq m c) _
  | succ k ih => exact (keepTrip (atK m k c) hC h0 h1 h2 h3 h4).trans ih

/-! ## The end -/

/-- The states the loop leaves. -/
abbrev states : FVec Ideal S128x2x8x128x128 .f32 := atK m 128 c (Proc.devRef .tc main_v68_4)

/-- The result is the output vector of the arguments and the states. -/
theorem fin_v90 : finalContents condOps preI bodyI postI 128 m c (Proc.devRef .tc main_v90) = outV (A m c) (L m c) (G m c) (states m c) := by
  simp only [finalContents, postI, afterL_cons, afterL_nil]
  unfold outV
  rw [s13_v90, k12 _ (by decide), s12_v88, s11_v87, k11 _ (by decide), kC _ (by decide), kC _ (by decide), kC _ (by decide), kC _ (by decide), kC _ (by decide),
    kept m c main_v47 (by decide) (by decide) (by decide) (by decide) (by decide) (by decide),
    kept m c main_v60 (by decide) (by decide) (by decide) (by decide) (by decide) (by decide),
    kept m c main_arg2 (by decide) (by decide) (by decide) (by decide) (by decide) (by decide),
    kept m c main_v7 (by decide) (by decide) (by decide) (by decide) (by decide) (by decide), v47_10, v60_10, v7_10, arg2_10]

theorem fin_arg0 : finalContents condOps preI bodyI postI 128 m c (Proc.devRef .tc main_arg0) = A m c := by
  simp only [finalContents, postI, afterL_cons, afterL_nil]
  rw [k13 _ (by decide), k12 _ (by decide), k11 _ (by decide), kC _ (by decide),
    kept m c main_arg0 (by decide) (by decide) (by decide) (by decide) (by decide) (by decide), arg0_10]
theorem fin_arg1 : finalContents condOps preI bodyI postI 128 m c (Proc.devRef .tc main_arg1) = L m c := by
  simp only [finalContents, postI, afterL_cons, afterL_nil]
  rw [k13 _ (by decide), k12 _ (by decide), k11 _ (by decide), kC _ (by decide),
    kept m c main_arg1 (by decide) (by decide) (by decide) (by decide) (by decide) (by decide), arg1_10]
theorem fin_arg2 : finalContents condOps preI bodyI postI 128 m c (Proc.devRef .tc main_arg2) = G m c := by
  simp only [finalContents, postI, afterL_cons, afterL_nil]
  rw [k13 _ (by decide), k12 _ (by decide), k11 _ (by decide), kC _ (by decide),
    kept m c main_arg2 (by decide) (by decide) (by decide) (by decide) (by decide) (by decide), arg2_10]

/-- The run: the result is the recurrence's output of the arguments, which are as they were. -/
theorem run : θ_run (defs (F := Ideal)) (onTc (τ := τ) (main (F := Ideal))) ⟨m, fun _ => 0, ρ⟩ (fun r => ∀ c : Dev nD,
    (∀ i j, (r.2.mem ((c.tc : Thread nD τ).loc main_v90) : FVec Ideal S16384x1024 .f32) (ix2 i j) = out (inA (A m c)) (inL (L m c)) (inN (G m c)) i j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run (defs (F := Ideal)) _ _).mono (fun r h c => ?_) (run_fold (F := Ideal) m ρ)
  refine ⟨fun i j => ?_, (h c main_arg0 rfl).trans (fin_arg0 m c), (h c main_arg1 rfl).trans (fin_arg1 m c), (h c main_arg2 rfl).trans (fin_arg2 m c)⟩
  exact (congrFun ((h c main_v90 rfl).trans (fin_v90 m c)) _).trans
    (outV_apply _ _ _ _ (fun b n h d v => states_at m c 128 le_rfl n n.isLt b h d v) i j)

end Cert.ReferenceIdeal.HandRun
-- ==== Proof.HgrnClaim.lean ====
/-
  The recurrence's claim: the kernel's chunked recurrence is the plain one.
-/
module

public import proofs.«01_k».proof.Proof.HgrnValue
public import proofs.«01_k».proof.Proof.HgrnRefRun

@[expose] public section

set_option maxRecDepth 16384

noncomputable section

open Idealize.ShloMosaic Idealize.ShloMosaic.TcCoe Idealize.SL.Sem

namespace Cert.Proof.HgrnClaim

/-- The reference's run leaves its arguments alone. -/
theorem refFrame : Cert.quiescent_ReferenceIdeal := fun m ρ _ =>
  (θ_run Cert.ReferenceIdeal.defs _ _).mono (fun r h => ⟨fun c => (h c).2, sem_eq_zero_of_no_sems (by decide) r.2⟩)
    (Cert.ReferenceIdeal.HandRun.run m ρ)

/-- The kernel and the plain recurrence end with the same result and leave their arguments alone. -/
theorem algebraic : Cert.algebraic_KernelIdeal_ReferenceIdeal := by
  intro m ρ m' ρ' _ hag
  refine ⟨fun c => Cert.KernelIdeal.HandValue.G6 m c,
    (θ_run _ _ _).mono (fun r h c => h c) (Cert.KernelIdeal.HandValue.run m ρ),
    (θ_run _ _ _).mono (fun r h c => ?_) (Cert.ReferenceIdeal.HandRun.run m' ρ')⟩
  obtain ⟨h0, h1⟩ := h c
  refine ⟨?_, h1⟩
  funext i
  obtain ⟨i0, i1, rfl⟩ : ∃ (a : Fin 16384) (b : Fin 1024), i = ix2 a b := by
    idx_vars i
    exact ⟨_, _, rfl⟩
  refine (h0 i0 i1).trans (Eq.trans ?_ (Cert.KernelIdeal.HandGlobal.value m c i0 i1).symm)
  have eA : Cert.ReferenceIdeal.Hand.inA (Cert.ReferenceIdeal.HandRun.A m' c) = Cert.KernelIdeal.HandGlobal.inA m c := by
    funext i j
    exact congrFun (hag c).1 (ix2 i j)
  have eL : Cert.ReferenceIdeal.Hand.inL (Cert.ReferenceIdeal.HandRun.L m' c) = Cert.KernelIdeal.HandGlobal.inL m c := by
    funext i j
    exact congrFun (hag c).2.1 (ix2 i j)
  have eN : Cert.ReferenceIdeal.Hand.inN (Cert.ReferenceIdeal.HandRun.G m' c) = Cert.KernelIdeal.HandGlobal.inN m c := by
    funext j
    exact congrFun (hag c).2.2 (ix2 0 j)
  rw [eA, eL, eN]

end Cert.Proof.HgrnClaim
-- ==== Proof.ProjValue.lean ====
/-
  What the input projection computes: every element of the result is the product row plus the bias, whatever block it lies in.
-/
module

public import proofs.«01_k».proof.Defs
public import proofs.«01_k».proof.Proof.Gen.ProjIdeal.Value
public import Idealize.ShloMosaic.Lib.Pipeline.Value
public import Idealize.ShloMosaic.Lib.StableHlo.Run
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.ProjIdeal.Hand

open Cert.ProjIdeal Cert.ProjIdeal.Gen

section
variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- A later column block: the product of the kept row block with the weight block, plus the bias. -/
theorem outB (c : Dev nD) (i : grid0.Coords) (a2 : Memref sig .tc .vmem S1024x2048 .f32) (h2 : a2.IsWhole)
    (a3 : Memref sig .tc .vmem S2048x1024 .bf16) (h3 : a3.IsWhole) (a4 : Memref sig .tc .vmem S1x1024 .f32) (h4 : a4.IsWhole)
    (a5 : Memref sig .tc .vmem S1024x1024 .f32) (h5 : a5.IsWhole) (a6 : Memref sig .tc .vmem S1024x2048 .bf16) (h6 : a6.IsWhole)
    (hc : ¬cond0_0 i) (x0 : Vec F S1024x2048 .f32) (x1 : Vec F S2048x1024 .bf16) (x2 : Vec F S1x1024 .f32) (xs : Vec F S1024x2048 .bf16) :
    out0_B_3 c i a2 h2 a3 h3 a4 h4 a5 h5 a6 h6 hc x0 x1 x2 xs = k0_pay2 xs x1 x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz]
  simp only [View.readAt_eq_ld, h2.read_unread, h3.read_unread, h4.read_unread, h6.read_unread,
    View.ld_unit_zero (S := S1024x2048) hz, View.ld_unit_zero (S := S2048x1024) hz, View.ld_unit_zero (S := S1x1024) hz]

/-- The first column block of a row block keeps the rows it read. -/
theorem soutA (c : Dev nD) (i : grid0.Coords) (a2 : Memref sig .tc .vmem S1024x2048 .f32) (h2 : a2.IsWhole)
    (a3 : Memref sig .tc .vmem S2048x1024 .bf16) (h3 : a3.IsWhole) (a4 : Memref sig .tc .vmem S1x1024 .f32) (h4 : a4.IsWhole)
    (a5 : Memref sig .tc .vmem S1024x1024 .f32) (h5 : a5.IsWhole) (a6 : Memref sig .tc .vmem S1024x2048 .bf16) (h6 : a6.IsWhole)
    (hc : cond0_0 i) (x0 : Vec F S1024x2048 .f32) (x1 : Vec F S2048x1024 .bf16) (x2 : Vec F S1x1024 .f32) :
    sout0_A_0 c i a2 h2 a3 h3 a4 h4 a5 h5 a6 h6 hc x0 x1 x2 = k0_pay1 x0 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, View.ld_unit_zero (S := S1024x2048) hz]

/-- The first column block of a row block: the same product, of the rows it has just kept. -/
theorem outA (c : Dev nD) (i : grid0.Coords) (a2 : Memref sig .tc .vmem S1024x2048 .f32) (h2 : a2.IsWhole)
    (a3 : Memref sig .tc .vmem S2048x1024 .bf16) (h3 : a3.IsWhole) (a4 : Memref sig .tc .vmem S1x1024 .f32) (h4 : a4.IsWhole)
    (a5 : Memref sig .tc .vmem S1024x1024 .f32) (h5 : a5.IsWhole) (a6 : Memref sig .tc .vmem S1024x2048 .bf16) (h6 : a6.IsWhole)
    (hc : cond0_0 i) (x0 : Vec F S1024x2048 .f32) (x1 : Vec F S2048x1024 .bf16) (x2 : Vec F S1x1024 .f32) :
    out0_A_3 c i a2 h2 a3 h3 a4 h4 a5 h5 a6 h6 hc x0 x1 x2 = k0_pay2 (k0_pay1 x0) x1 x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, h4.read_unread, View.readCov_unit_zero (S := S1024x2048) _ hz,
    View.ld_unit_zero (S := S1024x2048) hz, View.ld_unit_zero (S := S2048x1024) hz, View.ld_unit_zero (S := S1x1024) hz]

theorem idx0 : ∀ t : Fin cfg0.N, win0_0.index t (0 : Fin 2) = t.val / 12 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 12 :=
  (by decide +kernel : ∀ t : Fin grid0.N, _)
theorem idx2 : ∀ t : Fin cfg0.N, win0_2.index t (0 : Fin 2) = 0 ∧ win0_2.index t (1 : Fin 2) = t.val % 12 :=
  (by decide +kernel : ∀ t : Fin grid0.N, _)

/-- Row block `t / 12` of the hidden states, read at an index. -/
theorem iblk0_apply (c : Dev nD) (t : Fin cfg0.N) (j0 : Fin 1024) (j1 : Fin 2048) (h : t.val / 12 * 1024 + j0.val < 16384) :
    (iblk m c 0 t : Vec F S1024x2048 .f32) (ix2 j0 j1) = V m c main_arg0 (ix2 ⟨t.val / 12 * 1024 + j0.val, h⟩ j1) := by
  unfold iblk
  rw [View.read_apply]
  show V m c main_arg0 _ = V m c main_arg0 _
  congr 1
  funext a
  apply Fin.ext
  have hi := idx0 t
  match a with
  | ⟨0, _⟩ => show win0_0.index t 0 * 1024 + 1 * j0.val = _; rw [hi.1]; show _ = t.val / 12 * 1024 + j0.val; omega
  | ⟨1, _⟩ => show win0_0.index t 1 * 2048 + 1 * j1.val = _; rw [hi.2]; show _ = j1.val; omega

/-- Column block `t % 12` of the weights, read at an index. -/
theorem iblk1_apply (c : Dev nD) (t : Fin cfg0.N) (j0 : Fin 2048) (j1 : Fin 1024) (h : t.val % 12 * 1024 + j1.val < 12288) :
    (iblk m c 1 t : Vec F S2048x1024 .bf16) (ix2 j0 j1) = V m c main_v0 (ix2 j0 ⟨t.val % 12 * 1024 + j1.val, h⟩) := by
  unfold iblk
  rw [View.read_apply]
  show V m c main_v0 _ = V m c main_v0 _
  congr 1
  funext a
  apply Fin.ext
  have hi := idx1 t
  match a with
  | ⟨0, _⟩ => show win0_1.index t 0 * 2048 + 1 * j0.val = _; rw [hi.1]; show _ = j0.val; omega
  | ⟨1, _⟩ => show win0_1.index t 1 * 1024 + 1 * j1.val = _; rw [hi.2]; show _ = t.val % 12 * 1024 + j1.val; omega

/-- Column block `t % 12` of the bias, read at an index. -/
theorem iblk2_apply (c : Dev nD) (t : Fin cfg0.N) (j0 : Fin 1) (j1 : Fin 1024) (h : t.val % 12 * 1024 + j1.val < 12288) :
    (iblk m c 2 t : Vec F S1x1024 .f32) (ix2 j0 j1) = V m c main_v1 (ix2 j0 ⟨t.val % 12 * 1024 + j1.val, h⟩) := by
  unfold iblk
  rw [View.read_apply]
  show V m c main_v1 _ = V m c main_v1 _
  congr 1
  funext a
  apply Fin.ext
  have hi := idx2 t
  match a with
  | ⟨0, _⟩ => show win0_2.index t 0 * 1 + 1 * j0.val = _; rw [hi.1]; show _ = j0.val; omega
  | ⟨1, _⟩ => show win0_2.index t 1 * 1024 + 1 * j1.val = _; rw [hi.2]; show _ = t.val % 12 * 1024 + j1.val; omega

/-- Two points of one row block read the same rows. -/
theorem iblk0_congr (c : Dev nD) (t t' : Fin cfg0.N) (h : t.val / 12 = t'.val / 12) :
    (iblk m c 0 t : Vec F S1024x2048 .f32) = iblk m c 0 t' := by
  funext j
  idx_vars j
  have hN : t.val < 192 := lt_of_lt_of_eq t.isLt N_0
  have hN' : t'.val < 192 := lt_of_lt_of_eq t'.isLt N_0
  rw [iblk0_apply m c t j0 j1 (by omega), iblk0_apply m c t' j0 j1 (by omega)]
  have e : (⟨t.val / 12 * 1024 + j0.val, by omega⟩ : Fin 16384) = ⟨t'.val / 12 * 1024 + j0.val, by omega⟩ := Fin.ext (by simp only [h])
  rw [e]

/-- After any point, the scratch holds the point's row block in the narrow format. -/
theorem scratch (c : Dev nD) (n : ℕ) : ∀ (h : n < cfg0.N), (outsAt0 m c n h).2 = k0_pay1 (F := F) (iblk m c 0 ⟨n, h⟩) := by
  induction n with
  | zero => intro h; rw [outsAt0_A m c ⟨0, h⟩ rfl]; dsimp only; rw [soutA]
  | succ n ih =>
    intro h
    by_cases h0 : (n + 1) % 12 = 0
    · rw [outsAt0_A m c ⟨n + 1, h⟩ h0]; dsimp only; rw [soutA]
    · rw [outsAt0_B m c ⟨n + 1, h⟩ h0]
      have e := iblk0_congr (F := F) m c ⟨n, Nat.lt_of_succ_lt h⟩ ⟨n + 1, h⟩ (show n / 12 = (n + 1) / 12 by omega)
      exact (ih (Nat.lt_of_succ_lt h)).trans (congrArg k0_pay1 e)

/-- What any point leaves in its output block: its row block times its weight block, plus its bias block. -/
theorem block (c : Dev nD) (t : Fin cfg0.N) :
    (outsAt0 m c t.val t.isLt).1 = k0_pay2 (F := F) (k0_pay1 (iblk m c 0 t)) (iblk m c 1 t) (iblk m c 2 t) := by
  by_cases h0 : t.val % 12 = 0
  · rw [outsAt0_A m c t h0]; dsimp only; rw [outA]
  · rw [outsAt0_B m c t h0]
    have hs := scratch m c (t.val - 1) (Nat.lt_of_le_of_lt (Nat.sub_le _ _) t.isLt)
    have e := iblk0_congr (F := F) m c ⟨t.val - 1, Nat.lt_of_le_of_lt (Nat.sub_le _ _) t.isLt⟩ t (show (t.val - 1) / 12 = t.val / 12 by omega)
    dsimp only
    rw [hs, congrArg k0_pay1 e]
    rw [outB]

end

variable (m : (ℓ : Loc nD τ sig) → Buf (Elt Ideal) ℓ) (ρ : Dev nD → PrngReg)

/-- The hidden states as launched. -/
abbrev xs (c : Dev nD) : FVec Ideal S16384x2048 .f32 := m ((c : Thread nD τ).loc main_arg0)
/-- The weights as launched. -/
abbrev ws (c : Dev nD) : FVec Ideal S2048x12288 .f32 := m ((c : Thread nD τ).loc main_arg1)
/-- The bias as launched. -/
abbrev bs (c : Dev nD) : FVec Ideal S12288 .f32 := m ((c : Thread nD τ).loc main_arg2)

theorem V_w (c : Dev nD) : (V m c main_v0 : FVec Ideal S2048x12288 .bf16) = truncf .bf16 (ws m c) bitsLt_bf16_f32 := by
  show StableHlo.after hostOps0 _ _ = _
  after_results

theorem V_b (c : Dev nD) : (V m c main_v1 : FVec Ideal S1x12288 .f32) = shapeCast S1x12288 (bs m c) shapeCasts_S12288_S1x12288 := by
  show StableHlo.after hostOps0 _ _ = _
  after_results
  rfl

theorem V_x (c : Dev nD) : (V m c main_arg0 : FVec Ideal S16384x2048 .f32) = xs m c := V_main_arg0 m c

/-- What point `t` leaves in its output block, at an index: the row times the column, plus the bias. -/
theorem block_apply (c : Dev nD) (t : Fin cfg0.N) (j0 j1 : Fin 1024) (h0 : t.val / 12 * 1024 + j0.val < 16384)
    (h1 : t.val % 12 * 1024 + j1.val < 12288) :
    ((outsAt0 m c t.val t.isLt).1 : FVec Ideal S1024x1024 .f32) (ix2 j0 j1)
      = (∑ k : Fin 2048, xs m c (ix2 ⟨t.val / 12 * 1024 + j0.val, h0⟩ k) * ws m c (ix2 k ⟨t.val % 12 * 1024 + j1.val, h1⟩))
        + bs m c (ix1 ⟨t.val % 12 * 1024 + j1.val, h1⟩) := by
  rw [block]
  pointwise [k0_pay2, k0_pay1]
  rw [iblk2_apply m c t 0 j1 h1, V_b]
  simp only [iblk0_apply m c t j0 _ h0, iblk1_apply m c t _ j1 h1, V_x]
  have hb : (shapeCast S1x12288 (bs m c) shapeCasts_S12288_S1x12288 (ix2 0 ⟨t.val % 12 * 1024 + j1.val, h1⟩) : EReal)
      = bs m c (ix1 ⟨t.val % 12 * 1024 + j1.val, h1⟩) := by pointwise
  rw [hb]
  congr 1

/-- EVERY ELEMENT OF THE RESULT: the row of hidden states times the column of weights, plus the bias of the column. -/
theorem value (c : Dev nD) (i0 : Fin 16384) (i1 : Fin 12288) :
    (Cert.ProjIdeal.Value.G3 m c : FVec Ideal S16384x12288 .f32) (ix2 i0 i1)
      = (∑ k : Fin 2048, xs m c (ix2 i0 k) * ws m c (ix2 k i1)) + bs m c (ix1 i1) := by
  have hN : cfg0.N = 192 := N_0
  have hi0 := i0.isLt
  have hi1 := i1.isLt
  have ht : Cert.ProjIdeal.Value.pt3Of (ix2 i0 i1) < cfg0.N := by
    show 12 * (i0.val / 1024 - 0) + 1 * (i1.val / 1024 - 0) < cfg0.N
    omega
  unfold Cert.ProjIdeal.Value.G3
  rw [dif_pos ht, ← Cert.ProjIdeal.Value.outsAt0_sweep m c _ ht]
  have e0 : Cert.ProjIdeal.Value.pt3Of (ix2 i0 i1) / 12 * 1024 + i0.val % 1024 = i0.val := by
    show (12 * (i0.val / 1024 - 0) + 1 * (i1.val / 1024 - 0)) / 12 * 1024 + i0.val % 1024 = i0.val
    omega
  have e1 : Cert.ProjIdeal.Value.pt3Of (ix2 i0 i1) % 12 * 1024 + i1.val % 1024 = i1.val := by
    show (12 * (i0.val / 1024 - 0) + 1 * (i1.val / 1024 - 0)) % 12 * 1024 + i1.val % 1024 = i1.val
    omega
  have hb := block_apply m c ⟨_, ht⟩ ⟨i0.val % 1024, Nat.mod_lt _ (by decide)⟩ ⟨i1.val % 1024, Nat.mod_lt _ (by decide)⟩
    (lt_of_eq_of_lt e0 hi0) (lt_of_eq_of_lt e1 hi1)
  dsimp only at hb
  simp only [e0, e1, Fin.eta] at hb
  have el : Cert.ProjIdeal.Value.loc3Of (ix2 i0 i1) = ix2 ⟨i0.val % 1024, Nat.mod_lt _ (by decide)⟩ ⟨i1.val % 1024, Nat.mod_lt _ (by decide)⟩ := by
    funext a
    match a with
    | ⟨0, _⟩ => rfl
    | ⟨1, _⟩ => rfl
  rw [el]
  exact hb

end Cert.ProjIdeal.Hand
-- ==== Proof.ProjRefValue.lean ====
/-
  What the plain input projection computes, read at an index.
-/
module

public import proofs.«01_k».proof.Defs
public import proofs.«01_k».proof.Proof.Gen.ProjRefIdeal.Run
public import Idealize.ShloMosaic.Lib.Pointwise

@[expose] public section

set_option maxRecDepth 16384

noncomputable section

open Idealize.ShloMosaic Idealize.ShloMosaic.TcCoe Idealize.SL.Sem

namespace Cert.ProjRefIdeal.Hand

open Cert.ProjRefIdeal Cert.ProjRefIdeal.Gen

/-- The reference's product and bias at an index. -/
theorem value (x : FVec Ideal S16384x2048 .f32) (w : FVec Ideal S2048x12288 .f32) (b : FVec Ideal S12288 .f32)
    (i0 : Fin 16384) (i1 : Fin 12288) :
    addf (Host.dotGeneral dot_S16384x2048_S2048x12288_S16384x12288_1_0_0_1_n_n none x w)
        (broadcastInDim S16384x12288 ![0, 1] bcast_S1x12288_S16384x12288_0_1 (broadcastInDim S1x12288 ![1] bcast_S12288_S1x12288_1 b)) (ix2 i0 i1)
      = (∑ k : Fin 2048, x (ix2 i0 k) * w (ix2 k i1)) + b (ix1 i1) := by
  pointwise

end Cert.ProjRefIdeal.Hand
-- ==== Proof.ProjClaim.lean ====
/-
  The input projection's claim: the kernel's result is the plain product plus the bias.
-/
module

public import proofs.«01_k».proof.Proof.ProjValue
public import proofs.«01_k».proof.Proof.ProjRefValue

@[expose] public section

set_option maxRecDepth 16384

noncomputable section

open Idealize.ShloMosaic Idealize.ShloMosaic.TcCoe Idealize.SL.Sem

namespace Cert.Proof.ProjClaim

/-- The kernel and the plain projection end with the same result and leave their arguments alone. -/
theorem algebraic : Cert.algebraic_ProjIdeal_ProjRefIdeal := by
  intro m ρ m' ρ' _ hag
  refine ⟨fun c => Cert.ProjIdeal.Value.G3 m c, Cert.ProjIdeal.Value.run m ρ, (θ_run _ _ _).mono (fun r h c => ?_) (Cert.ProjRefIdeal.Value.run m' ρ')⟩
  obtain ⟨h0, h1⟩ := h c
  refine ⟨?_, h1⟩
  rw [h0, (hag c).1, (hag c).2.1, (hag c).2.2]
  funext i
  obtain ⟨i0, i1, rfl⟩ : ∃ (a : Fin 16384) (b : Fin 12288), i = ix2 a b := by
    idx_vars i
    exact ⟨_, _, rfl⟩
  exact (Cert.ProjRefIdeal.Hand.value _ _ _ i0 i1).trans (Cert.ProjIdeal.Hand.value m c i0 i1).symm

end Cert.Proof.ProjClaim
-- ==== Proof.MergeSpec.lean ====
/-
  The gated merge of the two branches and the layer norm after it, at one element, in plain arithmetic.
-/
module

public import proofs.«01_k».proof.Defs

@[expose] public section

noncomputable section

open Idealize.ShloMosaic

namespace Cert.Proof.MergeSpec

/-- The logistic function. -/
def gate (x : EReal) : EReal := Ideal.div 1 (1 + Ideal.exp (-x))

/-- One element of the scaled residual plus the gated branches' mix. -/
def mixAt (x : EReal) (pa pb : Fin 2048 → EReal) (a b : Fin 1024 → EReal) (wa wb : Fin 1024 → Fin 2048 → EReal) (wo : Fin 2048 → EReal) : EReal :=
  Ideal.ofBits FTy.f32 1066940400#32 * x
    + ∑ k, (gate (pa k) * ∑ l, a l * wa l k + gate (pb k) * ∑ l, b l * wb l k) * wo k

/-- The mean of a row of 2048. -/
def meanOf (row : Fin 2048 → EReal) : EReal := Ideal.div (∑ k, row k) (Ideal.ofBits FTy.f32 1157627904#32)

/-- One element of a row after the layer norm. -/
def normAt (row : Fin 2048 → EReal) (g b : EReal) (j : Fin 2048) : EReal :=
  (row j - meanOf row) * Ideal.rsqrt (meanOf (fun k => (row k - meanOf row) * (row k - meanOf row)) + Ideal.ofBits FTy.f32 925353388#32) * g + b

end Cert.Proof.MergeSpec
-- ==== Proof.MergeValue.lean ====
/-
  What the merge of the two branches computes: every element of its first result is the layer norm of the scaled residual
  plus the gated mix, whatever row block it lies in.
-/
module

public import proofs.«01_k».proof.Defs
public import proofs.«01_k».proof.Proof.MergeSpec
public import proofs.«01_k».proof.Proof.Gen.MergeIdeal.Value
public import Idealize.ShloMosaic.Lib.Pipeline.Value
public import Idealize.ShloMosaic.Lib.StableHlo.Run
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MergeIdeal.Hand

open Cert.MergeIdeal Cert.MergeIdeal.Gen Cert.Proof.MergeSpec

theorem hz : (![0, 0] : Fin 2 → Nat) = fun _ => 0 := funext fun a => by fin_cases a <;> rfl

variable (m : (ℓ : Loc nD τ sig) → Buf (Elt Ideal) ℓ) (ρ : Dev nD → PrngReg)

/-- The gated mix of the branches' blocks at an index. -/
theorem mix_apply (v0 : Vec Ideal S256x2048 .f32) (v8 : Vec Ideal S256x1024 .f32) (v10 : Vec Ideal S1024x2048 .bf16)
    (v14 : Vec Ideal S256x2048 .f32) (v22 : Vec Ideal S256x1024 .f32) (v24 : Vec Ideal S1024x2048 .bf16) (v30 : Vec Ideal S2048x2048 .bf16)
    (v33 : Vec Ideal S256x2048 .f32) (j0 : Fin 256) (j1 : Fin 2048) :
    Ideal.ofBits FTy.f32 1066940400#32 * (v33 : FVec Ideal S256x2048 .f32) (ix2 j0 j1) + k0_pay2 v0 v8 v10 v14 v22 v24 v30 (ix2 j0 j1)
      = mixAt ((v33 : FVec Ideal S256x2048 .f32) (ix2 j0 j1)) (fun k => (v0 : FVec Ideal S256x2048 .f32) (ix2 j0 k)) (fun k => (v14 : FVec Ideal S256x2048 .f32) (ix2 j0 k))
        (fun l => (v8 : FVec Ideal S256x1024 .f32) (ix2 j0 l)) (fun l => (v22 : FVec Ideal S256x1024 .f32) (ix2 j0 l))
        (fun l k => (v10 : FVec Ideal S1024x2048 .bf16) (ix2 l k)) (fun l k => (v24 : FVec Ideal S1024x2048 .bf16) (ix2 l k))
        (fun k => (v30 : FVec Ideal S2048x2048 .bf16) (ix2 k j1)) := by
  pointwise [k0_pay2, mixAt, gate]
  simp only [sub_eq_add_neg, zero_add]

/-- The layer norm of the scaled residual plus a mix, at an index. -/
theorem norm_apply (v32 : FVec Ideal S256x2048 .f32) (v33 : Vec Ideal S256x2048 .f32) (v37 v39 : Vec Ideal S1x2048 .f32)
    (j0 : Fin 256) (j1 : Fin 2048) :
    k0_pay3 v32 v33 v37 v39 (ix2 j0 j1)
      = normAt (fun k => Ideal.ofBits FTy.f32 1066940400#32 * (v33 : FVec Ideal S256x2048 .f32) (ix2 j0 k) + v32 (ix2 j0 k))
        ((v37 : FVec Ideal S1x2048 .f32) (ix2 0 j1)) ((v39 : FVec Ideal S1x2048 .f32) (ix2 0 j1)) j1 := by
  pointwise [k0_pay3, normAt, meanOf]

/-- The blocks the windows hold at a point: the row blocks follow the point, the second gate is one block along, the rest stay. -/
theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 1)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_13.index t (0 : Fin 2) = t.val ∧ win0_13.index t (1 : Fin 2) = 0) :=
  (by decide +kernel : ∀ t : Fin grid0.N, _)

/-- Window 0's block at a point, read at an index. -/
theorem iblk0_apply (c : Dev nD) (t : Fin cfg0.N) (j0 : Fin 256) (j1 : Fin 1024) (h : t.val * 256 + j0.val < 16384) :
    (iblk m c 0 t : Vec Ideal S256x1024 .f32) (ix2 j0 j1) = V m c main_arg0 (ix2 ⟨t.val * 256 + j0.val, h⟩ j1) := by
  unfold iblk
  rw [View.read_apply]
  show V m c main_arg0 _ = V m c main_arg0 _
  congr 1
  funext a
  apply Fin.ext
  have hi := (idx t).1
  match a with
  | ⟨0, _⟩ => show win0_0.index t 0 * 256 + 1 * j0.val = _; rw [hi.1]; show _ = t.val * 256 + j0.val; omega
  | ⟨1, _⟩ => show win0_0.index t 1 * 1024 + 1 * j1.val = _; rw [hi.2]; show _ = j1.val; omega

/-- Window 1's block at a point, read at an index. -/
theorem iblk1_apply (c : Dev nD) (t : Fin cfg0.N) (j0 : Fin 256) (j1 : Fin 1024) (h : t.val * 256 + j0.val < 16384) :
    (iblk m c 1 t : Vec Ideal S256x1024 .f32) (ix2 j0 j1) = V m c main_arg1 (ix2 ⟨t.val * 256 + j0.val, h⟩ j1) := by
  unfold iblk
  rw [View.read_apply]
  show V m c main_arg1 _ = V m c main_arg1 _
  congr 1
  funext a
  apply Fin.ext
  have hi := (idx t).2.1
  match a with
  | ⟨0, _⟩ => show win0_1.index t 0 * 256 + 1 * j0.val = _; rw [hi.1]; show _ = t.val * 256 + j0.val; omega
  | ⟨1, _⟩ => show win0_1.index t 1 * 1024 + 1 * j1.val = _; rw [hi.2]; show _ = j1.val; omega

/-- Window 2's block at a point, read at an index. -/
theorem iblk2_apply (c : Dev nD) (t : Fin cfg0.N) (j0 : Fin 256) (j1 : Fin 2048) (h : t.val * 256 + j0.val < 16384) :
    (iblk m c 2 t : Vec Ideal S256x2048 .f32) (ix2 j0 j1) = V m c main_arg2 (ix2 ⟨t.val * 256 + j0.val, h⟩ ⟨j1.val, by omega⟩) := by
  unfold iblk
  rw [View.read_apply]
  show V m c main_arg2 _ = V m c main_arg2 _
  congr 1
  funext a
  apply Fin.ext
  have hi := (idx t).2.2.1
  match a with
  | ⟨0, _⟩ => show win0_2.index t 0 * 256 + 1 * j0.val = _; rw [hi.1]; show _ = t.val * 256 + j0.val; omega
  | ⟨1, _⟩ => show win0_2.index t 1 * 2048 + 1 * j1.val = _; rw [hi.2]; show _ = j1.val; omega

/-- Window 3's block at a point, read at an index. -/
theorem iblk3_apply (c : Dev nD) (t : Fin cfg0.N) (j0 : Fin 256) (j1 : Fin 2048) (h : t.val * 256 + j0.val < 16384) :
    (iblk m c 3 t : Vec Ideal S256x2048 .f32) (ix2 j0 j1) = V m c main_arg2 (ix2 ⟨t.val * 256 + j0.val, h⟩ ⟨2048 + j1.val, by omega⟩) := by
  unfold iblk
  rw [View.read_apply]
  show V m c main_arg2 _ = V m c main_arg2 _
  congr 1
  funext a
  apply Fin.ext
  have hi := (idx t).2.2.2.1
  match a with
  | ⟨0, _⟩ => show win0_3.index t 0 * 256 + 1 * j0.val = _; rw [hi.1]; show _ = t.val * 256 + j0.val; omega
  | ⟨1, _⟩ => show win0_3.index t 1 * 2048 + 1 * j1.val = _; rw [hi.2]; show _ = 2048 + j1.val; omega

/-- Window 4's block at a point, read at an index. -/
theorem iblk4_apply (c : Dev nD) (t : Fin cfg0.N) (j0 : Fin 256) (j1 : Fin 2048) (h : t.val * 256 + j0.val < 16384) :
    (iblk m c 4 t : Vec Ideal S256x2048 .f32) (ix2 j0 j1) = V m c main_arg3 (ix2 ⟨t.val * 256 + j0.val, h⟩ j1) := by
  unfold iblk
  rw [View.read_apply]
  show V m c main_arg3 _ = V m c main_arg3 _
  congr 1
  funext a
  apply Fin.ext
  have hi := (idx t).2.2.2.2.1
  match a with
  | ⟨0, _⟩ => show win0_4.index t 0 * 256 + 1 * j0.val = _; rw [hi.1]; show _ = t.val * 256 + j0.val; omega
  | ⟨1, _⟩ => show win0_4.index t 1 * 2048 + 1 * j1.val = _; rw [hi.2]; show _ = j1.val; omega

/-- Window 5's block at a point, read at an index. -/
theorem iblk5_apply (c : Dev nD) (t : Fin cfg0.N) (j0 : Fin 1024) (j1 : Fin 2048) :
    (iblk m c 5 t : Vec Ideal S1024x2048 .bf16) (ix2 j0 j1) = V m c main_v1 (ix2 j0 j1) := by
  unfold iblk
  rw [View.read_apply]
  show V m c main_v1 _ = V m c main_v1 _
  congr 1
  funext a
  apply Fin.ext
  have hi := (idx t).2.2.2.2.2.1
  match a with
  | ⟨0, _⟩ => show win0_5.index t 0 * 1024 + 1 * j0.val = _; rw [hi.1]; show _ = j0.val; omega
  | ⟨1, _⟩ => show win0_5.index t 1 * 2048 + 1 * j1.val = _; rw [hi.2]; show _ = j1.val; omega

/-- Window 6's block at a point, read at an index. -/
theorem iblk6_apply (c : Dev nD) (t : Fin cfg0.N) (j0 : Fin 1024) (j1 : Fin 2048) :
    (iblk m c 6 t : Vec Ideal S1024x2048 .bf16) (ix2 j0 j1) = V m c main_v3 (ix2 j0 j1) := by
  unfold iblk
  rw [View.read_apply]
  show V m c main_v3 _ = V m c main_v3 _
  congr 1
  funext a
  apply Fin.ext
  have hi := (idx t).2.2.2.2.2.2.1
  match a with
  | ⟨0, _⟩ => show win0_6.index t 0 * 1024 + 1 * j0.val = _; rw [hi.1]; show _ = j0.val; omega
  | ⟨1, _⟩ => show win0_6.index t 1 * 2048 + 1 * j1.val = _; rw [hi.2]; show _ = j1.val; omega

/-- Window 7's block at a point, read at an index. -/
theorem iblk7_apply (c : Dev nD) (t : Fin cfg0.N) (j0 : Fin 2048) (j1 : Fin 2048) :
    (iblk m c 7 t : Vec Ideal S2048x2048 .bf16) (ix2 j0 j1) = V m c main_v5 (ix2 j0 j1) := by
  unfold iblk
  rw [View.read_apply]
  show V m c main_v5 _ = V m c main_v5 _
  congr 1
  funext a
  apply Fin.ext
  have hi := (idx t).2.2.2.2.2.2.2.1
  match a with
  | ⟨0, _⟩ => show win0_7.index t 0 * 2048 + 1 * j0.val = _; rw [hi.1]; show _ = j0.val; omega
  | ⟨1, _⟩ => show win0_7.index t 1 * 2048 + 1 * j1.val = _; rw [hi.2]; show _ = j1.val; omega

/-- Window 8's block at a point, read at an index. -/
theorem iblk8_apply (c : Dev nD) (t : Fin cfg0.N) (j0 : Fin 1) (j1 : Fin 2048) :
    (iblk m c 8 t : Vec Ideal S1x2048 .f32) (ix2 j0 j1) = V m c main_v7 (ix2 j0 j1) := by
  unfold iblk
  rw [View.read_apply]
  show V m c main_v7 _ = V m c main_v7 _
  congr 1
  funext a
  apply Fin.ext
  have hi := (idx t).2.2.2.2.2.2.2.2.1
  match a with
  | ⟨0, _⟩ => show win0_8.index t 0 * 1 + 1 * j0.val = _; rw [hi.1]; show _ = j0.val; omega
  | ⟨1, _⟩ => show win0_8.index t 1 * 2048 + 1 * j1.val = _; rw [hi.2]; show _ = j1.val; omega

/-- Window 9's block at a point, read at an index. -/
theorem iblk9_apply (c : Dev nD) (t : Fin cfg0.N) (j0 : Fin 1) (j1 : Fin 2048) :
    (iblk m c 9 t : Vec Ideal S1x2048 .f32) (ix2 j0 j1) = V m c main_v9 (ix2 j0 j1) := by
  unfold iblk
  rw [View.read_apply]
  show V m c main_v9 _ = V m c main_v9 _
  congr 1
  funext a
  apply Fin.ext
  have hi := (idx t).2.2.2.2.2.2.2.2.2.1
  match a with
  | ⟨0, _⟩ => show win0_9.index t 0 * 1 + 1 * j0.val = _; rw [hi.1]; show _ = j0.val; omega
  | ⟨1, _⟩ => show win0_9.index t 1 * 2048 + 1 * j1.val = _; rw [hi.2]; show _ = j1.val; omega

/-- The first branch as launched. -/
abbrev brA (c : Dev nD) : FVec Ideal S16384x1024 .f32 := m ((c : Thread nD τ).loc main_arg0)
/-- The second branch as launched. -/
abbrev brB (c : Dev nD) : FVec Ideal S16384x1024 .f32 := m ((c : Thread nD τ).loc main_arg1)
/-- The projection as launched; its first 4096 columns are the gates. -/
abbrev proj (c : Dev nD) : FVec Ideal S16384x12288 .f32 := m ((c : Thread nD τ).loc main_arg2)
/-- The layer's input as launched. -/
abbrev xs (c : Dev nD) : FVec Ideal S16384x2048 .f32 := m ((c : Thread nD τ).loc main_arg3)
/-- The first branch's weights as launched. -/
abbrev wA (c : Dev nD) : FVec Ideal S1x1024x2048 .f32 := m ((c : Thread nD τ).loc main_arg4)
/-- The second branch's weights as launched. -/
abbrev wB (c : Dev nD) : FVec Ideal S1x1024x2048 .f32 := m ((c : Thread nD τ).loc main_arg5)
/-- The output weights as launched. -/
abbrev wO (c : Dev nD) : FVec Ideal S1x2048x2048 .f32 := m ((c : Thread nD τ).loc main_arg6)
/-- The layer norm's scale as launched. -/
abbrev lg (c : Dev nD) : FVec Ideal S1x2048 .f32 := m ((c : Thread nD τ).loc main_arg7)
/-- The layer norm's shift as launched. -/
abbrev lb (c : Dev nD) : FVec Ideal S1x2048 .f32 := m ((c : Thread nD τ).loc main_arg8)

theorem V_wA (c : Dev nD) : (V m c main_v1 : FVec Ideal S1024x2048 .bf16)
    = truncf .bf16 (shapeCast S1024x2048 (wA m c) shapeCasts_S1x1024x2048_S1024x2048) bitsLt_bf16_f32 := by
  show StableHlo.after hostOps0 _ _ = _
  after_results
  rfl

theorem V_wB (c : Dev nD) : (V m c main_v3 : FVec Ideal S1024x2048 .bf16)
    = truncf .bf16 (shapeCast S1024x2048 (wB m c) shapeCasts_S1x1024x2048_S1024x2048) bitsLt_bf16_f32 := by
  show StableHlo.after hostOps0 _ _ = _
  after_results
  rfl

theorem V_wO (c : Dev nD) : (V m c main_v5 : FVec Ideal S2048x2048 .bf16)
    = truncf .bf16 (shapeCast S2048x2048 (wO m c) shapeCasts_S1x2048x2048_S2048x2048) bitsLt_bf16_f32 := by
  show StableHlo.after hostOps0 _ _ = _
  after_results
  rfl

theorem V_lg (c : Dev nD) : (V m c main_v7 : FVec Ideal S1x2048 .f32)
    = shapeCast S1x2048 (shapeCast S2048 (lg m c) shapeCasts_S1x2048_S2048) shapeCasts_S2048_S1x2048 := by
  show StableHlo.after hostOps0 _ _ = _
  after_results
  rfl

theorem V_lb (c : Dev nD) : (V m c main_v9 : FVec Ideal S1x2048 .f32)
    = shapeCast S1x2048 (shapeCast S2048 (lb m c) shapeCasts_S1x2048_S2048) shapeCasts_S2048_S1x2048 := by
  show StableHlo.after hostOps0 _ _ = _
  after_results
  rfl

theorem wA_apply (c : Dev nD) (l : Fin 1024) (k : Fin 2048) : (V m c main_v1 : FVec Ideal S1024x2048 .bf16) (ix2 l k) = wA m c (ix3 0 l k) := by
  rw [V_wA]; pointwise
theorem wB_apply (c : Dev nD) (l : Fin 1024) (k : Fin 2048) : (V m c main_v3 : FVec Ideal S1024x2048 .bf16) (ix2 l k) = wB m c (ix3 0 l k) := by
  rw [V_wB]; pointwise
theorem wO_apply (c : Dev nD) (l : Fin 2048) (k : Fin 2048) : (V m c main_v5 : FVec Ideal S2048x2048 .bf16) (ix2 l k) = wO m c (ix3 0 l k) := by
  rw [V_wO]; pointwise
theorem lg_apply (c : Dev nD) (k : Fin 2048) : (V m c main_v7 : FVec Ideal S1x2048 .f32) (ix2 0 k) = lg m c (ix2 0 k) := by
  rw [V_lg]; pointwise
theorem lb_apply (c : Dev nD) (k : Fin 2048) : (V m c main_v9 : FVec Ideal S1x2048 .f32) (ix2 0 k) = lb m c (ix2 0 k) := by
  rw [V_lb]; pointwise

/-- What a point leaves in its block of the first result, of the blocks it reads. -/
theorem block (x0 : Vec Ideal S256x1024 .f32) (x1 : Vec Ideal S256x1024 .f32) (x2 : Vec Ideal S256x2048 .f32) (x3 : Vec Ideal S256x2048 .f32)
    (x4 : Vec Ideal S256x2048 .f32) (x5 : Vec Ideal S1024x2048 .bf16) (x6 : Vec Ideal S1024x2048 .bf16) (x7 : Vec Ideal S2048x2048 .bf16)
    (x8 : Vec Ideal S1x2048 .f32) (x9 : Vec Ideal S1x2048 .f32) (x10 : Vec Ideal S2048x128 .bf16) (x11 : Vec Ideal S2048x128 .bf16) (x12 : Vec Ideal S1x128 .f32) :
    out0_13 x0 x1 x2 x3 x4 x5 x6 x7 x8 x9 x10 x11 x12 = k0_pay3 (k0_pay2 x2 x0 x5 x3 x1 x6 x7) x4 x8 x9 := by
  unfold out0_13 k0_pay21
  rw [View.canon_unit_zero hz]
  simp only [View.ld_unit_zero (S := S256x1024) hz, View.ld_unit_zero (S := S256x2048) hz, View.ld_unit_zero (S := S1024x2048) hz,
    View.ld_unit_zero (S := S2048x2048) hz, View.ld_unit_zero (S := S1x2048) hz]

/-- Every element of the first result: the layer norm of the row of scaled residual plus gated mix. -/
theorem value (c : Dev nD) (i0 : Fin 16384) (i1 : Fin 2048) :
    ((dats m 0 c).arrAt 13 cfg0.N : FVec Ideal S16384x2048 .f32) (ix2 i0 i1)
      = normAt (fun j => mixAt (xs m c (ix2 i0 j)) (fun k => proj m c (ix2 i0 ⟨k.val, by omega⟩)) (fun k => proj m c (ix2 i0 ⟨2048 + k.val, by omega⟩))
          (fun l => brA m c (ix2 i0 l)) (fun l => brB m c (ix2 i0 l)) (fun l k => wA m c (ix3 0 l k)) (fun l k => wB m c (ix3 0 l k))
          (fun k => wO m c (ix3 0 k j)))
        (lg m c (ix2 0 i1)) (lb m c (ix2 0 i1)) i1 := by
  have hN : cfg0.N = 64 := N_0
  have hi0 := i0.isLt
  obtain ⟨t, ht⟩ : ∃ t : Fin cfg0.N, t.val = i0.val / 256 := ⟨⟨i0.val / 256, by omega⟩, rfl⟩
  have hf : (cfg0.win 13).flush t = true := (by decide +kernel : ∀ t : Fin grid0.N, win0_13.flush t = true) t
  have hb := Cert.MergeIdeal.Value.blocks13 m c t hf
  rw [Cert.MergeIdeal.Value.flushed13, block] at hb
  have hh : t.val * 256 + i0.val % 256 < 16384 := by omega
  have e0 : (⟨t.val * 256 + i0.val % 256, hh⟩ : Fin 16384) = i0 := Fin.ext (by show t.val * 256 + i0.val % 256 = i0.val; omega)
  have hx := congrFun hb (ix2 ⟨i0.val % 256, Nat.mod_lt _ (by decide)⟩ i1)
  rw [View.read_apply] at hx
  have he : ((cfg0.win 13).blk t).view.emb (ix2 ⟨i0.val % 256, Nat.mod_lt _ (by decide)⟩ i1 : S256x2048.Idx) = (ix2 i0 i1 : S16384x2048.Idx) := by
    funext a
    apply Fin.ext
    have hi := (idx t).2.2.2.2.2.2.2.2.2.2
    match a with
    | ⟨0, _⟩ => show win0_13.index t 0 * 256 + 1 * (i0.val % 256) = i0.val; rw [hi.1]; omega
    | ⟨1, _⟩ => show win0_13.index t 1 * 2048 + 1 * i1.val = i1.val; rw [hi.2]; omega
  rw [he] at hx
  refine hx.trans ?_
  show k0_pay3 (F := Ideal) _ _ _ _ (ix2 ⟨i0.val % 256, Nat.mod_lt _ (by decide)⟩ i1) = _
  refine (norm_apply _ _ _ _ _ _).trans ?_
  have hrow : ∀ (row row' : Fin 2048 → EReal) (g g' b b' : EReal), row = row' → g = g' → b = b' → normAt row g b i1 = normAt row' g' b' i1 := by
    intro row row' g g' b b' h1 h2 h3
    rw [h1, h2, h3]
  refine hrow _ _ _ _ _ _ (funext fun j => (mix_apply _ _ _ _ _ _ _ _ _ _).trans ?_) ?_ ?_
  · have hmix : ∀ (x x' : EReal) (pa pa' pb pb' : Fin 2048 → EReal) (a a' b b' : Fin 1024 → EReal) (wa wa' wb wb' : Fin 1024 → Fin 2048 → EReal)
        (wo wo' : Fin 2048 → EReal), x = x' → pa = pa' → pb = pb' → a = a' → b = b' → wa = wa' → wb = wb' → wo = wo' →
        mixAt x pa pb a b wa wb wo = mixAt x' pa' pb' a' b' wa' wb' wo' := by
      intro x x' pa pa' pb pb' a a' b b' wa wa' wb wb' wo wo' h1 h2 h3 h4 h5 h6 h7 h8
      rw [h1, h2, h3, h4, h5, h6, h7, h8]
    have er : ∀ {n : ℕ} (X : Fin 16384 → Fin n → EReal) (q : Fin n), X ⟨t.val * 256 + i0.val % 256, hh⟩ q = X i0 q := fun X q => by rw [e0]
    refine hmix _ _ _ _ _ _ _ _ _ _ _ _ _ _ _ _ ?_ (funext fun k => ?_) (funext fun k => ?_) (funext fun l => ?_) (funext fun l => ?_)
      (funext fun l => funext fun k => ?_) (funext fun l => funext fun k => ?_) (funext fun k => ?_)
    · exact (iblk4_apply m c t ⟨i0.val % 256, Nat.mod_lt _ (by decide)⟩ j hh).trans
        ((congrFun (V_main_arg3 m c) _).trans (er (fun r q => xs m c (ix2 r q)) _))
    · exact (iblk2_apply m c t ⟨i0.val % 256, Nat.mod_lt _ (by decide)⟩ k hh).trans
        ((congrFun (V_main_arg2 m c) _).trans (er (fun r q => proj m c (ix2 r q)) _))
    · exact (iblk3_apply m c t ⟨i0.val % 256, Nat.mod_lt _ (by decide)⟩ k hh).trans
        ((congrFun (V_main_arg2 m c) _).trans (er (fun r q => proj m c (ix2 r q)) _))
    · exact (iblk0_apply m c t ⟨i0.val % 256, Nat.mod_lt _ (by decide)⟩ l hh).trans
        ((congrFun (V_main_arg0 m c) _).trans (er (fun r q => brA m c (ix2 r q)) _))
    · exact (iblk1_apply m c t ⟨i0.val % 256, Nat.mod_lt _ (by decide)⟩ l hh).trans
        ((congrFun (V_main_arg1 m c) _).trans (er (fun r q => brB m c (ix2 r q)) _))
    · exact (iblk5_apply m c t l k).trans (wA_apply m c l k)
    · exact (iblk6_apply m c t l k).trans (wB_apply m c l k)
    · exact (iblk7_apply m c t k j).trans (wO_apply m c k j)
  · exact (iblk8_apply m c t 0 i1).trans (lg_apply m c i1)
  · exact (iblk9_apply m c t 0 i1).trans (lb_apply m c i1)

end Cert.MergeIdeal.Hand
-- ==== Proof.MergeRefValue.lean ====
/-
  What the plain merge computes, read at an index.
-/
module

public import proofs.«01_k».proof.Defs
public import proofs.«01_k».proof.Proof.MergeSpec
public import proofs.«01_k».proof.Proof.Gen.MergeRefIdeal.Run
public import Idealize.ShloMosaic.Lib.Pointwise

@[expose] public section

set_option maxRecDepth 16384

noncomputable section

open Idealize.ShloMosaic Idealize.ShloMosaic.TcCoe Idealize.SL.Sem

namespace Cert.MergeRefIdeal.Hand

open Cert.MergeRefIdeal Cert.MergeRefIdeal.Gen Cert.Proof.MergeSpec

/-- The gates: the logistic of the projection's first 4096 columns. -/
def gates (p : FVec Ideal S16384x12288 .f32) : FVec Ideal S16384x4096 .f32 :=
  Host.divf (broadcastInDim S16384x4096 ![] bcast_S_S16384x4096 (constant S_ .f32 0x3F800000#32))
    (addf (broadcastInDim S16384x4096 ![] bcast_S_S16384x4096 (constant S_ .f32 0x3F800000#32))
      (Host.exp (Host.negf (extractStridedSlice S16384x4096 ![0, 0] p slices_S16384x12288_S16384x4096_0_0))))

/-- The scaled residual plus the gated branches' mix. -/
def mix (p : FVec Ideal S16384x12288 .f32) (x : FVec Ideal S16384x2048 .f32) (a b : FVec Ideal S16384x1024 .f32)
    (wa wb : FVec Ideal S1x1024x2048 .f32) (wo : FVec Ideal S1x2048x2048 .f32) : FVec Ideal S16384x2048 .f32 :=
  addf (mulf (broadcastInDim S16384x2048 ![] bcast_S_S16384x2048 (constant S_ .f32 0x3F9837F0#32)) x)
    (Host.dotGeneral dot_S16384x2048_S2048x2048_S16384x2048_1_0_0_1_n_n none
      (addf (mulf (extractStridedSlice S16384x2048 ![0, 0] (gates p) slices_S16384x4096_S16384x2048_0_0)
          (Host.dotGeneral dot_S16384x1024_S1024x2048_S16384x2048_1_0_0_1_n_n none a (shapeCast _ wa shapeCasts_S1x1024x2048_S1024x2048)))
        (mulf (extractStridedSlice S16384x2048 ![0, 2048] (gates p) slices_S16384x4096_S16384x2048_0_2048)
          (Host.dotGeneral dot_S16384x1024_S1024x2048_S16384x2048_1_0_0_1_n_n none b (shapeCast _ wb shapeCasts_S1x1024x2048_S1024x2048))))
      (shapeCast _ wo shapeCasts_S1x2048x2048_S2048x2048))

/-- The mean of each row, as a column. -/
def mu (x : FVec Ideal S16384x2048 .f32) : FVec Ideal S16384x1 .f32 :=
  Host.divf (broadcastInDim S16384x1 ![0] bcast_S16384_S16384x1_0
    (Host.reduceAdd x (constant S_ .f32 0x00000000#32) reducesTo_S16384x2048_S16384_d1 h_S_))
    (broadcastInDim S16384x1 ![] bcast_S_S16384x1 (constant S_ .f32 0x45000000#32))

/-- Each row less its mean. -/
def cen (x : FVec Ideal S16384x2048 .f32) : FVec Ideal S16384x2048 .f32 :=
  subf x (broadcastInDim S16384x2048 ![0, 1] bcast_S16384x1_S16384x2048_0_1 (mu x))

/-- The layer norm of each row. -/
def norm (x : FVec Ideal S16384x2048 .f32) (g b : FVec Ideal S1x2048 .f32) : FVec Ideal S16384x2048 .f32 :=
  addf (mulf (mulf (cen x) (broadcastInDim S16384x2048 ![0, 1] bcast_S16384x1_S16384x2048_0_1
      (Host.rsqrt (addf (mu (mulf (cen x) (cen x))) (broadcastInDim S16384x1 ![] bcast_S_S16384x1 (constant S_ .f32 0x3727C5AC#32))))))
      (broadcastInDim S16384x2048 ![0, 1] bcast_S1x2048_S16384x2048_0_1 (broadcastInDim S1x2048 ![1] bcast_S2048_S1x2048_1 (shapeCast _ g shapeCasts_S1x2048_S2048))))
    (broadcastInDim S16384x2048 ![0, 1] bcast_S1x2048_S16384x2048_0_1 (broadcastInDim S1x2048 ![1] bcast_S2048_S1x2048_1 (shapeCast _ b shapeCasts_S1x2048_S2048)))

/-- The reference's result is the layer norm of the mix. -/
theorem res_eq (m : (ℓ : Loc nD τ sig) → Buf (Elt Ideal) ℓ) (c : Dev nD) :
    Cert.MergeRefIdeal.Value.res_out0 m c
      = norm (mix (m ((c.tc : Thread nD τ).loc main_arg2)) (m ((c.tc : Thread nD τ).loc main_arg3)) (m ((c.tc : Thread nD τ).loc main_arg0))
          (m ((c.tc : Thread nD τ).loc main_arg1)) (m ((c.tc : Thread nD τ).loc main_arg4)) (m ((c.tc : Thread nD τ).loc main_arg5))
          (m ((c.tc : Thread nD τ).loc main_arg6))) (m ((c.tc : Thread nD τ).loc main_arg7)) (m ((c.tc : Thread nD τ).loc main_arg8)) := by
  unfold Cert.MergeRefIdeal.Value.res_out0 Cert.MergeRefIdeal.Value.res_main_v46 norm cen mu mix gates
  rfl

/-- The layer norm at an index. -/
theorem norm_apply (x : FVec Ideal S16384x2048 .f32) (g b : FVec Ideal S1x2048 .f32) (j0 : Fin 16384) (j1 : Fin 2048) :
    norm x g b (ix2 j0 j1) = normAt (fun k => x (ix2 j0 k)) (g (ix2 0 j1)) (b (ix2 0 j1)) j1 := by
  pointwise [norm, cen, mu, normAt, meanOf]

/-- The mix at an index. -/
theorem mix_apply (p : FVec Ideal S16384x12288 .f32) (x : FVec Ideal S16384x2048 .f32) (a b : FVec Ideal S16384x1024 .f32)
    (wa wb : FVec Ideal S1x1024x2048 .f32) (wo : FVec Ideal S1x2048x2048 .f32) (j0 : Fin 16384) (j1 : Fin 2048) :
    mix p x a b wa wb wo (ix2 j0 j1)
      = mixAt (x (ix2 j0 j1)) (fun k => p (ix2 j0 ⟨k.val, by omega⟩)) (fun k => p (ix2 j0 ⟨2048 + k.val, by omega⟩))
        (fun l => a (ix2 j0 l)) (fun l => b (ix2 j0 l)) (fun l k => wa (ix3 0 l k)) (fun l k => wb (ix3 0 l k)) (fun k => wo (ix3 0 k j1)) := by
  pointwise [mix, gates, mixAt, gate]

end Cert.MergeRefIdeal.Hand
-- ==== Proof.MergeClaim.lean ====
/-
  The merge's claim: the kernel's first result is the plain layer norm of the gated mix.
-/
module

public import proofs.«01_k».proof.Proof.MergeValue
public import proofs.«01_k».proof.Proof.MergeRefValue

@[expose] public section

set_option maxRecDepth 16384

noncomputable section

open Idealize.ShloMosaic Idealize.ShloMosaic.TcCoe Idealize.SL.Sem

namespace Cert.Proof.MergeClaim

/-- The kernel and the plain merge end with the same result and leave their arguments alone. -/
theorem algebraic : Cert.algebraic_MergeIdeal_MergeRefIdeal := by
  intro m ρ m' ρ' _ hag
  refine ⟨fun c => (Cert.MergeIdeal.Gen.dats m 0 c).arrAt 13 Cert.MergeIdeal.cfg0.N,
    (θ_run _ _ _).mono (fun r h c => ⟨(h c).1, (h c).2.2.2⟩) (Cert.MergeIdeal.Value.run_blocks m ρ),
    (θ_run _ _ _).mono (fun r h c => ?_) (Cert.MergeRefIdeal.Value.run m' ρ')⟩
  obtain ⟨h0, h1⟩ := h c
  refine ⟨?_, h1⟩
  refine (h0.trans (Cert.MergeRefIdeal.Hand.res_eq m' c)).trans ?_
  rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1]
  funext i
  obtain ⟨i0, i1, rfl⟩ : ∃ (a : Fin 16384) (b : Fin 2048), i = ix2 a b := by
    idx_vars i
    exact ⟨_, _, rfl⟩
  refine (Cert.MergeRefIdeal.Hand.norm_apply _ _ _ i0 i1).trans (Eq.trans ?_ (Cert.MergeIdeal.Hand.value m c i0 i1).symm)
  simp only [Cert.MergeRefIdeal.Hand.mix_apply]

end Cert.Proof.MergeClaim
-- ==== Proof.MoeRun.lean ====
/-
  The expert kernel's body at one grid point, run on any whole staging memrefs and any contents of the two tables: the
  block of rows it leaves.
-/
module

public import proofs.«01_k».proof.Defs
public import proofs.«01_k».proof.Proof.Gen.MoeIdeal
public import proofs.«01_k».proof.Proof.Gen.MoeIdeal.Skeleton
public import proofs.«01_k».proof.Proof.Gen.MoeIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Pipeline.Value
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tables as the body is handed them. -/
abbrev tbE : Memref sig .tc .smem S160 .i32 := Memref.whole main_arg0
abbrev tbN : Memref sig .tc .smem S1 .i32 := Memref.whole main_arg1

theorem z2 : (![0, 0] : Fin 2 → ℕ) = fun _ => 0 := funext fun a => by fin_cases a <;> rfl
theorem z3 : (![0, 0, 0] : Fin 3 → ℕ) = fun _ => 0 := funext fun a => by fin_cases a <;> rfl

/-- The first condition: the block number is below the count, as signed words. -/
theorem cond1_iff (i : grid0.Coords) (v : BitVec 32) : k0_cond1 i v = 1#1 ↔ (BitVec.ofNat 32 (i 0).val).slt v = true := by
  unfold k0_cond1
  simp only [Scalar.cmpi, Scalar.extui, IntOp.cmpi]
  cases (BitVec.ofNat 32 (i 0).val).slt v <;> decide

/-- The second condition: it is not. -/
theorem cond2_iff (i : grid0.Coords) (v : BitVec 32) : k0_cond2 i v = 1#1 ↔ ¬ (BitVec.ofNat 32 (i 0).val).slt v = true := by
  unfold k0_cond2
  simp only [Scalar.cmpi, Scalar.extui, IntOp.cmpi]
  have e : v.sle (BitVec.ofNat 32 (i 0).val) = !(BitVec.ofNat 32 (i 0).val).slt v := by
    rw [BitVec.sle_eq_not_slt]
  rw [e]
  cases (BitVec.ofNat 32 (i 0).val).slt v <;> decide

/-- The word of the count's table. -/
abbrev cnt (T1 : S1.Idx → Elt F .i32) : BitVec 32 := T1 (Shape.Idx.first (numel1_S1.symm ▸ Nat.one_pos))

/-- The count's table has one place. -/
theorem idx1_eq (a b : S1.Idx) : a = b := funext fun k => by
  match k with
  | ⟨0, _⟩ => exact Fin.ext (by have h1 := (a 0).isLt; have h2 := (b 0).isLt; change (a 0).val < 1 at h1; change (b 0).val < 1 at h2; show (a 0).val = (b 0).val; omega)

/-- The rows a point leaves: the experts' two-layer network of its rows while blocks are in use, zero past them. -/
def outBlk (i : grid0.Coords) (T1 : S1.Idx → Elt F .i32) (x0 : Vec F S256x2048 .f32) (x1 x2 : Vec F S1x2048x1024 .bf16)
    (x3 : Vec F S1x1024x2048 .bf16) : Vec F S256x2048 .f32 :=
  if k0_cond1 i (cnt T1) = 1#1 then k0_pay1 x0 x1 x2 x3 else k0_pay2 (F := F)

/-- A block stored whole reads as the block. -/
theorem read_store (arg : Memref sig .tc .vmem S256x2048 .f32) (f : arg.view.ty.Contents (Elt F)) (x : Vec F S256x2048 .f32)
    (h : ∀ a, (![0, 0] : Fin 2 → ℕ) a + S256x2048.size a ≤ S256x2048.size a) :
    arg.view.read (Elt F) (arg.view.writes (Elt F) f [⟨Rect.unit (s := S256x2048) ![0, 0] S256x2048.size h, x⟩]) = x := by
  funext y
  have e : (Rect.unit (s := S256x2048) ![0, 0] S256x2048.size h).emb y = y := by
    funext a; apply Fin.ext
    match a with
    | ⟨0, _⟩ => show 0 + 1 * (y (0 : Fin 2)).val = (y (0 : Fin 2)).val; omega
    | ⟨1, _⟩ => show 0 + 1 * (y (1 : Fin 2)).val = (y (1 : Fin 2)).val; omega
  have := View.read_writes_cons_emb arg.view f (Rect.unit (s := S256x2048) ![0, 0] S256x2048.size h) x [] y
  rwa [e] at this

/-- The word the body reads of the count's table. -/
abbrev word (T1 : S1.Idx → Elt F .i32) : BitVec 32 :=
  View.readAt (Elt F) (tbN).view (Rect.unit (s := S1) ![0] S1.size inb_S1_S1_0).toLoadRect T1 (Shape.Idx.first (numel1_S1.symm ▸ Nat.one_pos))

theorem word_eq (T1 : S1.Idx → Elt F .i32) : word T1 = cnt T1 := by
  unfold word cnt
  rw [View.readAt_eq_ld]
  show T1 _ = T1 _
  exact congrArg T1 (idx1_eq _ _)

set_option maxHeartbeats 2000000 in
/-- The body at a point, at any contents of the tables. -/
theorem run (c : Dev nD) (i : grid0.Coords) (arg3 : Memref sig .tc .vmem S256x2048 .f32) (harg3 : arg3.IsWhole) (arg4 : Memref sig .tc .vmem S1x2048x1024 .bf16) (harg4 : arg4.IsWhole)
    (arg5 : Memref sig .tc .vmem S1x2048x1024 .bf16) (harg5 : arg5.IsWhole) (arg6 : Memref sig .tc .vmem S1x1024x2048 .bf16) (harg6 : arg6.IsWhole) (arg7 : Memref sig .tc .vmem S256x2048 .f32) (harg7 : arg7.IsWhole)
    (T0 : S160.Idx → Elt F .i32) (T1 : S1.Idx → Elt F .i32)
    (x0 : Vec F S256x2048 .f32) (x1 : Vec F S1x2048x1024 .bf16) (x2 : Vec F S1x2048x1024 .bf16) (x3 : Vec F S1x1024x2048 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (tbE.view.loc (c : Thread nD τ) ↦{fullShare.right} T0) ∗ (tbN.view.loc (c : Thread nD τ) ↦{fullShare.right} T1)
        ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ (tbE.view.loc (c : Thread nD τ) ↦{fullShare.right} T0) ∗ (tbN.view.loc (c : Thread nD τ) ↦{fullShare.right} T1)
            ∗ owns (c : Thread nD τ) arg7 fullShare (outBlk i T1 x0 x1 x2 x3)) -∗ K ⟨⟩))
      ⊢ wp frame (wpE (defs₀ (F := F)) Variants.none c none) E (cc0_moe_ffn i tbE (Memref.isWhole_whole _) tbN (Memref.isWhole_whole _) arg3 harg3 arg4 harg4 arg5 harg5 arg6 harg6 arg7 harg7) K := by
  rw [cc0_moe_ffn_eq_skeleton]; unfold cc0_moe_ffn_skel
  have hT0 : tbE.IsWhole := Memref.isWhole_whole _
  have hT1 : tbN.IsWhole := Memref.isWhole_whole _
  by_cases hs : (BitVec.ofNat 32 (i 0).val).slt (cnt T1) = true
  · have h1 : k0_cond1 i (word T1) = 1#1 := by rw [word_eq]; exact (cond1_iff _ _).2 hs
    have h2 : ¬ k0_cond2 i (word T1) = 1#1 := by rw [word_eq]; exact fun h => (cond2_iff _ _).1 h hs
    have ho : outBlk i T1 x0 x1 x2 x3 = k0_pay1 x0 x1 x2 x3 := if_pos ((cond1_iff _ _).2 hs)
    rw [ho]; unfold owns
    iintro ⟨⟨%f0, %hf0, H0⟩, ⟨%f1, %hf1, H1⟩, ⟨%f2, %hf2, H2⟩, ⟨%f3, %hf3, H3⟩, HT0, HT1, ⟨%d4, %f4, -, H4⟩, Hk⟩
    obtain rfl := harg3.eq_unread hf0; obtain rfl := harg4.eq_unread hf1; obtain rfl := harg5.eq_unread hf2; obtain rfl := harg6.eq_unread hf3
    sl_exec! (disch := first | (guard_target = k0_cond1 _ _ = _; exact h1) | (guard_target = ¬(k0_cond2 _ _ = _); exact h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HT0]; · iexact HT0
    isplitl [HT1]; · iexact HT1
    iexists _; isplitr
    rotate_left
    · iexact H4
    · ipureintro
      refine (read_store _ _ _ _).trans ?_
      simp only [View.readAt_eq_ld, View.ld_unit_zero (S := S256x2048) z2, View.ld_unit_zero (S := S1x2048x1024) z3, View.ld_unit_zero (S := S1x1024x2048) z3,
        harg3.read_unread, harg4.read_unread, harg5.read_unread, harg6.read_unread]
  · have h1 : ¬ k0_cond1 i (word T1) = 1#1 := by rw [word_eq]; exact fun h => hs ((cond1_iff _ _).1 h)
    have h2 : k0_cond2 i (word T1) = 1#1 := by rw [word_eq]; exact (cond2_iff _ _).2 hs
    have ho : outBlk i T1 x0 x1 x2 x3 = k0_pay2 (F := F) := if_neg fun h => hs ((cond1_iff _ _).1 h)
    rw [ho]; unfold owns
    iintro ⟨⟨%f0, %hf0, H0⟩, ⟨%f1, %hf1, H1⟩, ⟨%f2, %hf2, H2⟩, ⟨%f3, %hf3, H3⟩, HT0, HT1, ⟨%d4, %f4, -, H4⟩, Hk⟩
    obtain rfl := harg3.eq_unread hf0; obtain rfl := harg4.eq_unread hf1; obtain rfl := harg5.eq_unread hf2; obtain rfl := harg6.eq_unread hf3
    sl_exec! (disch := first | (guard_target = ¬(k0_cond1 _ _ = _); exact h1) | (guard_target = k0_cond2 _ _ = _; exact h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HT0]; · iexact HT0
    isplitl [HT1]; · iexact HT1
    iexists _; isplitr
    rotate_left
    · iexact H4
    · ipureintro
      exact read_store _ _ _ _

end Cert.MoeIdeal.Hand

end
-- ==== Proof.MoeFrame.lean ====
/-
  The expert kernel's launch at any contents of its two tables that keep every block inside its array: it ends, its
  arguments are unchanged, and the result array holds the blocks its points leave.
-/
module

public import proofs.«01_k».proof.Proof.MoeRun

@[expose] public section

set_option maxRecDepth 16384

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The resource algebra of the launch: the rounds library's, embedded whole. -/
abbrev EP : Emb (UR sig nD τ) 𝕄 := emb₁

variable (a : (pcfg0 (F := F)).Adm)
variable (m : (ℓ : Loc nD τ sig) → Buf (Elt F) ℓ) (ρ : Dev nD → PrngReg)

/-- The pipeline at the tables `a`. -/
abbrev cfgA : Pipeline.Cfg sig Λ₀ := cfg0 (F := F) a
abbrev pcs : Fin 1 → Pipeline.Cfg sig Λ₀ := Pipeline.pin (pcfgs (F := F)) fun _ => a

/-- The tables' contents at their literal types. -/
abbrev tE : S160.Idx → Elt F .i32 := a.1 0
abbrev tN : S1.Idx → Elt F .i32 := a.1 1

/-- A point's coordinates. -/
abbrev crd (t : Fin (cfgA a).N) : (cfgA a).grid.Coords := (cfgA a).grid.coords t

/-- Each window's current staging memref at a point, and its wholeness. -/
abbrev ms0 (t : Fin (cfgA a).N) : Memref sig .tc .vmem S256x2048 .f32 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S1x2048x1024 .bf16 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x2048x1024 .bf16 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S1x1024x2048 .bf16 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S256x2048 .f32 := spec0_4.stage ((cfgA a).slots t (4 : Fin 5))
abbrev hs4 (t : Fin (cfgA a).N) : (ms4 a t).IsWhole := hstage0_4 (((cfgA a).slots t (4 : Fin 5)).cast nbuf0_4)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- The block of rows point `t` leaves. -/
def left (c : Dev nD) (t : Fin (cfgA a).N) : Vec F S256x2048 .f32 :=
  outBlk (crd a t) (tN a) (iblk a m ρ c (0 : Fin 5) t) (iblk a m ρ c (1 : Fin 5) t) (iblk a m ρ c (2 : Fin 5) t) (iblk a m ρ c (3 : Fin 5) t)

/-- The kernel stores its output block at every point. -/
theorem idle4 (t : Fin (cfgA a).N) : (cfgA a).idle (4 : Fin 5) ((cfgA a).grid.coords t) = false := by
  show (!(k0_cond1 (crd a t) (a.1.atD 1 ![0]) == 1#1) && !(k0_cond2 (crd a t) (a.1.atD 1 ![0]) == 1#1)) = false
  generalize a.1.atD 1 ![0] = v
  by_cases hs : (BitVec.ofNat 32 ((crd a t) 0).val).slt v = true
  · rw [(cond1_iff (crd a t) v).2 hs]; rfl
  · rw [(cond2_iff (crd a t) v).2 hs, Bool.and_comm]; rfl

/-- Between points the region keeps the body's halves of the tables. -/
def Phi (c : Dev nD) : sProp 𝕄 :=
  iprop((tbE.view.loc (c : Thread nD τ) ↦{fullShare.right} tE a) ∗ (tbN.view.loc (c : Thread nD τ) ↦{fullShare.right} tN a))

/-- The proof data of the pipeline on core `c`. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => left a m ρ c t
  Φ t := Phi a c
  q _ := fullShare
  owed _ := 0

theorem after0 (c : Dev nD) (t : Fin (cfgA a).N) : (dats a m ρ 0 c).after (0 : Fin 5) t = iblk a m ρ c (0 : Fin 5) t := rfl
theorem after1 (c : Dev nD) (t : Fin (cfgA a).N) : (dats a m ρ 0 c).after (1 : Fin 5) t = iblk a m ρ c (1 : Fin 5) t := rfl
theorem after2 (c : Dev nD) (t : Fin (cfgA a).N) : (dats a m ρ 0 c).after (2 : Fin 5) t = iblk a m ρ c (2 : Fin 5) t := rfl
theorem after3 (c : Dev nD) (t : Fin (cfgA a).N) : (dats a m ρ 0 c).after (3 : Fin 5) t = iblk a m ρ c (3 : Fin 5) t := rfl
theorem after4 (c : Dev nD) (t : Fin (cfgA a).N) : (dats a m ρ 0 c).after (4 : Fin 5) t = left a m ρ c t := rfl

/-- Each input's staging buffer holds its block when the body runs, fetched there or not. -/
theorem before0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- The body at point `t` on its staging memrefs. -/
abbrev bodyAt (t : Fin (cfgA a).N) : Prog (TpuEff nD τ sig (Elt F) Λ₀ .tc) PUnit :=
  cc0_moe_ffn (crd a t) (Memref.whole main_arg0) (Memref.isWhole_whole _) (Memref.whole main_arg1) (Memref.isWhole_whole _) (ms0 a t) (hs0 a t) (ms1 a t) (hs1 a t) (ms2 a t) (hs2 a t) (ms3 a t) (hs3 a t) (ms4 a t) (hs4 a t)

set_option maxHeartbeats 4000000 in
/-- The body's triple at any point. -/
theorem sound_body (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 5) t d))
        ∗ (∃ d, owns (c : Thread nD τ) (ms1 a t) fullShare ((dats a m ρ 0 c).before (1 : Fin 5) t d))
        ∗ (∃ d, owns (c : Thread nD τ) (ms2 a t) fullShare ((dats a m ρ 0 c).before (2 : Fin 5) t d))
        ∗ (∃ d, owns (c : Thread nD τ) (ms3 a t) fullShare ((dats a m ρ 0 c).before (3 : Fin 5) t d))
        ∗ (∃ d, owns (c : Thread nD τ) (ms4 a t) fullShare ((dats a m ρ 0 c).before (4 : Fin 5) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  have i4 := idle4 a t
  rewrite [i4]
  simp only [before0, before1, before2, before3, after0, after1, after2, after3, after4]
  rewrite [show (dats a m ρ 0 c).Φ t.succ = Phi a c from rfl, show (dats a m ρ 0 c).Φ t.castSucc = Phi a c from rfl,
    show (dats a m ρ 0 c).owesAt () t.succ = (dats a m ρ 0 c).owesAt () t.castSucc from rfl]
  unfold Phi left
  iintro ⟨⟨HT0, HT1⟩, Ho, ⟨%d0, H0⟩, ⟨%d1, H1⟩, ⟨%d2, H2⟩, ⟨%d3, H3⟩, ⟨%d4, H4⟩⟩
  iapply (run c (crd a t) (ms0 a t) (hs0 a t) (ms1 a t) (hs1 a t) (ms2 a t) (hs2 a t) (ms3 a t) (hs3 a t) (ms4 a t) (hs4 a t) (tE a) (tN a)
    (iblk a m ρ c (0 : Fin 5) t) (iblk a m ρ c (1 : Fin 5) t) (iblk a m ρ c (2 : Fin 5) t) (iblk a m ρ c (3 : Fin 5) t) Set.univ _)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  iintro ⟨H0, H1, H2, H3, HT0, HT1, H4⟩
  isplitl [HT0 HT1]
  · isplitl [HT0]
    · iexact HT0
    iexact HT1
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats a m ρ 0 c) (defs₀ (F := F)) Variants.none () Set.univ := fun t => by
  rw [bigSep_W0]
  exact sound_body a m ρ c t

/-! ## The launch -/

/-- The launch element. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables. -/
theorem phi_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a c from rfl]
  unfold Phi
  iintro ⟨-, ⟨HT0, HT1⟩, -⟩
  isplitl [HT0]
  · iexact HT0
  iexact HT1

/-- At the last point the tables are let go. -/
theorem phi_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a c from rfl]
  unfold Phi
  iintro ⟨-, -⟩
  isplitr; · iempintro
  iempintro

/-- The launch memory holds the tables `a`. -/
def Holds : Prop := ∀ (c : Dev nD) (j : Fin 2), m ((c : Thread nD τ).loc (pre0.ref j)) = a.1 j

/-- The state at the end: every array at what the pipeline computes, the tables as they were. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
/-- From any memory that holds the tables `a`: every weakly fair run ends, in that state and with every counter at zero. -/
theorem run_main (hp : Holds a m) : θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_intro a m ρ)
    (hout := phi_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- From any memory that holds the tables `a`: the run ends, the result array is what the pipeline computes of its last
    window, the arguments are unchanged, and every counter is at zero. -/
theorem run_all (hp : Holds a m) :
    θ_run (defs (F := F)) (onTc (τ := τ) (main (F := F))) ⟨m, fun _ => 0, ρ⟩ (fun r => (∀ c : Dev nD,
      r.2.mem ((c.tc : Thread nD τ).loc main_v0) = (dats a m ρ 0 c).arrAt (4 : Fin 5) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c).1 (4 : Fin 5), ((h.1 c).2 0).trans (hp c 0).symm, ((h.1 c).2 1).trans (hp c 1).symm,
      ((h.1 c).1 (0 : Fin 5)).trans ((dats a m ρ 0 c).arrAt_in (0 : Fin 5) rfl _),
      ((h.1 c).1 (1 : Fin 5)).trans ((dats a m ρ 0 c).arrAt_in (1 : Fin 5) rfl _),
      ((h.1 c).1 (2 : Fin 5)).trans ((dats a m ρ 0 c).arrAt_in (2 : Fin 5) rfl _),
      ((h.1 c).1 (3 : Fin 5)).trans ((dats a m ρ 0 c).arrAt_in (3 : Fin 5) rfl _)⟩, h.2⟩) (run_main a m ρ hp)

end Cert.MoeIdeal.Hand

end
-- ==== Proof.MoeArr.lean ====
/-
  The array the expert kernel leaves, block by block, and its blocks of the arguments, at any contents of the tables.
-/
module

public import proofs.«01_k».proof.Proof.MoeFrame
public import Idealize.ShloMosaic.Lib.Pointwise

@[expose] public section

set_option maxRecDepth 16384

noncomputable section

namespace Cert.MoeIdeal.Hand

open Cert.MoeIdeal Cert.MoeIdeal.Gen
open Idealize.ShloMosaic Idealize.ShloMosaic.TcCoe Idealize.SL.Sem
open Idealize.ShloMosaic.Pipeline (Dat)

variable {F : FTy → Type} [FloatOps F]
variable (a : (pcfg0 (F := F)).Adm)
variable (m : (ℓ : Loc nD τ sig) → Buf (Elt F) ℓ) (ρ : Dev nD → PrngReg)

/-- The rows' windows move with the point: block `t` of the rows at point `t`. -/
theorem rows_idx : ∀ t : Fin grid0.N, cc0_transform_0 (grid0.coords t) = ![t.val, 0] ∧ cc0_transform_4 (grid0.coords t) = ![t.val, 0]
    ∧ (grid0.coords t 0).val = t.val ∧ k0_off1 (grid0.coords t) = ![t.val] := by decide +kernel

theorem N_eq : (cfgA a).N = 160 := N_0

/-- The expert of block `t`, as the table has it. -/
abbrev expWord (t : Fin (cfgA a).N) : BitVec 32 := tE a (ix1 (⟨t.val, lt_of_lt_of_eq t.isLt N_0⟩ : Fin 160))

theorem index0 (t : Fin (cfgA a).N) : ((cfgA a).win (0 : Fin 5)).index t = ![t.val, 0] := (rows_idx t).1
theorem index4 (t : Fin (cfgA a).N) : ((cfgA a).win (4 : Fin 5)).index t = ![t.val, 0] := (rows_idx t).2.1

/-- The word the weights' index maps read at point `t` is its expert. -/
theorem word_at (t : Fin (cfgA a).N) (h1 : S1.numel = 1) :
    a.1.at 0 (Rect.unit (s := S160) (k0_off1 (grid0.coords t)) S1.size (k0_off1_inb (grid0.coords t))) h1 = expWord a t := by
  show tE a _ = tE a _
  refine congrArg (tE a) (funext fun k => ?_)
  match k with
  | ⟨0, _⟩ =>
    apply Fin.ext
    show (k0_off1 (grid0.coords t)) 0 + 1 * _ = t.val
    have h0 : k0_off1 (grid0.coords t) 0 = t.val := congrFun (rows_idx t).2.2.2 0
    have hf : ((Shape.Idx.first (h1.symm ▸ Nat.one_pos) : S1.Idx) 0).val = 0 := by
      have := ((Shape.Idx.first (h1.symm ▸ Nat.one_pos) : S1.Idx) 0).isLt
      change _ < 1 at this
      omega
    refine (congrArg₂ (fun p q => p + 1 * q) h0 hf).trans ?_
    omega

theorem index1 (t : Fin (cfgA a).N) : ((cfgA a).win (1 : Fin 5)).index t = ![(expWord a t).toNat, 0, 0] := by
  rw [← word_at a t numel1_S1]; rfl
theorem index2 (t : Fin (cfgA a).N) : ((cfgA a).win (2 : Fin 5)).index t = ![(expWord a t).toNat, 0, 0] := by
  rw [← word_at a t numel1_S1]; rfl
theorem index3 (t : Fin (cfgA a).N) : ((cfgA a).win (3 : Fin 5)).index t = ![(expWord a t).toNat, 0, 0] := by
  rw [← word_at a t numel1_S1]; rfl

/-- Every point writes its block back. -/
theorem flush4 (t : Fin (cfgA a).N) : ((cfgA a).win (4 : Fin 5)).flush t = true := by
  unfold Pipeline.Window.flush
  by_cases h : t.val + 1 = (cfgA a).grid.N
  · simp only [h, decide_true, Bool.true_or, Bool.and_true]
  · have hlt : t.val + 1 < (cfgA a).grid.N := lt_of_le_of_ne t.isLt h
    have : ∃ h : t.val + 1 < (cfgA a).grid.N, ((cfgA a).win (4 : Fin 5)).index ⟨t.val + 1, h⟩ ≠ ((cfgA a).win (4 : Fin 5)).index t := by
      refine ⟨hlt, fun e => ?_⟩
      rw [index4, index4] at e
      have := congrFun e 0
      change t.val + 1 = t.val at this
      omega
    rw [decide_eq_true this, Bool.or_true, Bool.and_true]

/-- The point that writes row `r`, and the row's place in its block. -/
abbrev ptOf (i : S40960x2048.Idx) : Fin (cfgA a).N := ⟨(i 0).val / 256, by
  have h : (i 0).val < 40960 := (i 0).isLt
  rw [N_eq]; omega⟩
abbrev locOf (i : S40960x2048.Idx) : S256x2048.Idx := ix2 (⟨(i 0).val % 256, Nat.mod_lt _ (by decide)⟩ : Fin 256) (⟨(i 1).val, (i 1).isLt⟩ : Fin 2048)

/-- The result array: at each row, what the point of its block leaves. -/
def G (c : Dev nD) : Buf (Elt F) ((c : Thread nD τ).loc main_v0) := fun i => left a m ρ c (ptOf a i) (locOf i)

theorem flushed_eq (c : Dev nD) (t : Fin (cfgA a).N) :
    (dats a m ρ 0 c).flushed (4 : Fin 5) t = (((cfgA a).win (4 : Fin 5)).blk t).view.read (Elt F) (G a m ρ c) := by
  show ((cfgA a).win (4 : Fin 5)).cut (crd a t) ((dats a m ρ 0 c).after (4 : Fin 5) t) = _
  rw [after4]
  funext y
  have hy0 : (y 0).val < 256 := (y 0).isLt
  have hy1 : (y 1).val < 2048 := (y 1).isLt
  have hb0 : ((((cfgA a).win (4 : Fin 5)).blk t).view.emb y 0).val = ((cfgA a).win (4 : Fin 5)).index t (0 : Fin 2) * 256 + 1 * (y 0).val := rfl
  have hb1 : ((((cfgA a).win (4 : Fin 5)).blk t).view.emb y 1).val = ((cfgA a).win (4 : Fin 5)).index t (1 : Fin 2) * 2048 + 1 * (y 1).val := rfl
  rw [index4] at hb0 hb1
  change ((((cfgA a).win (4 : Fin 5)).blk t).view.emb y 0).val = t.val * 256 + 1 * (y 0).val at hb0
  change ((((cfgA a).win (4 : Fin 5)).blk t).view.emb y 1).val = 0 * 2048 + 1 * (y 1).val at hb1
  have hp : ptOf a ((((cfgA a).win (4 : Fin 5)).blk t).view.emb y) = t := by
    apply Fin.ext
    show ((((cfgA a).win (4 : Fin 5)).blk t).view.emb y 0).val / 256 = t.val
    rw [hb0]; omega
  have hl : locOf ((((cfgA a).win (4 : Fin 5)).blk t).view.emb y) = ((cfgA a).win (4 : Fin 5)).xinj (crd a t) y := by
    funext k; apply Fin.ext
    match k with
    | ⟨0, _⟩ => show ((((cfgA a).win (4 : Fin 5)).blk t).view.emb y 0).val % 256 = (y 0).val; rw [hb0]; omega
    | ⟨1, _⟩ => show ((((cfgA a).win (4 : Fin 5)).blk t).view.emb y 1).val = (y 1).val; rw [hb1]; omega
  show left a m ρ c t (((cfgA a).win (4 : Fin 5)).xinj (crd a t) y) = G a m ρ c ((((cfgA a).win (4 : Fin 5)).blk t).view.emb y)
  unfold G
  rw [hp, hl]

/-- The blocks the points write back fill the array. -/
theorem covered (i : S40960x2048.Idx) : i ∈ (((cfgA a).win (4 : Fin 5)).blk (ptOf a i)).view.set := by
  show i ∈ ((View.whole main_v0).slice (((cfgA a).win (4 : Fin 5)).rect (ptOf a i))).set
  rw [View.set_slice_whole]
  refine (Rect.mem_set_unit ..).2 ?_
  have h0 : (i 0).val < 40960 := (i 0).isLt
  have h1 : (i 1).val < 2048 := (i 1).isLt
  have e0 : ((cfgA a).win (4 : Fin 5)).index (ptOf a i) (0 : Fin 2) = (i 0).val / 256 := congrFun (index4 a (ptOf a i)) 0
  have e1 : ((cfgA a).win (4 : Fin 5)).index (ptOf a i) (1 : Fin 2) = 0 := congrFun (index4 a (ptOf a i)) 1
  intro k
  match k with
  | ⟨0, _⟩ =>
    show ((cfgA a).win (4 : Fin 5)).index (ptOf a i) (0 : Fin 2) * 256 ≤ (i 0).val ∧ (i 0).val < ((cfgA a).win (4 : Fin 5)).index (ptOf a i) (0 : Fin 2) * 256 + 256
    rw [e0]; omega
  | ⟨1, _⟩ =>
    show ((cfgA a).win (4 : Fin 5)).index (ptOf a i) (1 : Fin 2) * 2048 ≤ (i 1).val ∧ (i 1).val < ((cfgA a).win (4 : Fin 5)).index (ptOf a i) (1 : Fin 2) * 2048 + 2048
    rw [e1]; omega

/-- The result array of the run. -/
theorem arr_eq (c : Dev nD) : (dats a m ρ 0 c).arrAt (4 : Fin 5) (cfgA a).N = G a m ρ c :=
  (dats a m ρ 0 c).arrAt_eq_of_cover (4 : Fin 5) _ (fun t _ => flushed_eq a m ρ c t) (fun i => ⟨ptOf a i, flush4 a _, covered a i⟩)

/-! ## The arguments' blocks -/

/-- Row `j` of the rows' block at point `t`. -/
theorem iblk0_apply (c : Dev nD) (t : Fin (cfgA a).N) (j0 : Fin 256) (j1 : Fin 2048) (h : t.val * 256 + j0.val < 40960) :
    (iblk a m ρ c (0 : Fin 5) t : Vec F S256x2048 .f32) (ix2 j0 j1)
      = (m ((c : Thread nD τ).loc main_arg2) : Vec F S40960x2048 .f32) (ix2 (⟨t.val * 256 + j0.val, h⟩ : Fin 40960) j1) := by
  unfold iblk
  rw [View.read_apply]
  show m ((c : Thread nD τ).loc main_arg2) _ = m ((c : Thread nD τ).loc main_arg2) _
  congr 1; funext k; apply Fin.ext
  match k with
  | ⟨0, _⟩ => show ((cfgA a).win (0 : Fin 5)).index t (0 : Fin 2) * 256 + 1 * j0.val = _; rw [index0]; show t.val * 256 + 1 * j0.val = t.val * 256 + j0.val; omega
  | ⟨1, _⟩ => show ((cfgA a).win (0 : Fin 5)).index t (1 : Fin 2) * 2048 + 1 * j1.val = _; rw [index0]; show 0 * 2048 + 1 * j1.val = j1.val; omega

/-- The weights' blocks at point `t` are its expert's. -/
theorem iblk1_apply (c : Dev nD) (t : Fin (cfgA a).N) (he : (expWord a t).toNat < 32) (j0 : Fin 2048) (j1 : Fin 1024) :
    (iblk a m ρ c (1 : Fin 5) t : Vec F S1x2048x1024 .bf16) (ix3 (0 : Fin 1) j0 j1)
      = (m ((c : Thread nD τ).loc main_arg3) : Vec F S32x2048x1024 .bf16) (ix3 (⟨(expWord a t).toNat, he⟩ : Fin 32) j0 j1) := by
  unfold iblk
  rw [View.read_apply]
  show m ((c : Thread nD τ).loc main_arg3) _ = m ((c : Thread nD τ).loc main_arg3) _
  congr 1; funext k; apply Fin.ext
  match k with
  | ⟨0, _⟩ => show ((cfgA a).win (1 : Fin 5)).index t (0 : Fin 3) * 1 + 1 * 0 = _; rw [index1]; show (expWord a t).toNat * 1 + 1 * 0 = (expWord a t).toNat; omega
  | ⟨1, _⟩ => show ((cfgA a).win (1 : Fin 5)).index t (1 : Fin 3) * 2048 + 1 * j0.val = _; rw [index1]; show 0 * 2048 + 1 * j0.val = j0.val; omega
  | ⟨2, _⟩ => show ((cfgA a).win (1 : Fin 5)).index t (2 : Fin 3) * 1024 + 1 * j1.val = _; rw [index1]; show 0 * 1024 + 1 * j1.val = j1.val; omega

theorem iblk2_apply (c : Dev nD) (t : Fin (cfgA a).N) (he : (expWord a t).toNat < 32) (j0 : Fin 2048) (j1 : Fin 1024) :
    (iblk a m ρ c (2 : Fin 5) t : Vec F S1x2048x1024 .bf16) (ix3 (0 : Fin 1) j0 j1)
      = (m ((c : Thread nD τ).loc main_arg4) : Vec F S32x2048x1024 .bf16) (ix3 (⟨(expWord a t).toNat, he⟩ : Fin 32) j0 j1) := by
  unfold iblk
  rw [View.read_apply]
  show m ((c : Thread nD τ).loc main_arg4) _ = m ((c : Thread nD τ).loc main_arg4) _
  congr 1; funext k; apply Fin.ext
  match k with
  | ⟨0, _⟩ => show ((cfgA a).win (2 : Fin 5)).index t (0 : Fin 3) * 1 + 1 * 0 = _; rw [index2]; show (expWord a t).toNat * 1 + 1 * 0 = (expWord a t).toNat; omega
  | ⟨1, _⟩ => show ((cfgA a).win (2 : Fin 5)).index t (1 : Fin 3) * 2048 + 1 * j0.val = _; rw [index2]; show 0 * 2048 + 1 * j0.val = j0.val; omega
  | ⟨2, _⟩ => show ((cfgA a).win (2 : Fin 5)).index t (2 : Fin 3) * 1024 + 1 * j1.val = _; rw [index2]; show 0 * 1024 + 1 * j1.val = j1.val; omega

theorem iblk3_apply (c : Dev nD) (t : Fin (cfgA a).N) (he : (expWord a t).toNat < 32) (j0 : Fin 1024) (j1 : Fin 2048) :
    (iblk a m ρ c (3 : Fin 5) t : Vec F S1x1024x2048 .bf16) (ix3 (0 : Fin 1) j0 j1)
      = (m ((c : Thread nD τ).loc main_arg5) : Vec F S32x1024x2048 .bf16) (ix3 (⟨(expWord a t).toNat, he⟩ : Fin 32) j0 j1) := by
  unfold iblk
  rw [View.read_apply]
  show m ((c : Thread nD τ).loc main_arg5) _ = m ((c : Thread nD τ).loc main_arg5) _
  congr 1; funext k; apply Fin.ext
  match k with
  | ⟨0, _⟩ => show ((cfgA a).win (3 : Fin 5)).index t (0 : Fin 3) * 1 + 1 * 0 = _; rw [index3]; show (expWord a t).toNat * 1 + 1 * 0 = (expWord a t).toNat; omega
  | ⟨1, _⟩ => show ((cfgA a).win (3 : Fin 5)).index t (1 : Fin 3) * 1024 + 1 * j0.val = _; rw [index3]; show 0 * 1024 + 1 * j0.val = j0.val; omega
  | ⟨2, _⟩ => show ((cfgA a).win (3 : Fin 5)).index t (2 : Fin 3) * 2048 + 1 * j1.val = _; rw [index3]; show 0 * 2048 + 1 * j1.val = j1.val; omega

end Cert.MoeIdeal.Hand

end
-- ==== Proof.MoePre.lean ====
/-
  What the precondition says of the experts' table, the tables of a launch memory it holds of, and the two frames.
-/
module

public import proofs.«01_k».proof.Defs
public import proofs.«01_k».proof.Proof.MoeArr
public import proofs.«01_k».proof.Proof.Gen.Pre_experts_in_range
public import proofs.«01_k».proof.Proof.Gen.Moe.Launch
public import Idealize.ShloMosaic.Lib.ReduceAll

@[expose] public section

set_option maxRecDepth 16384

noncomputable section

namespace Cert.MoeIdeal.Hand

open Cert.MoeIdeal Cert.MoeIdeal.Gen
open Idealize.ShloMosaic Idealize.ShloMosaic.TcCoe Idealize.SL.Sem

variable {F : FTy → Type} [FloatOps F]

/-- Where the printed predicate holds, every entry of the experts' table is an expert's number. -/
theorem in_range (x0 : IVec S160 32) (x1 : IVec S1 32) (x2 : FVec F S40960x2048 .f32) (x3 x4 : FVec F S32x2048x1024 .bf16)
    (x5 : FVec F S32x1024x2048 .bf16) (h : Cert.Pre_experts_in_range.fn (F := F) x0 x1 x2 x3 x4 x5 = fun _ => 1#1) (j : S160.Idx) :
    0 ≤ (x0 j).toInt ∧ (x0 j).toInt < 32 ∧ (x0 j).toNat < 32 := by
  have e := congrFun h (fun k => k.elim0)
  unfold Cert.Pre_experts_in_range.fn at e
  dsimp only at e
  obtain ⟨e1, e2⟩ := (IntOp.andi_eq_one (c := _) (d := _)).1 e
  have h1 : 0 ≤ (x0 j).toInt := IntOp.cmpi_sge.1 (Host.reduce_andi_all _ _ _ _ _ e1 j)
  have h2 : (x0 j).toInt < 32 := IntOp.cmpi_slt.1 (Host.reduce_andi_all _ _ _ _ _ e2 j)
  refine ⟨h1, h2, ?_⟩
  have := BitVec.toInt_eq_toNat_cond (x0 j)
  have hb := (x0 j).isLt
  split at this <;> omega

/-- The tables a launch memory holds: nothing in it but the two arrays. -/
def tabs (m : (ℓ : Loc nD τ sig) → Buf (Elt F) ℓ) : ∀ k, (pre0.ref k).ty.Contents (Elt F) := fun k => m (((0 : Dev nD) : Thread nD τ).loc (pre0.ref k))

/-- Tables of experts' numbers keep every block of weights inside its array. -/
theorem ok_of (pf : ∀ k, (pre0.ref k).ty.Contents (Elt F)) (h : ∀ j : S160.Idx, ((pf 0 : IVec S160 32) j).toNat < 32) : ok0 (F := F) pf := by
  have b1 : ∀ i : grid0.Coords, ∀ k, (cc0_transform_1 k0_off1_inb numel1_S1 pf i k + 1) * S1x2048x1024.size k ≤ S32x2048x1024.size k := fun i k => by
    match k with
    | ⟨0, _⟩ => exact Nat.mul_le_mul_right 1 (Nat.succ_le_of_lt (h _))
    | ⟨1, _⟩ => exact Nat.le_refl _
    | ⟨2, _⟩ => exact Nat.le_refl _
  have b2 : ∀ i : grid0.Coords, ∀ k, (cc0_transform_2 k0_off1_inb numel1_S1 pf i k + 1) * S1x2048x1024.size k ≤ S32x2048x1024.size k := fun i k => by
    match k with
    | ⟨0, _⟩ => exact Nat.mul_le_mul_right 1 (Nat.succ_le_of_lt (h _))
    | ⟨1, _⟩ => exact Nat.le_refl _
    | ⟨2, _⟩ => exact Nat.le_refl _
  have b3 : ∀ i : grid0.Coords, ∀ k, (cc0_transform_3 k0_off1_inb numel1_S1 pf i k + 1) * S1x1024x2048.size k ≤ S32x1024x2048.size k := fun i k => by
    match k with
    | ⟨0, _⟩ => exact Nat.mul_le_mul_right 1 (Nat.succ_le_of_lt (h _))
    | ⟨1, _⟩ => exact Nat.le_refl _
    | ⟨2, _⟩ => exact Nat.le_refl _
  exact ⟨fun i => ⟨b1 i, .inr (Affine.block_words_dvd (s := S32x2048x1024) (p := EltTy.packing .bf16) (by decide) (by decide))⟩,
    fun i => ⟨b2 i, .inr (Affine.block_words_dvd (s := S32x2048x1024) (p := EltTy.packing .bf16) (by decide) (by decide))⟩,
    fun i => ⟨b3 i, .inr (Affine.block_words_dvd (s := S32x1024x2048) (p := EltTy.packing .bf16) (by decide) (by decide))⟩⟩

/-- Every entry of the experts' table of a launch memory is an expert's number. -/
def Experts (m : (ℓ : Loc nD τ sig) → Buf (Elt F) ℓ) : Prop :=
  ∀ j : S160.Idx, 0 ≤ ((m (((0 : Dev nD) : Thread nD τ).loc main_arg0) : IVec S160 32) j).toInt
    ∧ ((m (((0 : Dev nD) : Thread nD τ).loc main_arg0) : IVec S160 32) j).toInt < 32
    ∧ ((m (((0 : Dev nD) : Thread nD τ).loc main_arg0) : IVec S160 32) j).toNat < 32

/-- The tables of such a memory, admissible. -/
def admOf (m : (ℓ : Loc nD τ sig) → Buf (Elt F) ℓ) (h : Experts m) : (pcfg0 (F := F)).Adm := ⟨tabs m, ok_of (tabs m) fun j => (h j).2.2⟩

theorem holds_of (m : (ℓ : Loc nD τ sig) → Buf (Elt F) ℓ) (h : Experts m) : Holds (admOf m h) m := fun c j => by
  obtain rfl : c = 0 := Subsingleton.elim _ _
  rfl

/-- The kernel's run from such a memory: its result array, its arguments unchanged, its semaphores zero. -/
theorem run_of (m : (ℓ : Loc nD τ sig) → Buf (Elt F) ℓ) (ρ : Dev nD → PrngReg) (h : Experts m) :
    θ_run defs (onTc (τ := τ) (main (F := F))) ⟨m, fun _ => 0, ρ⟩ fun r =>
      (∀ c : Dev nD, r.2.mem ((c.tc : Thread nD τ).loc main_v0) = G (admOf m h) m ρ c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0 :=
  (θ_run _ _ _).mono (fun r hr => ⟨fun c => ⟨(hr.1 c).1.trans (arr_eq _ _ _ _), (hr.1 c).2⟩, hr.2⟩) (run_all (admOf m h) m ρ (holds_of m h))

/-- The kernel at exact arithmetic runs and leaves its arguments. -/
theorem iframe : Cert.quiescent_MoeIdeal := fun m ρ hp =>
  (θ_run _ _ _).mono (fun r hr => ⟨fun c => (hr.1 c).2, hr.2⟩) (run_of m ρ fun j => in_range _ _ _ _ _ _ (hp 0) j)

theorem bodies_eq : Cert.Moe.defs₀ (F := F) = Cert.MoeIdeal.defs₀ (F := F) := by
  unfold Cert.Moe.defs₀ Cert.MoeIdeal.defs₀
  refine congrArg Defs.onTc (funext fun l => funext fun x => ?_)
  match l, x with
  | 0, (t, s) => exact rfl
  | ⟨_ + 1, h⟩, _ => exact absurd h (Nat.not_lt.2 (Nat.le_add_left _ _))

theorem defs_eq : Cert.Moe.defs (F := F) = Cert.MoeIdeal.defs (F := F) := by
  unfold Cert.Moe.defs Cert.MoeIdeal.defs
  exact congrArg (Pipeline.defs _) bodies_eq

/-- The kernel in its own arithmetic runs and leaves its arguments. -/
theorem kframe : Cert.quiescent_Moe := fun m ρ hp => by
  have h := run_of (F := Bits) m ρ fun j => in_range _ _ _ _ _ _ (hp 0) j
  rw [← defs_eq] at h
  exact (θ_run _ _ _).mono (fun r hr => ⟨fun c => (hr.1 c).2, hr.2⟩) h

end Cert.MoeIdeal.Hand

end
-- ==== Proof.MoeSpec.lean ====
/-
  One element of the experts' feed-forward layer in plain arithmetic, and the gather of the experts' weights at an index.
-/
module

public import proofs.«01_k».proof.Defs
public import Idealize.ShloMosaic.Lib.Pointwise
public import Idealize.ShloMosaic.Lib.ValueIdxCore

@[expose] public section

noncomputable section

open Idealize.ShloMosaic

namespace Cert.Proof.MoeSpec

/-- One hidden element: the gate's projection times its logistic, times the other projection. -/
def hidAt (x g u : Fin 2048 → EReal) : EReal :=
  ((∑ d, x d * g d) * Ideal.div 1 (1 + Ideal.exp (-∑ d, x d * g d))) * ∑ d, x d * u d

/-- One element of a row through one expert. -/
def ffnAt (x : Fin 2048 → EReal) (wg wu : Fin 2048 → Fin 1024 → EReal) (wd : Fin 1024 → EReal) : EReal :=
  ∑ f, hidAt x (fun d => wg d f) (fun d => wu d f) * wd f

/-- One element of the result: a row of a block in use goes through the block's expert, another is zero. -/
def moeAt (inUse : Bool) (x : Fin 2048 → EReal) (wg wu : Fin 2048 → Fin 1024 → EReal) (wd : Fin 1024 → EReal) : EReal :=
  if inUse = true then ffnAt x wg wu wd else 0

section Gather

variable {α : Type}

/-- A gather of whole matrices off a stack of them, one per entry of a list of their numbers. -/
abbrev stackDims (E A B N : Nat)
    (wf : GatherDims.WF ⟨3, ![E, A, B]⟩ ⟨2, ![N, 1]⟩ ⟨3, ![N, A, B]⟩ [1, 2] [0] [] [0] [] 1 ![1, A, B]) :
    GatherDims ⟨3, ![E, A, B]⟩ ⟨2, ![N, 1]⟩ ⟨3, ![N, A, B]⟩ where
  offsetDims := [1, 2]
  collapsedSliceDims := [0]
  operandBatchingDims := []
  startIndicesBatchingDims := []
  startIndexMap := [0]
  indexVectorDim := 1
  sliceSizes := ![1, A, B]
  wf := wf

/-- The gather at an entry: the matrix the list's entry names, clamped into the stack. -/
theorem gather_stack_apply {E A B N w : Nat} (hE : 0 < E)
    (wf : GatherDims.WF ⟨3, ![E, A, B]⟩ ⟨2, ![N, 1]⟩ ⟨3, ![N, A, B]⟩ [1, 2] [0] [] [0] [] 1 ![1, A, B])
    (x : (⟨3, ![E, A, B]⟩ : Shape).Idx → α) (idx : IVec ⟨2, ![N, 1]⟩ w) (n : Fin N) (i : Fin A) (j : Fin B) :
    Host.gather (stackDims E A B N wf) x idx (ix3 n i j)
      = x (ix3 (⟨min (idx (ix2 n (0 : Fin 1))).toInt.toNat (E - 1), by omega⟩ : Fin E) i j) := by
  unfold Host.gather
  congr 1
  funext a
  refine Fin.ext ?_
  show (stackDims E A B N wf).start (ix3 n i j) idx a + (stackDims E A B N wf).batchCoord (ix3 n i j) a
      + (stackDims E A B N wf).offCoord (ix3 n i j) a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (stackDims E A B N wf).startIndexMap from List.mem_singleton.mpr rfl)]
    have hsi : (stackDims E A B N wf).siIdx (ix3 n i j) ⟨List.idxOf (0 : Fin 3) (stackDims E A B N wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  · unfold GatherDims.start
    rw [dif_neg (show (1 : Fin 3) ∉ (stackDims E A B N wf).startIndexMap from show _ ∉ [(0 : Fin 3)] by decide), Nat.zero_add]
    rfl
  · unfold GatherDims.start
    rw [dif_neg (show (2 : Fin 3) ∉ (stackDims E A B N wf).startIndexMap from show _ ∉ [(0 : Fin 3)] by decide), Nat.zero_add]
    rfl

end Gather

end Cert.Proof.MoeSpec

end
-- ==== Proof.MoeValue.lean ====
/-
  What the expert kernel leaves at exact arithmetic, read at an index.
-/
module

public import proofs.«01_k».proof.Proof.MoePre
public import proofs.«01_k».proof.Proof.MoeSpec

@[expose] public section

set_option maxRecDepth 16384

noncomputable section

namespace Cert.MoeIdeal.Hand

open Cert.MoeIdeal Cert.MoeIdeal.Gen Cert.Proof.MoeSpec
open Idealize.ShloMosaic Idealize.ShloMosaic.TcCoe Idealize.SL.Sem

/-- What a point in use stores, at an index. -/
theorem pay1_apply (x : Vec Ideal S256x2048 .f32) (wg wu : Vec Ideal S1x2048x1024 .bf16) (wd : Vec Ideal S1x1024x2048 .bf16)
    (j0 : Fin 256) (j1 : Fin 2048) :
    (k0_pay1 (F := Ideal) x wg wu wd) (ix2 j0 j1)
      = ffnAt (fun d => x (ix2 j0 d)) (fun d f => wg (ix3 0 d f)) (fun d f => wu (ix3 0 d f)) (fun f => wd (ix3 0 f j1)) := by
  pointwise [k0_pay1, ffnAt, hidAt]
  simp only [sub_eq_add_neg, zero_add]

/-- What a point not in use stores, at an index. -/
theorem pay2_apply (j0 : Fin 256) (j1 : Fin 2048) : (k0_pay2 (F := Ideal)) (ix2 j0 j1) = 0 := by
  pointwise [k0_pay2]

/-- What a point stores, at an index. -/
theorem outBlk_apply (i : grid0.Coords) (n : IVec S1 32) (x : Vec Ideal S256x2048 .f32) (wg wu : Vec Ideal S1x2048x1024 .bf16) (wd : Vec Ideal S1x1024x2048 .bf16)
    (j0 : Fin 256) (j1 : Fin 2048) :
    (outBlk (F := Ideal) i n x wg wu wd) (ix2 j0 j1)
      = moeAt ((BitVec.ofNat 32 (i 0).val).slt (cnt (F := Ideal) n))
          (fun d => x (ix2 j0 d)) (fun d f => wg (ix3 0 d f)) (fun d f => wu (ix3 0 d f)) (fun f => wd (ix3 0 f j1)) := by
  unfold outBlk moeAt
  by_cases h : k0_cond1 i (cnt (F := Ideal) n) = 1#1
  · rw [if_pos h, if_pos ((cond1_iff _ _).1 h)]; exact pay1_apply x wg wu wd j0 j1
  · rw [if_neg h, if_neg fun e => h ((cond1_iff _ _).2 e)]; exact pay2_apply j0 j1

theorem moeAt_congr {b b' : Bool} {x x' : Fin 2048 → EReal} {g g' u u' : Fin 2048 → Fin 1024 → EReal} {d d' : Fin 1024 → EReal}
    (hb : b = b') (hx : x = x') (hg : g = g') (hu : u = u') (hd : d = d') : moeAt b x g u d = moeAt b' x' g' u' d' := by
  rw [hb, hx, hg, hu, hd]

/-- The kernel's result at an index, from its arguments. -/
theorem G_apply (m : (ℓ : Loc nD τ sig) → Buf (Elt Ideal) ℓ) (ρ : Dev nD → PrngReg) (h : Experts m) (c : Dev nD) (j0 : Fin 40960) (j1 : Fin 2048) :
    (G (admOf m h) m ρ c : Vec Ideal S40960x2048 .f32) (ix2 j0 j1)
      = moeAt ((BitVec.ofNat 32 (j0.val / 256)).slt (cnt (F := Ideal) (m ((c : Thread nD τ).loc main_arg1) : IVec S1 32)))
          (fun d => (m ((c : Thread nD τ).loc main_arg2) : Vec Ideal S40960x2048 .f32) (ix2 j0 d))
          (fun d f => (m ((c : Thread nD τ).loc main_arg3) : Vec Ideal S32x2048x1024 .bf16)
            (ix3 (⟨((m ((c : Thread nD τ).loc main_arg0) : IVec S160 32) (ix1 (⟨j0.val / 256, by omega⟩ : Fin 160))).toNat,
              by obtain rfl : c = 0 := Subsingleton.elim _ _; exact (h _).2.2⟩ : Fin 32) d f))
          (fun d f => (m ((c : Thread nD τ).loc main_arg4) : Vec Ideal S32x2048x1024 .bf16)
            (ix3 (⟨((m ((c : Thread nD τ).loc main_arg0) : IVec S160 32) (ix1 (⟨j0.val / 256, by omega⟩ : Fin 160))).toNat,
              by obtain rfl : c = 0 := Subsingleton.elim _ _; exact (h _).2.2⟩ : Fin 32) d f))
          (fun f => (m ((c : Thread nD τ).loc main_arg5) : Vec Ideal S32x1024x2048 .bf16)
            (ix3 (⟨((m ((c : Thread nD τ).loc main_arg0) : IVec S160 32) (ix1 (⟨j0.val / 256, by omega⟩ : Fin 160))).toNat,
              by obtain rfl : c = 0 := Subsingleton.elim _ _; exact (h _).2.2⟩ : Fin 32) f j1)) := by
  obtain rfl : c = 0 := Subsingleton.elim _ _
  have hj := j0.isLt
  set t : Fin (cfgA (admOf m h)).N := ptOf (admOf m h) (ix2 j0 j1) with ht
  have htv : t.val = j0.val / 256 := rfl
  have he : (expWord (admOf m h) t).toNat < 32 := (h _).2.2
  have hg0 : (crd (admOf m h) t 0).val = j0.val / 256 := (rows_idx t).2.2.1
  unfold G left
  refine (outBlk_apply _ _ _ _ _ _ (⟨j0.val % 256, Nat.mod_lt _ (by decide)⟩ : Fin 256) j1).trans ?_
  refine moeAt_congr ?_ ?_ ?_ ?_ ?_
  · rw [hg0]; rfl
  · funext d
    refine (iblk0_apply (admOf m h) m ρ 0 t (⟨j0.val % 256, Nat.mod_lt _ (by decide)⟩ : Fin 256) d (by show t.val * 256 + j0.val % 256 < 40960; omega)).trans ?_
    congr 1
    funext k; apply Fin.ext
    match k with
    | ⟨0, _⟩ => show t.val * 256 + j0.val % 256 = j0.val; omega
    | ⟨1, _⟩ => rfl
  · funext d f; exact iblk1_apply (admOf m h) m ρ 0 t he d f
  · funext d f; exact iblk2_apply (admOf m h) m ρ 0 t he d f
  · funext f; exact iblk3_apply (admOf m h) m ρ 0 t he f j1

end Cert.MoeIdeal.Hand

end
-- ==== Proof.MoeRefValue.lean ====
/-
  What the plain experts' layer computes, read at an index.
-/
module

public import proofs.«01_k».proof.Defs
public import proofs.«01_k».proof.Proof.MoeSpec
public import proofs.«01_k».proof.Proof.Gen.MoeRefIdeal.Run
public import Idealize.ShloMosaic.Lib.Pointwise

@[expose] public section

set_option maxRecDepth 16384

noncomputable section

open Idealize.ShloMosaic Idealize.ShloMosaic.TcCoe Idealize.SL.Sem

namespace Cert.MoeRefIdeal.Hand

open Cert.MoeRefIdeal Cert.MoeRefIdeal.Gen Cert.Proof.MoeSpec

/-- The list of experts' numbers as the gathers take it: a negative one counted from the end. -/
def idxs (e : IVec S160 32) : IVec S160x1 32 :=
  broadcastInDim S160x1 ![0] bcast_S160_S160x1_0 (select (cmpi .slt e (broadcastInDim S160 ![] bcast_S_S160 (constantI S_ 32 0#32)))
    (addi e (broadcastInDim S160 ![] bcast_S_S160 (constantI S_ 32 32#32))) e)

/-- The blocks' matrices of the first two projections, and of the last. -/
def upW (e : IVec S160 32) (w : FVec Ideal S32x2048x1024 .bf16) : FVec Ideal S160x2048x1024 .f32 :=
  Host.gather gather_S32x2048x1024_S160x1_S160x2048x1024_12_0_n_n_0_1_120481024 (extf .f32 w bitsLt_bf16_f32) (idxs e)
def downW (e : IVec S160 32) (w : FVec Ideal S32x1024x2048 .bf16) : FVec Ideal S160x1024x2048 .f32 :=
  Host.gather gather_S32x1024x2048_S160x1_S160x1024x2048_12_0_n_n_0_1_110242048 (extf .f32 w bitsLt_bf16_f32) (idxs e)

/-- One of the first two projections of every block. -/
def proj (x : FVec Ideal S40960x2048 .f32) (w : FVec Ideal S160x2048x1024 .f32) : FVec Ideal S160x256x1024 .f32 :=
  Host.dotGeneral dot_S160x256x2048_S160x2048x1024_S160x256x1024_2_1_1_2_0_0 none (shapeCast _ x shapeCasts_S40960x2048_S160x256x2048) w

/-- The hidden elements. -/
def hid (p q : FVec Ideal S160x256x1024 .f32) : FVec Ideal S160x256x1024 .f32 :=
  mulf (mulf p (Host.divf (broadcastInDim S160x256x1024 ![] bcast_S_S160x256x1024 (constant S_ .f32 0x3F800000#32))
    (addf (broadcastInDim S160x256x1024 ![] bcast_S_S160x256x1024 (constant S_ .f32 0x3F800000#32)) (Host.exp (Host.negf p))))) q

/-- The blocks in use. -/
def used (n : IVec S1 32) : IVec S160 1 :=
  cmpi .slt (iotaInDim S160 32 0) (broadcastInDim S160 ![] bcast_S_S160 (shapeCast _ n shapeCasts_S1_S_))

/-- The last projection of the blocks in use, zero elsewhere. -/
def out (u : IVec S160 1) (h : FVec Ideal S160x256x1024 .f32) (w : FVec Ideal S160x1024x2048 .f32) : FVec Ideal S40960x2048 .f32 :=
  shapeCast _ (select (broadcastInDim S160x256x2048 ![0, 1, 2] bcast_S160x1x1_S160x256x2048_0_1_2 (broadcastInDim S160x1x1 ![0] bcast_S160_S160x1x1_0 u))
    (Host.dotGeneral dot_S160x256x1024_S160x1024x2048_S160x256x2048_2_1_1_2_0_0 none h w)
    (broadcastInDim S160x256x2048 ![] bcast_S_S160x256x2048 (constant S_ .f32 0x00000000#32))) shapeCasts_S160x256x2048_S40960x2048

/-- An entry that is an expert's number is taken as it is. -/
theorem idxs_apply (e : IVec S160 32) (n : Fin 160) (h : 0 ≤ (e (ix1 n)).toInt) : idxs e (ix2 n (0 : Fin 1)) = e (ix1 n) := by
  have : idxs e (ix2 n (0 : Fin 1)) = Idealize.ShloMosaic.Scalar.select (IntOp.cmpi .slt (e (ix1 n)) 0#32) (IntOp.addi (e (ix1 n)) 32#32) (e (ix1 n)) := by
    pointwise [idxs]
  rw [this]
  have hc : IntOp.cmpi .slt (e (ix1 n)) 0#32 ≠ 1#1 := fun hc => by
    have := IntOp.cmpi_slt.1 hc
    change (e (ix1 n)).toInt < 0 at this
    omega
  unfold Scalar.select
  exact if_neg hc

theorem upW_apply (e : IVec S160 32) (w : FVec Ideal S32x2048x1024 .bf16) (n : Fin 160) (i : Fin 2048) (j : Fin 1024)
    (h0 : 0 ≤ (e (ix1 n)).toInt) (h1 : (e (ix1 n)).toNat < 32) :
    upW e w (ix3 n i j) = w (ix3 (⟨(e (ix1 n)).toNat, h1⟩ : Fin 32) i j) := by
  refine (gather_stack_apply (by decide) gather_S32x2048x1024_S160x1_S160x2048x1024_12_0_n_n_0_1_120481024_wf
    (extf .f32 w bitsLt_bf16_f32) (idxs e) n i j).trans ?_
  show w _ = w _
  congr 1
  refine congrArg (fun q : Fin 32 => ix3 q i j) (Fin.ext ?_)
  show min (idxs e (ix2 n (0 : Fin 1))).toInt.toNat (32 - 1) = (e (ix1 n)).toNat
  rw [idxs_apply e n h0]
  have := BitVec.toInt_eq_toNat_cond (e (ix1 n))
  split at this <;> omega

theorem downW_apply (e : IVec S160 32) (w : FVec Ideal S32x1024x2048 .bf16) (n : Fin 160) (i : Fin 1024) (j : Fin 2048)
    (h0 : 0 ≤ (e (ix1 n)).toInt) (h1 : (e (ix1 n)).toNat < 32) :
    downW e w (ix3 n i j) = w (ix3 (⟨(e (ix1 n)).toNat, h1⟩ : Fin 32) i j) := by
  refine (gather_stack_apply (by decide) gather_S32x1024x2048_S160x1_S160x1024x2048_12_0_n_n_0_1_110242048_wf
    (extf .f32 w bitsLt_bf16_f32) (idxs e) n i j).trans ?_
  show w _ = w _
  congr 1
  refine congrArg (fun q : Fin 32 => ix3 q i j) (Fin.ext ?_)
  show min (idxs e (ix2 n (0 : Fin 1))).toInt.toNat (32 - 1) = (e (ix1 n)).toNat
  rw [idxs_apply e n h0]
  have := BitVec.toInt_eq_toNat_cond (e (ix1 n))
  split at this <;> omega

theorem proj_apply (x : FVec Ideal S40960x2048 .f32) (w : FVec Ideal S160x2048x1024 .f32) (n : Fin 160) (i : Fin 256) (j : Fin 1024) :
    proj x w (ix3 n i j) = ∑ d : Fin 2048, x (ix2 (⟨n.val * 256 + i.val, by omega⟩ : Fin 40960) d) * w (ix3 n d j) := by
  pointwise [proj]

theorem hid_apply (p q : FVec Ideal S160x256x1024 .f32) (n : Fin 160) (i : Fin 256) (j : Fin 1024) :
    hid p q (ix3 n i j) = (p (ix3 n i j) * Ideal.div 1 (1 + Ideal.exp (-p (ix3 n i j)))) * q (ix3 n i j) := by
  pointwise [hid]

theorem used_apply (n : IVec S1 32) (t : Fin 160) :
    used n (ix1 t) = IntOp.cmpi .slt (BitVec.ofNat 32 t.val) (n (ix1 0)) := by
  pointwise [used]

theorem out_apply (u : IVec S160 1) (h : FVec Ideal S160x256x1024 .f32) (w : FVec Ideal S160x1024x2048 .f32) (j0 : Fin 40960) (j1 : Fin 2048) :
    out u h w (ix2 j0 j1) = if u (ix1 (⟨j0.val / 256, by omega⟩ : Fin 160)) = 1#1
      then ∑ f : Fin 1024, h (ix3 (⟨j0.val / 256, by omega⟩ : Fin 160) (⟨j0.val % 256, by omega⟩ : Fin 256) f) * w (ix3 (⟨j0.val / 256, by omega⟩ : Fin 160) f j1)
      else 0 := by
  pointwise [out]
  unfold Scalar.select
  split <;> simp_all

/-- The plain layer's result at an index. -/
theorem res_apply (e : IVec S160 32) (n : IVec S1 32) (x : FVec Ideal S40960x2048 .f32) (wg wu : FVec Ideal S32x2048x1024 .bf16)
    (wd : FVec Ideal S32x1024x2048 .bf16) (j0 : Fin 40960) (j1 : Fin 2048)
    (h0 : 0 ≤ (e (ix1 (⟨j0.val / 256, by omega⟩ : Fin 160))).toInt) (h1 : (e (ix1 (⟨j0.val / 256, by omega⟩ : Fin 160))).toNat < 32) :
    out (used n) (hid (proj x (upW e wg)) (proj x (upW e wu))) (downW e wd) (ix2 j0 j1)
      = moeAt ((BitVec.ofNat 32 (j0.val / 256)).slt (n (ix1 0))) (fun d => x (ix2 j0 d))
          (fun d f => wg (ix3 (⟨(e (ix1 (⟨j0.val / 256, by omega⟩ : Fin 160))).toNat, h1⟩ : Fin 32) d f))
          (fun d f => wu (ix3 (⟨(e (ix1 (⟨j0.val / 256, by omega⟩ : Fin 160))).toNat, h1⟩ : Fin 32) d f))
          (fun f => wd (ix3 (⟨(e (ix1 (⟨j0.val / 256, by omega⟩ : Fin 160))).toNat, h1⟩ : Fin 32) f j1)) := by
  have hx : ∀ d : Fin 2048, x (ix2 (⟨j0.val / 256 * 256 + j0.val % 256, by omega⟩ : Fin 40960) d) = x (ix2 j0 d) := fun d =>
    congrArg (fun q : Fin 40960 => x (ix2 q d)) (Fin.ext (by show j0.val / 256 * 256 + j0.val % 256 = j0.val; omega))
  rw [out_apply, used_apply]
  unfold moeAt
  refine if_congr (IntOp.cmpi_slt.trans BitVec.slt_iff_toInt_lt.symm) ?_ rfl
  unfold ffnAt hidAt
  refine Finset.sum_congr rfl fun f _ => ?_
  rw [hid_apply, proj_apply, proj_apply, downW_apply e wd _ f j1 h0 h1]
  simp only [hx, upW_apply e wg _ _ _ h0 h1, upW_apply e wu _ _ _ h0 h1]

/-- The plain layer's run: its result as the functions above have it, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36)
        = out (used (m ((c.tc : Thread nD τ).loc main_arg1)))
            (hid (proj (m ((c.tc : Thread nD τ).loc main_arg2)) (upW (m ((c.tc : Thread nD τ).loc main_arg0)) (m ((c.tc : Thread nD τ).loc main_arg3))))
              (proj (m ((c.tc : Thread nD τ).loc main_arg2)) (upW (m ((c.tc : Thread nD τ).loc main_arg0)) (m ((c.tc : Thread nD τ).loc main_arg4)))))
            (downW (m ((c.tc : Thread nD τ).loc main_arg0)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.MoeRefIdeal.Value.run (F := Ideal) m ρ

end Cert.MoeRefIdeal.Hand

end
-- ==== Proof.MoeClaim.lean ====
/-
  The experts' layer: kernel and plain mathematics leave the same result.
-/
module

public import proofs.«01_k».proof.Proof.MoeValue
public import proofs.«01_k».proof.Proof.MoeRefValue

@[expose] public section

set_option maxRecDepth 16384

noncomputable section

namespace Cert.Proof.MoeClaim

open Idealize.ShloMosaic Idealize.ShloMosaic.TcCoe Idealize.SL.Sem

/-- At exact arithmetic, from the same arguments with every block's expert in range, the kernel's result is the plain layer's. -/
theorem algebraic : Cert.algebraic_MoeIdeal_MoeRefIdeal := by
  intro m ρ m' ρ' hp hag
  have hE : Cert.MoeIdeal.Hand.Experts m := fun j => Cert.MoeIdeal.Hand.in_range _ _ _ _ _ _ (hp 0) j
  refine ⟨fun c => Cert.MoeIdeal.Hand.G (Cert.MoeIdeal.Hand.admOf m hE) m ρ c,
    (θ_run _ _ _).mono (fun r h c => h.1 c) (Cert.MoeIdeal.Hand.run_of m ρ hE),
    (θ_run _ _ _).mono (fun r h c => ?_) (Cert.MoeRefIdeal.Hand.run m' ρ')⟩
  obtain ⟨h0, h1⟩ := h c
  refine ⟨?_, h1⟩
  rw [h0, (hag c).1, (hag c).2.1, (hag c).2.2.1, (hag c).2.2.2.1, (hag c).2.2.2.2.1, (hag c).2.2.2.2.2]
  obtain rfl : c = 0 := Subsingleton.elim _ _
  funext i
  obtain ⟨i0, i1, rfl⟩ : ∃ (a : Fin 40960) (b : Fin 2048), i = ix2 a b := by idx_vars i; exact ⟨_, _, rfl⟩
  refine (Cert.MoeRefIdeal.Hand.res_apply _ _ _ _ _ _ i0 i1 (hE _).1 (hE _).2.2).trans ?_
  refine Eq.trans ?_ (Cert.MoeIdeal.Hand.G_apply m ρ hE 0 i0 i1).symm
  refine Cert.MoeIdeal.Hand.moeAt_congr ?_ rfl rfl rfl rfl
  exact congrArg (BitVec.slt _) (congrArg _ (Cert.MoeIdeal.Hand.idx1_eq _ _))

end Cert.Proof.MoeClaim

end
-- ==== Proof.CombSpec.lean ====
/-
  The weighted sum of a token's two experts' rows and the layer norm after it, at one element, in plain arithmetic, and
  what the precondition says of the row numbers.
-/
module

public import proofs.«01_k».proof.Defs
public import proofs.«01_k».proof.Proof.MergeSpec
public import proofs.«01_k».proof.Proof.Gen.Pre_rows_in_range
public import Idealize.ShloMosaic.Lib.ReduceAll

@[expose] public section

set_option maxRecDepth 16384

noncomputable section

open Idealize.ShloMosaic

namespace Cert.Proof.CombSpec

open Cert.Pre_rows_in_range

/-- One element of the scaled residual plus the two weighted rows. -/
def sumAt (h w0 w1 y0 y1 : EReal) : EReal := Ideal.ofBits FTy.f32 1066940400#32 * h + (w0 * y0 + w1 * y1)

/-- A row number in the range the precondition gives. -/
def InRange (v : BitVec 32) : Prop := 0 ≤ v.toInt ∧ v.toInt < 40960

theorem InRange.toNat {v : BitVec 32} (h : InRange v) : v.toNat < 40960 := by
  obtain ⟨h1, h2⟩ := h
  have := BitVec.toInt_eq_toNat_cond v
  have hb := v.isLt
  split at this <;> omega

/-- Where the printed predicate holds, every row number is in range. -/
theorem in_range (x0 : FVec Ideal S16384x2048 .f32) (x1 : FVec Ideal S40960x2048 .f32) (x2 : IVec S16384x2 32) (x3 : FVec Ideal S16384x128 .f32)
    (x4 x5 : FVec Ideal S1x2048 .f32) (h : fn (F := Ideal) x0 x1 x2 x3 x4 x5 = fun _ => 1#1) (j : S16384x2.Idx) : InRange (x2 j) := by
  have e := congrFun h (fun k => k.elim0)
  unfold fn at e
  dsimp only at e
  obtain ⟨e1, e2⟩ := (IntOp.andi_eq_one (c := _) (d := _)).1 e
  exact ⟨IntOp.cmpi_sge.1 (Host.reduce_andi_all _ _ _ _ _ e1 j), IntOp.cmpi_slt.1 (Host.reduce_andi_all _ _ _ _ _ e2 j)⟩

/-- A row number in range is not counted from the end. -/
theorem wrap {v : BitVec 32} (h : InRange v) : Scalar.select (IntOp.cmpi .slt v 0#32) (IntOp.addi v 40960#32) v = v := by
  have hc : IntOp.cmpi .slt v 0#32 ≠ 1#1 := fun hc => by
    have := IntOp.cmpi_slt.1 hc
    change v.toInt < 0 at this
    have := h.1
    omega
  unfold Scalar.select
  exact if_neg hc

end Cert.Proof.CombSpec

end
-- ==== Proof.CombValue.lean ====
/-
  What the combination of the experts' rows computes: where the row numbers are in range, every element of its result is the
  layer norm of the scaled residual plus the two weighted rows, whatever row block it lies in.
-/
module

public import proofs.«01_k».proof.Defs
public import proofs.«01_k».proof.Proof.CombSpec
public import proofs.«01_k».proof.Proof.Gen.CombIdeal.Value
public import Idealize.ShloMosaic.Lib.Pipeline.Value
public import Idealize.ShloMosaic.Lib.StableHlo.Run
public import Idealize.ShloMosaic.Lib.Pointwise
public import Idealize.ShloMosaic.Lib.Routing.Ops
public import Idealize.ShloMosaic.Lib.Tactic

@[expose] public section

set_option maxRecDepth 16384

noncomputable section

open Idealize.ShloMosaic Idealize.ShloMosaic.TcCoe Idealize.SL.Sem

namespace Cert.CombIdeal.Hand

open Cert.CombIdeal Cert.CombIdeal.Gen Cert.Proof.MergeSpec Cert.Proof.CombSpec

theorem hz : (![0, 0] : Fin 2 → Nat) = fun _ => 0 := funext fun a => by fin_cases a <;> rfl

variable (m : (ℓ : Loc nD τ sig) → Buf (Elt Ideal) ℓ) (ρ : Dev nD → PrngReg)

/-- The block's layer norm of the scaled residual plus the weighted rows, at an index. -/
theorem pay_apply (v0 v1 : Vec Ideal S256x1 .f32) (v2 v6 v11 : Vec Ideal S256x2048 .f32) (v15 v17 : Vec Ideal S1x2048 .f32) (j0 : Fin 256) (j1 : Fin 2048) :
    k0_pay1 v0 v1 v2 v6 v11 v15 v17 (ix2 j0 j1)
      = normAt (fun k => sumAt ((v11 : FVec Ideal S256x2048 .f32) (ix2 j0 k)) ((v0 : FVec Ideal S256x1 .f32) (ix2 j0 0)) ((v1 : FVec Ideal S256x1 .f32) (ix2 j0 0))
          ((v2 : FVec Ideal S256x2048 .f32) (ix2 j0 k)) ((v6 : FVec Ideal S256x2048 .f32) (ix2 j0 k)))
        ((v15 : FVec Ideal S1x2048 .f32) (ix2 0 j1)) ((v17 : FVec Ideal S1x2048 .f32) (ix2 0 j1)) j1 := by
  pointwise [k0_pay1, normAt, meanOf, sumAt]

/-- The blocks the windows hold at a point: the row blocks follow the point, the scale and the shift stay. -/
theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- Window 0's block at a point, read at an index. -/
theorem iblk0_apply (c : Dev nD) (t : Fin cfg0.N) (j0 : Fin 256) (j1 : Fin 2048) (h : t.val * 256 + j0.val < 16384) :
    (iblk m c 0 t : Vec Ideal S256x2048 .f32) (ix2 j0 j1) = V m c main_arg0 (ix2 ⟨t.val * 256 + j0.val, h⟩ j1) := by
  unfold iblk
  rw [View.read_apply]
  show V m c main_arg0 _ = V m c main_arg0 _
  congr 1
  funext a
  apply Fin.ext
  have hi := (idx t).1
  match a with
  | ⟨0, _⟩ => show win0_0.index t 0 * 256 + 1 * j0.val = _; rw [hi.1]; show _ = t.val * 256 + j0.val; omega
  | ⟨1, _⟩ => show win0_0.index t 1 * 2048 + 1 * j1.val = _; rw [hi.2]; show _ = j1.val; omega

/-- Window 1's block at a point, read at an index. -/
theorem iblk1_apply (c : Dev nD) (t : Fin cfg0.N) (j0 : Fin 256) (j1 : Fin 2048) (h : t.val * 256 + j0.val < 16384) :
    (iblk m c 1 t : Vec Ideal S256x2048 .f32) (ix2 j0 j1) = V m c main_v2 (ix2 ⟨t.val * 256 + j0.val, h⟩ j1) := by
  unfold iblk
  rw [View.read_apply]
  show V m c main_v2 _ = V m c main_v2 _
  congr 1
  funext a
  apply Fin.ext
  have hi := (idx t).2.1
  match a with
  | ⟨0, _⟩ => show win0_1.index t 0 * 256 + 1 * j0.val = _; rw [hi.1]; show _ = t.val * 256 + j0.val; omega
  | ⟨1, _⟩ => show win0_1.index t 1 * 2048 + 1 * j1.val = _; rw [hi.2]; show _ = j1.val; omega

/-- Window 2's block at a point, read at an index. -/
theorem iblk2_apply (c : Dev nD) (t : Fin cfg0.N) (j0 : Fin 256) (j1 : Fin 2048) (h : t.val * 256 + j0.val < 16384) :
    (iblk m c 2 t : Vec Ideal S256x2048 .f32) (ix2 j0 j1) = V m c main_v5 (ix2 ⟨t.val * 256 + j0.val, h⟩ j1) := by
  unfold iblk
  rw [View.read_apply]
  show V m c main_v5 _ = V m c main_v5 _
  congr 1
  funext a
  apply Fin.ext
  have hi := (idx t).2.2.1
  match a with
  | ⟨0, _⟩ => show win0_2.index t 0 * 256 + 1 * j0.val = _; rw [hi.1]; show _ = t.val * 256 + j0.val; omega
  | ⟨1, _⟩ => show win0_2.index t 1 * 2048 + 1 * j1.val = _; rw [hi.2]; show _ = j1.val; omega

/-- Window 3's block at a point, read at an index. -/
theorem iblk3_apply (c : Dev nD) (t : Fin cfg0.N) (j0 : Fin 256) (j1 : Fin 128) (h : t.val * 256 + j0.val < 16384) :
    (iblk m c 3 t : Vec Ideal S256x128 .f32) (ix2 j0 j1) = V m c main_arg3 (ix2 ⟨t.val * 256 + j0.val, h⟩ j1) := by
  unfold iblk
  rw [View.read_apply]
  show V m c main_arg3 _ = V m c main_arg3 _
  congr 1
  funext a
  apply Fin.ext
  have hi := (idx t).2.2.2.1
  match a with
  | ⟨0, _⟩ => show win0_3.index t 0 * 256 + 1 * j0.val = _; rw [hi.1]; show _ = t.val * 256 + j0.val; omega
  | ⟨1, _⟩ => show win0_3.index t 1 * 128 + 1 * j1.val = _; rw [hi.2]; show _ = j1.val; omega

/-- Window 4's block at a point, read at an index. -/
theorem iblk4_apply (c : Dev nD) (t : Fin cfg0.N) (j1 : Fin 2048) :
    (iblk m c 4 t : Vec Ideal S1x2048 .f32) (ix2 0 j1) = V m c main_v7 (ix2 0 j1) := by
  unfold iblk
  rw [View.read_apply]
  show V m c main_v7 _ = V m c main_v7 _
  congr 1
  funext a
  apply Fin.ext
  have hi := (idx t).2.2.2.2.1
  match a with
  | ⟨0, _⟩ => show win0_4.index t 0 * 1 + 1 * 0 = _; rw [hi.1]; rfl
  | ⟨1, _⟩ => show win0_4.index t 1 * 2048 + 1 * j1.val = _; rw [hi.2]; show _ = j1.val; omega

/-- Window 5's block at a point, read at an index. -/
theorem iblk5_apply (c : Dev nD) (t : Fin cfg0.N) (j1 : Fin 2048) :
    (iblk m c 5 t : Vec Ideal S1x2048 .f32) (ix2 0 j1) = V m c main_v9 (ix2 0 j1) := by
  unfold iblk
  rw [View.read_apply]
  show V m c main_v9 _ = V m c main_v9 _
  congr 1
  funext a
  apply Fin.ext
  have hi := (idx t).2.2.2.2.2.1
  match a with
  | ⟨0, _⟩ => show win0_5.index t 0 * 1 + 1 * 0 = _; rw [hi.1]; rfl
  | ⟨1, _⟩ => show win0_5.index t 1 * 2048 + 1 * j1.val = _; rw [hi.2]; show _ = j1.val; omega

/-- The residual as launched. -/
abbrev res (c : Dev nD) : FVec Ideal S16384x2048 .f32 := m ((c : Thread nD τ).loc main_arg0)
/-- The experts' rows as launched. -/
abbrev ys (c : Dev nD) : FVec Ideal S40960x2048 .f32 := m ((c : Thread nD τ).loc main_arg1)
/-- Each token's two row numbers as launched. -/
abbrev dest (c : Dev nD) : IVec S16384x2 32 := m ((c : Thread nD τ).loc main_arg2)
/-- Each token's two weights as launched, in the first two columns. -/
abbrev wts (c : Dev nD) : FVec Ideal S16384x128 .f32 := m ((c : Thread nD τ).loc main_arg3)
/-- The layer norm's scale as launched. -/
abbrev lg (c : Dev nD) : FVec Ideal S1x2048 .f32 := m ((c : Thread nD τ).loc main_arg4)
/-- The layer norm's shift as launched. -/
abbrev lb (c : Dev nD) : FVec Ideal S1x2048 .f32 := m ((c : Thread nD τ).loc main_arg5)

/-- A list of row numbers as the gather takes it: a negative one counted from the end. -/
def idxs (d : IVec S16384 32) : IVec S16384x1 32 :=
  broadcastInDim S16384x1 ![0] bcast_S16384_S16384x1_0 (select (cmpi .slt d (broadcastInDim S16384 ![] bcast_S_S16384 (constantI S_ 32 0#32)))
    (addi d (broadcastInDim S16384 ![] bcast_S_S16384 (constantI S_ 32 40960#32))) d)

/-- Which row numbers name a row, entry by entry. -/
def fits (i : IVec S16384x1 32) : IVec S16384x1 1 :=
  andi (cmpi .sge i (broadcastInDim S16384x1 ![] bcast_S_S16384x1 (constantI S_ 32 0#32)))
    (cmpi .sle i (broadcastInDim S16384x1 ![0, 1] bcast_S1x1_S16384x1_0_1 (broadcastInDim S1x1 ![1] bcast_S1_S1x1_1 (constantI S1 32 40959#32))))

/-- The rows of a list of row numbers, a constant where a number names no row. -/
def rows (y : FVec Ideal S40960x2048 .f32) (d : IVec S16384 32) : FVec Ideal S16384x2048 .f32 :=
  select (broadcastInDim S16384x2048 ![0] bcast_S16384_S16384x2048_0 (Host.reduce IntOp.andi (fits (idxs d)) (constantI S_ 1 1#1) reducesTo_S16384x1_S16384_d1 h_S_))
    (Host.gather gather_S40960x2048_S16384x1_S16384x2048_1_0_n_n_0_1_12048 y (idxs d))
    (broadcastInDim S16384x2048 ![] bcast_S_S16384x2048 (constant S_ .f32 0x7FC00000#32))

/-- A row number in range is taken as it is. -/
theorem idxs_apply (d : IVec S16384 32) (n : Fin 16384) (h : InRange (d (ix1 n))) : idxs d (ix2 n (0 : Fin 1)) = d (ix1 n) := by
  have : idxs d (ix2 n (0 : Fin 1)) = Idealize.ShloMosaic.Scalar.select (IntOp.cmpi .slt (d (ix1 n)) 0#32) (IntOp.addi (d (ix1 n)) 40960#32) (d (ix1 n)) := by
    pointwise [idxs]
  exact this.trans (wrap h)

/-- A row number in range fits. -/
theorem fits_apply (d : IVec S16384 32) (n : Fin 16384) (h : InRange (d (ix1 n))) : fits (idxs d) (ix2 n (0 : Fin 1)) = 1#1 := by
  have : fits (idxs d) (ix2 n (0 : Fin 1)) = IntOp.andi (IntOp.cmpi .sge (idxs d (ix2 n (0 : Fin 1))) 0#32) (IntOp.cmpi .sle (idxs d (ix2 n (0 : Fin 1))) 40959#32) := by
    pointwise [fits]
  rw [this, idxs_apply d n h]
  refine (IntOp.andi_eq_one (c := _) (d := _)).2 ⟨IntOp.cmpi_sge.2 h.1, IntOp.cmpi_sle.2 ?_⟩
  show (d (ix1 n)).toInt ≤ 40959
  have := h.2
  omega

/-- The row a number in range names. -/
theorem rows_apply (y : FVec Ideal S40960x2048 .f32) (d : IVec S16384 32) (j0 : Fin 16384) (j1 : Fin 2048) (hd : ∀ n, InRange (d (ix1 n))) :
    rows y d (ix2 j0 j1) = y (ix2 (⟨(d (ix1 j0)).toNat, (hd j0).toNat⟩ : Fin 40960) j1) := by
  have hr : Host.reduce IntOp.andi (fits (idxs d)) (constantI S_ 1 1#1) reducesTo_S16384x1_S16384_d1 h_S_ (ix1 j0) = 1#1 := by
    refine Host.reduce_andi_one _ _ _ _ _ rfl fun i => ?_
    obtain ⟨a, b, rfl⟩ : ∃ (a : Fin 16384) (b : Fin 1), i = ix2 a b := by
      idx_vars i
      exact ⟨_, _, rfl⟩
    obtain rfl : b = 0 := Subsingleton.elim _ _
    exact fits_apply d a (hd a)
  have hs : rows y d (ix2 j0 j1) = Idealize.ShloMosaic.Scalar.select
      (Host.reduce IntOp.andi (fits (idxs d)) (constantI S_ 1 1#1) reducesTo_S16384x1_S16384_d1 h_S_ (ix1 j0))
      (Host.gather gather_S40960x2048_S16384x1_S16384x2048_1_0_n_n_0_1_12048 y (idxs d) (ix2 j0 j1)) (Ideal.ofBits FTy.f32 0x7FC00000#32) := by
    pointwise [rows]
  rw [hs, hr]
  refine (show Scalar.select 1#1 _ _ = _ from if_pos rfl).trans ?_
  refine Routing.gather_row gather_S40960x2048_S16384x1_S16384x2048_1_0_n_n_0_1_12048 rfl rfl rfl rfl rfl y (idxs d) j0 j1 _ ?_ (by decide)
  exact (idxs_apply d j0 (hd j0)).trans (by simp)

/-- The two columns of row numbers, as lists. -/
def col0 (d : IVec S16384x2 32) : IVec S16384 32 := shapeCast S16384 (extractStridedSlice S16384x1 ![0, 0] d slices_S16384x2_S16384x1_0_0) shapeCasts_S16384x1_S16384
def col1 (d : IVec S16384x2 32) : IVec S16384 32 := shapeCast S16384 (extractStridedSlice S16384x1 ![0, 1] d slices_S16384x2_S16384x1_0_1) shapeCasts_S16384x1_S16384

theorem col0_apply (d : IVec S16384x2 32) (j0 : Fin 16384) : col0 d (ix1 j0) = d (ix2 j0 0) := by pointwise [col0]
theorem col1_apply (d : IVec S16384x2 32) (j0 : Fin 16384) : col1 d (ix1 j0) = d (ix2 j0 1) := by pointwise [col1]

theorem V_y0 (c : Dev nD) : (V m c main_v2 : FVec Ideal S16384x2048 .f32) = rows (ys m c) (col0 (dest m c)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp
  simp only [StableHlo.TRef.toBuf, StableHlo.TRef.ofBuf, cast_eq]
  unfold rows fits idxs col0
  rfl

theorem V_y1 (c : Dev nD) : (V m c main_v5 : FVec Ideal S16384x2048 .f32) = rows (ys m c) (col1 (dest m c)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp
  simp only [StableHlo.TRef.toBuf, StableHlo.TRef.ofBuf, cast_eq]
  unfold rows fits idxs col1
  rfl

theorem V_lg (c : Dev nD) : (V m c main_v7 : FVec Ideal S1x2048 .f32)
    = shapeCast S1x2048 (shapeCast S2048 (lg m c) shapeCasts_S1x2048_S2048) shapeCasts_S2048_S1x2048 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp <;> rfl

theorem V_lb (c : Dev nD) : (V m c main_v9 : FVec Ideal S1x2048 .f32)
    = shapeCast S1x2048 (shapeCast S2048 (lb m c) shapeCasts_S1x2048_S2048) shapeCasts_S2048_S1x2048 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp <;> rfl

theorem lg_apply (c : Dev nD) (k : Fin 2048) : (V m c main_v7 : FVec Ideal S1x2048 .f32) (ix2 0 k) = lg m c (ix2 0 k) := by
  rw [V_lg]; pointwise
theorem lb_apply (c : Dev nD) (k : Fin 2048) : (V m c main_v9 : FVec Ideal S1x2048 .f32) (ix2 0 k) = lb m c (ix2 0 k) := by
  rw [V_lb]; pointwise

/-- The first row of a token, and the second, where the numbers are in range. -/
theorem y0_apply (c : Dev nD) (hd : ∀ j, InRange (dest m c j)) (r : Fin 16384) (k : Fin 2048) :
    (V m c main_v2 : FVec Ideal S16384x2048 .f32) (ix2 r k) = ys m c (ix2 (⟨(dest m c (ix2 r 0)).toNat, (hd _).toNat⟩ : Fin 40960) k) := by
  have hc : ∀ n, InRange (col0 (dest m c) (ix1 n)) := fun n => by rw [col0_apply]; exact hd _
  rw [V_y0]
  refine (rows_apply _ _ _ _ hc).trans ?_
  simp only [col0_apply]
theorem y1_apply (c : Dev nD) (hd : ∀ j, InRange (dest m c j)) (r : Fin 16384) (k : Fin 2048) :
    (V m c main_v5 : FVec Ideal S16384x2048 .f32) (ix2 r k) = ys m c (ix2 (⟨(dest m c (ix2 r 1)).toNat, (hd _).toNat⟩ : Fin 40960) k) := by
  have hc : ∀ n, InRange (col1 (dest m c) (ix1 n)) := fun n => by rw [col1_apply]; exact hd _
  rw [V_y1]
  refine (rows_apply _ _ _ _ hc).trans ?_
  simp only [col1_apply]

/-- What a point leaves in its block of the result, of the blocks it reads. -/
theorem block (x0 x1 x2 : Vec Ideal S256x2048 .f32) (x3 : Vec Ideal S256x128 .f32) (x4 x5 : Vec Ideal S1x2048 .f32) :
    out0_6 x0 x1 x2 x3 x4 x5 = k0_pay1 (View.ld x3 r0_0) (View.ld x3 r0_1) x1 x2 x0 x4 x5 := by
  unfold out0_6
  rw [View.canon_unit_zero hz]
  simp only [View.ld_unit_zero (S := S256x2048) hz, View.ld_unit_zero (S := S1x2048) hz]

/-- The two columns of weights of a block. -/
theorem w0_apply (x3 : Vec Ideal S256x128 .f32) (j0 : Fin 256) : (View.ld x3 r0_0 : FVec Ideal S256x1 .f32) (ix2 j0 0) = (x3 : FVec Ideal S256x128 .f32) (ix2 j0 0) := by
  show x3 _ = x3 _
  congr 1
  funext a
  apply Fin.ext
  match a with
  | ⟨0, _⟩ => show 0 + 1 * j0.val = j0.val; omega
  | ⟨1, _⟩ => rfl
theorem w1_apply (x3 : Vec Ideal S256x128 .f32) (j0 : Fin 256) : (View.ld x3 r0_1 : FVec Ideal S256x1 .f32) (ix2 j0 0) = (x3 : FVec Ideal S256x128 .f32) (ix2 j0 1) := by
  show x3 _ = x3 _
  congr 1
  funext a
  apply Fin.ext
  match a with
  | ⟨0, _⟩ => show 0 + 1 * j0.val = j0.val; omega
  | ⟨1, _⟩ => rfl

/-- Every element of the result: the layer norm of the row of scaled residual plus weighted rows. -/
theorem value (c : Dev nD) (hd : ∀ j, InRange (dest m c j)) (i0 : Fin 16384) (i1 : Fin 2048) :
    ((dats m 0 c).arrAt 6 cfg0.N : FVec Ideal S16384x2048 .f32) (ix2 i0 i1)
      = normAt (fun j => sumAt (res m c (ix2 i0 j)) (wts m c (ix2 i0 0)) (wts m c (ix2 i0 1))
          (ys m c (ix2 (⟨(dest m c (ix2 i0 0)).toNat, (hd _).toNat⟩ : Fin 40960) j)) (ys m c (ix2 (⟨(dest m c (ix2 i0 1)).toNat, (hd _).toNat⟩ : Fin 40960) j)))
        (lg m c (ix2 0 i1)) (lb m c (ix2 0 i1)) i1 := by
  have hN : cfg0.N = 64 := N_0
  have hi0 := i0.isLt
  obtain ⟨t, ht⟩ : ∃ t : Fin cfg0.N, t.val = i0.val / 256 := ⟨⟨i0.val / 256, by omega⟩, rfl⟩
  have hf : (cfg0.win 6).flush t = true := (by decide +kernel : ∀ t : Fin grid0.N, win0_6.flush t = true) t
  have hb := Cert.CombIdeal.Value.blocks6 m c t hf
  rw [Cert.CombIdeal.Value.flushed6, block] at hb
  have hh : t.val * 256 + i0.val % 256 < 16384 := by omega
  have e0 : (⟨t.val * 256 + i0.val % 256, hh⟩ : Fin 16384) = i0 := Fin.ext (by show t.val * 256 + i0.val % 256 = i0.val; omega)
  have hx := congrFun hb (ix2 ⟨i0.val % 256, Nat.mod_lt _ (by decide)⟩ i1)
  rw [View.read_apply] at hx
  have he : ((cfg0.win 6).blk t).view.emb (ix2 ⟨i0.val % 256, Nat.mod_lt _ (by decide)⟩ i1 : S256x2048.Idx) = (ix2 i0 i1 : S16384x2048.Idx) := by
    funext a
    apply Fin.ext
    have hi := (idx t).2.2.2.2.2.2
    match a with
    | ⟨0, _⟩ => show win0_6.index t 0 * 256 + 1 * (i0.val % 256) = i0.val; rw [hi.1]; omega
    | ⟨1, _⟩ => show win0_6.index t 1 * 2048 + 1 * i1.val = i1.val; rw [hi.2]; omega
  rw [he] at hx
  refine hx.trans ?_
  show k0_pay1 (F := Ideal) _ _ _ _ _ _ _ (ix2 ⟨i0.val % 256, Nat.mod_lt _ (by decide)⟩ i1) = _
  refine (pay_apply _ _ _ _ _ _ _ _ _).trans ?_
  have hrow : ∀ (row row' : Fin 2048 → EReal) (g g' b b' : EReal), row = row' → g = g' → b = b' → normAt row g b i1 = normAt row' g' b' i1 := by
    intro row row' g g' b b' h1 h2 h3
    rw [h1, h2, h3]
  have hsum : ∀ (h h' w0 w0' w1 w1' y0 y0' y1 y1' : EReal), h = h' → w0 = w0' → w1 = w1' → y0 = y0' → y1 = y1' →
      sumAt h w0 w1 y0 y1 = sumAt h' w0' w1' y0' y1' := by
    intro h h' w0 w0' w1 w1' y0 y0' y1 y1' h1 h2 h3 h4 h5
    rw [h1, h2, h3, h4, h5]
  have er : ∀ {n : ℕ} (X : Fin 16384 → Fin n → EReal) (q : Fin n), X ⟨t.val * 256 + i0.val % 256, hh⟩ q = X i0 q := fun X q => by rw [e0]
  refine hrow _ _ _ _ _ _ (funext fun j => hsum _ _ _ _ _ _ _ _ _ _ ?_ ?_ ?_ ?_ ?_) ?_ ?_
  · exact (iblk0_apply m c t ⟨i0.val % 256, Nat.mod_lt _ (by decide)⟩ j hh).trans
      ((congrFun (V_main_arg0 m c) _).trans (er (fun r q => res m c (ix2 r q)) _))
  · exact (w0_apply _ _).trans ((iblk3_apply m c t ⟨i0.val % 256, Nat.mod_lt _ (by decide)⟩ 0 hh).trans
      ((congrFun (V_main_arg3 m c) _).trans (er (fun r q => wts m c (ix2 r q)) _)))
  · exact (w1_apply _ _).trans ((iblk3_apply m c t ⟨i0.val % 256, Nat.mod_lt _ (by decide)⟩ 1 hh).trans
      ((congrFun (V_main_arg3 m c) _).trans (er (fun r q => wts m c (ix2 r q)) _)))
  · exact (iblk1_apply m c t ⟨i0.val % 256, Nat.mod_lt _ (by decide)⟩ j hh).trans
      ((y0_apply m c hd _ j).trans (er (fun r q => ys m c (ix2 (⟨(dest m c (ix2 r 0)).toNat, (hd _).toNat⟩ : Fin 40960) q)) _))
  · exact (iblk2_apply m c t ⟨i0.val % 256, Nat.mod_lt _ (by decide)⟩ j hh).trans
      ((y1_apply m c hd _ j).trans (er (fun r q => ys m c (ix2 (⟨(dest m c (ix2 r 1)).toNat, (hd _).toNat⟩ : Fin 40960) q)) _))
  · exact (iblk4_apply m c t i1).trans (lg_apply m c i1)
  · exact (iblk5_apply m c t i1).trans (lb_apply m c i1)

end Cert.CombIdeal.Hand
-- ==== Proof.CombRefValue.lean ====
/-
  What the plain combination of the experts' rows computes, read at an index.
-/
module

public import proofs.«01_k».proof.Defs
public import proofs.«01_k».proof.Proof.CombSpec
public import proofs.«01_k».proof.Proof.Gen.CombRefIdeal.Run
public import Idealize.ShloMosaic.Lib.Pointwise
public import Idealize.ShloMosaic.Lib.Routing.Ops

@[expose] public section

set_option maxRecDepth 16384

noncomputable section

open Idealize.ShloMosaic Idealize.ShloMosaic.TcCoe Idealize.SL.Sem

namespace Cert.CombRefIdeal.Hand

open Cert.CombRefIdeal Cert.CombRefIdeal.Gen Cert.Proof.MergeSpec Cert.Proof.CombSpec

/-- A column of row numbers as the gathers take it: a negative one counted from the end. -/
def idxs (d : IVec S16384x1 32) : IVec S16384x1 32 :=
  broadcastInDim S16384x1 ![0] bcast_S16384_S16384x1_0
    (select (cmpi .slt (shapeCast S16384 d shapeCasts_S16384x1_S16384) (broadcastInDim S16384 ![] bcast_S_S16384 (constantI S_ 32 0#32)))
      (addi (shapeCast S16384 d shapeCasts_S16384x1_S16384) (broadcastInDim S16384 ![] bcast_S_S16384 (constantI S_ 32 40960#32)))
      (shapeCast S16384 d shapeCasts_S16384x1_S16384))

/-- The rows of a column of row numbers. -/
def rows (y : FVec Ideal S40960x2048 .f32) (d : IVec S16384x1 32) : FVec Ideal S16384x2048 .f32 :=
  Host.gather gather_S40960x2048_S16384x1_S16384x2048_1_0_n_n_0_1_12048 y (idxs d)

/-- A column of weights times an array of rows. -/
def scaled (w : FVec Ideal S16384x1 .f32) (y : FVec Ideal S16384x2048 .f32) : FVec Ideal S16384x2048 .f32 :=
  mulf (broadcastInDim S16384x2048 ![0, 1] bcast_S16384x1_S16384x2048_0_1 w) y

/-- The scaled residual plus the two weighted arrays of rows. -/
def mix (h : FVec Ideal S16384x2048 .f32) (w : FVec Ideal S16384x128 .f32) (y0 y1 : FVec Ideal S16384x2048 .f32) : FVec Ideal S16384x2048 .f32 :=
  addf (mulf (broadcastInDim S16384x2048 ![] bcast_S_S16384x2048 (constant S_ .f32 0x3F9837F0#32)) h)
    (addf (scaled (extractStridedSlice S16384x1 ![0, 0] w slices_S16384x128_S16384x1_0_0) y0)
      (scaled (extractStridedSlice S16384x1 ![0, 1] w slices_S16384x128_S16384x1_0_1) y1))

/-- The mean of each row, as a column. -/
def mu (x : FVec Ideal S16384x2048 .f32) : FVec Ideal S16384x1 .f32 :=
  Host.divf (broadcastInDim S16384x1 ![0] bcast_S16384_S16384x1_0
    (Host.reduceAdd x (constant S_ .f32 0x00000000#32) reducesTo_S16384x2048_S16384_d1 h_S_))
    (broadcastInDim S16384x1 ![] bcast_S_S16384x1 (constant S_ .f32 0x45000000#32))

/-- Each row less its mean. -/
def cen (x : FVec Ideal S16384x2048 .f32) : FVec Ideal S16384x2048 .f32 :=
  subf x (broadcastInDim S16384x2048 ![0, 1] bcast_S16384x1_S16384x2048_0_1 (mu x))

/-- The layer norm of each row. -/
def norm (x : FVec Ideal S16384x2048 .f32) (g b : FVec Ideal S1x2048 .f32) : FVec Ideal S16384x2048 .f32 :=
  addf (mulf (mulf (cen x) (broadcastInDim S16384x2048 ![0, 1] bcast_S16384x1_S16384x2048_0_1
      (Host.rsqrt (addf (mu (mulf (cen x) (cen x))) (broadcastInDim S16384x1 ![] bcast_S_S16384x1 (constant S_ .f32 0x3727C5AC#32))))))
      (broadcastInDim S16384x2048 ![0, 1] bcast_S1x2048_S16384x2048_0_1 (broadcastInDim S1x2048 ![1] bcast_S2048_S1x2048_1 (shapeCast _ g shapeCasts_S1x2048_S2048))))
    (broadcastInDim S16384x2048 ![0, 1] bcast_S1x2048_S16384x2048_0_1 (broadcastInDim S1x2048 ![1] bcast_S2048_S1x2048_1 (shapeCast _ b shapeCasts_S1x2048_S2048)))

/-- The two columns of row numbers. -/
def col0 (d : IVec S16384x2 32) : IVec S16384x1 32 := extractStridedSlice S16384x1 ![0, 0] d slices_S16384x2_S16384x1_0_0
def col1 (d : IVec S16384x2 32) : IVec S16384x1 32 := extractStridedSlice S16384x1 ![0, 1] d slices_S16384x2_S16384x1_0_1

/-- The reference's result is the layer norm of the mix. -/
theorem res_eq (m : (ℓ : Loc nD τ sig) → Buf (Elt Ideal) ℓ) (c : Dev nD) :
    Cert.CombRefIdeal.Value.res_out0 m c
      = norm (mix (m ((c.tc : Thread nD τ).loc main_arg0)) (m ((c.tc : Thread nD τ).loc main_arg3))
          (rows (m ((c.tc : Thread nD τ).loc main_arg1)) (col0 (m ((c.tc : Thread nD τ).loc main_arg2))))
          (rows (m ((c.tc : Thread nD τ).loc main_arg1)) (col1 (m ((c.tc : Thread nD τ).loc main_arg2)))))
        (m ((c.tc : Thread nD τ).loc main_arg4)) (m ((c.tc : Thread nD τ).loc main_arg5)) := by
  unfold Cert.CombRefIdeal.Value.res_out0 Cert.CombRefIdeal.Value.res_main_v53 norm cen mu mix scaled rows idxs col0 col1
  rfl

/-- The layer norm at an index. -/
theorem norm_apply (x : FVec Ideal S16384x2048 .f32) (g b : FVec Ideal S1x2048 .f32) (j0 : Fin 16384) (j1 : Fin 2048) :
    norm x g b (ix2 j0 j1) = normAt (fun k => x (ix2 j0 k)) (g (ix2 0 j1)) (b (ix2 0 j1)) j1 := by
  pointwise [norm, cen, mu, normAt, meanOf]

/-- The mix at an index. -/
theorem mix_apply (h : FVec Ideal S16384x2048 .f32) (w : FVec Ideal S16384x128 .f32) (y0 y1 : FVec Ideal S16384x2048 .f32) (j0 : Fin 16384) (j1 : Fin 2048) :
    mix h w y0 y1 (ix2 j0 j1) = sumAt (h (ix2 j0 j1)) (w (ix2 j0 0)) (w (ix2 j0 1)) (y0 (ix2 j0 j1)) (y1 (ix2 j0 j1)) := by
  pointwise [mix, scaled, sumAt]

theorem col0_apply (d : IVec S16384x2 32) (j0 : Fin 16384) : col0 d (ix2 j0 0) = d (ix2 j0 0) := by pointwise [col0]
theorem col1_apply (d : IVec S16384x2 32) (j0 : Fin 16384) : col1 d (ix2 j0 0) = d (ix2 j0 1) := by pointwise [col1]

/-- A row number in range is taken as it is. -/
theorem idxs_apply (d : IVec S16384x1 32) (n : Fin 16384) (h : InRange (d (ix2 n 0))) : idxs d (ix2 n (0 : Fin 1)) = d (ix2 n 0) := by
  have : idxs d (ix2 n (0 : Fin 1)) = Idealize.ShloMosaic.Scalar.select (IntOp.cmpi .slt (d (ix2 n 0)) 0#32) (IntOp.addi (d (ix2 n 0)) 40960#32) (d (ix2 n 0)) := by
    pointwise [idxs]
  exact this.trans (wrap h)

/-- The row a number in range names. -/
theorem rows_apply (y : FVec Ideal S40960x2048 .f32) (d : IVec S16384x1 32) (j0 : Fin 16384) (j1 : Fin 2048) (h : InRange (d (ix2 j0 0))) :
    rows y d (ix2 j0 j1) = y (ix2 (⟨(d (ix2 j0 0)).toNat, h.toNat⟩ : Fin 40960) j1) := by
  refine Routing.gather_row gather_S40960x2048_S16384x1_S16384x2048_1_0_n_n_0_1_12048 rfl rfl rfl rfl rfl y (idxs d) j0 j1 _ ?_ (by decide)
  exact (idxs_apply d j0 h).trans (by simp)

end Cert.CombRefIdeal.Hand
-- ==== Proof.CombClaim.lean ====
/-
  The combination's claim: where the row numbers are in range, the kernel's result is the plain layer norm of the scaled
  residual plus the weighted rows.
-/
module

public import proofs.«01_k».proof.Proof.CombValue
public import proofs.«01_k».proof.Proof.CombRefValue

@[expose] public section

set_option maxRecDepth 16384

noncomputable section

open Idealize.ShloMosaic Idealize.ShloMosaic.TcCoe Idealize.SL.Sem

namespace Cert.Proof.CombClaim

open Cert.Proof.CombSpec

/-- The kernel and the plain combination end with the same result and leave their arguments alone. -/
theorem algebraic : Cert.algebraic_CombIdeal_CombRefIdeal_pre_rows_in_range := by
  intro m ρ m' ρ' hp hag
  refine ⟨fun c => (Cert.CombIdeal.Gen.dats m 0 c).arrAt 6 Cert.CombIdeal.cfg0.N,
    Cert.CombIdeal.Value.run_blocks m ρ,
    (θ_run _ _ _).mono (fun r h c => ?_) (Cert.CombRefIdeal.Value.run m' ρ')⟩
  obtain ⟨h0, h1⟩ := h c
  refine ⟨?_, h1⟩
  refine (h0.trans (Cert.CombRefIdeal.Hand.res_eq m' c)).trans ?_
  rw [(hag c).1, (hag c).2.1, (hag c).2.2.1, (hag c).2.2.2.1, (hag c).2.2.2.2.1, (hag c).2.2.2.2.2]
  have hd : ∀ j, InRange (Cert.CombIdeal.Hand.dest m c j) := fun j => in_range _ _ _ _ _ _ (hp c) j
  funext i
  obtain ⟨i0, i1, rfl⟩ : ∃ (a : Fin 16384) (b : Fin 2048), i = ix2 a b := by
    idx_vars i
    exact ⟨_, _, rfl⟩
  refine (Cert.CombRefIdeal.Hand.norm_apply _ _ _ i0 i1).trans (Eq.trans ?_ (Cert.CombIdeal.Hand.value m c hd i0 i1).symm)
  have h0 : InRange (Cert.CombRefIdeal.Hand.col0 (Cert.CombIdeal.Hand.dest m c) (ix2 i0 0)) := by rw [Cert.CombRefIdeal.Hand.col0_apply]; exact hd _
  have h1 : InRange (Cert.CombRefIdeal.Hand.col1 (Cert.CombIdeal.Hand.dest m c) (ix2 i0 0)) := by rw [Cert.CombRefIdeal.Hand.col1_apply]; exact hd _
  have hrow : ∀ (row row' : Fin 2048 → EReal) (g b : EReal), row = row' → Cert.Proof.MergeSpec.normAt row g b i1 = Cert.Proof.MergeSpec.normAt row' g b i1 := by
    intro row row' g b h
    rw [h]
  have hsum : ∀ (h w0 w1 y0 y0' y1 y1' : EReal), y0 = y0' → y1 = y1' → sumAt h w0 w1 y0 y1 = sumAt h w0 w1 y0' y1' := by
    intro h w0 w1 y0 y0' y1 y1' h1 h2
    rw [h1, h2]
  refine hrow _ _ _ _ (funext fun k => (Cert.CombRefIdeal.Hand.mix_apply _ _ _ _ i0 k).trans (hsum _ _ _ _ _ _ _
    ((Cert.CombRefIdeal.Hand.rows_apply _ _ i0 k h0).trans ?_) ((Cert.CombRefIdeal.Hand.rows_apply _ _ i0 k h1).trans ?_)))
  · simp only [Cert.CombRefIdeal.Hand.col0_apply]
  · simp only [Cert.CombRefIdeal.Hand.col1_apply]

end Cert.Proof.CombClaim
-- ==== Proof.lean ====
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Frame.Runs
public import proofs.«01_k».proof.Proof.Gen.ReferenceIdeal
public import proofs.«01_k».proof.Proof.Gen.ReferenceIdeal.Run
public import proofs.«01_k».proof.Proof.HgrnBits
public import proofs.«01_k».proof.Proof.HgrnClaim
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.ProjClaim
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.MergeClaim
public import proofs.«01_k».proof.Proof.Gen.Moe
public import proofs.«01_k».proof.Proof.Gen.Moe.Launch
public import proofs.«01_k».proof.Proof.Gen.MoeIdeal
public import proofs.«01_k».proof.Proof.Gen.MoeIdeal.Launch
public import proofs.«01_k».proof.Proof.Gen.MoeRefIdeal
public import proofs.«01_k».proof.Proof.Gen.MoeRefIdeal.Run
public import proofs.«01_k».proof.Proof.Gen.Pre_experts_in_range
public import proofs.«01_k».proof.Proof.MoeClaim
public import proofs.«01_k».proof.Proof.Gen.Comb
public import proofs.«01_k».proof.Proof.Gen.Comb.Frame
public import proofs.«01_k».proof.Proof.Gen.CombIdeal
public import proofs.«01_k».proof.Proof.Gen.CombIdeal.Frame
public import proofs.«01_k».proof.Proof.Gen.CombRefIdeal
public import proofs.«01_k».proof.Proof.Gen.CombIdeal.Value
public import proofs.«01_k».proof.Proof.Gen.CombRefIdeal.Run
public import proofs.«01_k».proof.Proof.Gen.Pre_rows_in_range
public import proofs.«01_k».proof.Proof.CombClaim
public import Idealize.ShloMosaic.Lib.Claim
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Proj.Gen.facts, Cert.ProjIdeal.Gen.facts, Cert.ProjRefIdeal.Gen.facts,
  Cert.Merge.Gen.facts, Cert.MergeIdeal.Gen.facts, Cert.MergeRefIdeal.Gen.facts,
  Cert.Moe.Gen.facts, Cert.MoeIdeal.Gen.facts, Cert.MoeRefIdeal.Gen.facts,
  Cert.Comb.Gen.facts, Cert.CombIdeal.Gen.facts, Cert.CombRefIdeal.Gen.facts, Cert.Pre_experts_in_range.Gen.facts, Cert.Pre_rows_in_range.Gen.facts,
  Cert.Kernel.Hand.frame,
  fun m ρ _ => Cert.KernelIdeal.Hand.frame (F := Ideal) m ρ,
  HgrnClaim.refFrame,
  fun m ρ _ => Cert.Proj.Gen.frame m ρ,
  fun m ρ _ => Cert.ProjIdeal.Gen.frame m ρ,
  fun m ρ _ => (θ_run Cert.ProjRefIdeal.defs _ _).mono (fun r h => ⟨fun c => (h c).2, sem_eq_zero_of_no_sems (by decide) r.2⟩)
    (Cert.ProjRefIdeal.Value.run (F := Ideal) m ρ),
  fun m ρ _ => Cert.Merge.Gen.frame m ρ,
  fun m ρ _ => Cert.MergeIdeal.Gen.frame m ρ,
  fun m ρ _ => (θ_run Cert.MergeRefIdeal.defs _ _).mono (fun r h => ⟨fun c => (h c).2, sem_eq_zero_of_no_sems (by decide) r.2⟩)
    (Cert.MergeRefIdeal.Value.run (F := Ideal) m ρ),
  Cert.MoeIdeal.Hand.kframe,
  Cert.MoeIdeal.Hand.iframe,
  fun m ρ _ => (θ_run Cert.MoeRefIdeal.defs _ _).mono (fun r h => ⟨fun c => (h c).2, sem_eq_zero_of_no_sems (by decide) r.2⟩)
    (Cert.MoeRefIdeal.Value.run (F := Ideal) m ρ),
  fun m ρ _ => (θ_run Cert.MoeRefIdeal.defs _ _).mono (fun r h => ⟨fun c => (h c).2, sem_eq_zero_of_no_sems (by decide) r.2⟩)
    (Cert.MoeRefIdeal.Value.run (F := Ideal) m ρ),
  fun m ρ _ => Cert.Comb.Gen.frame m ρ,
  fun m ρ _ => Cert.CombIdeal.Gen.frame m ρ,
  fun m ρ _ => Cert.CombIdeal.Gen.frame m ρ,
  fun m ρ _ => (θ_run Cert.CombRefIdeal.defs _ _).mono (fun r h => ⟨fun c => (h c).2, sem_eq_zero_of_no_sems (by decide) r.2⟩)
    (Cert.CombRefIdeal.Value.run (F := Ideal) m ρ),
  fun m ρ _ => (θ_run Cert.CombRefIdeal.defs _ _).mono (fun r h => ⟨fun c => (h c).2, sem_eq_zero_of_no_sems (by decide) r.2⟩)
    (Cert.CombRefIdeal.Value.run (F := Ideal) m ρ),
  trivial,
  HgrnClaim.algebraic,
  trivial,
  ProjClaim.algebraic,
  trivial,
  MergeClaim.algebraic,
  trivial,
  MoeClaim.algebraic,
  trivial,
  CombClaim.algebraic⟩

end Cert.Proof

end
